-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_in_range_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32768x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S_ : Shape := ⟨0, ![]⟩
abbrev S2048x1024 : Shape := ⟨2, ![2048, 1024]⟩
abbrev S512x1024 : Shape := ⟨2, ![512, 1024]⟩
abbrev S8 : Shape := ⟨1, ![8]⟩
abbrev S4 : Shape := ⟨1, ![4]⟩
abbrev S32 : Shape := ⟨1, ![32]⟩
abbrev S1 : Shape := ⟨1, ![1]⟩
abbrev S1x1024 : Shape := ⟨2, ![1, 1024]⟩
abbrev S64x1024 : Shape := ⟨2, ![64, 1024]⟩

abbrev nBuf : Space → Nat
  | .hbm => 13
  | .vmem => 7
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048x1024, .bf16⟩
  | .local _ .vmem, ⟨0, _⟩ => ⟨S512x1024, .f32⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  (ofTc nBuf bufTy 1 105 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v34 : BitVec 32 := Scalar.muli v10 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
@[reducible] def k0_t1_loop : Scf.Loop 32 :=
  let c0_i32_30 : BitVec 32 := 0#32
  let c32_i32 : BitVec 32 := 32#32
  let v48 : BitVec 32 := Scalar.addi c0_i32_30 c32_i32
  let c1_i32_31 : BitVec 32 := 1#32
  ⟨c0_i32_30, v48, c1_i32_31⟩
def k0_off1 (d0 : Dev nD) (k0_t1 : Fin k0_t1_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c0_i32_1332 : BitVec 32 := 0#32
  let v1361 : BitVec 32 := Scalar.addi v24 c0_i32_1332
  let c2_i32_1331 : BitVec 32 := 2#32
  let c0_i32_30 : BitVec 32 := 0#32
  let c1_i32_31 : BitVec 32 := 1#32
  let arg22 : BitVec 32 := Scf.iv c0_i32_30 c1_i32_31 k0_t1
  let v1360 : BitVec 32 := Scalar.muli c2_i32_1331 arg22
  let v1362 : BitVec 32 := Scalar.addi v1361 v1360
  let v1363 : Index := Scalar.indexCast v1362
  ![v1363.toNat]
def k0_off2 (k0_t1 : Fin k0_t1_loop.trips) : Fin 2 → Nat :=
  let c0_i32_1344 : BitVec 32 := 0#32
  let c2_i32_1331 : BitVec 32 := 2#32
  let c0_i32_30 : BitVec 32 := 0#32
  let c1_i32_31 : BitVec 32 := 1#32
  let arg22 : BitVec 32 := Scf.iv c0_i32_30 c1_i32_31 k0_t1
  let v1360 : BitVec 32 := Scalar.muli c2_i32_1331 arg22
  let v1389 : BitVec 32 := Scalar.addi c0_i32_1344 v1360
  let c0_i32_1346 : BitVec 32 := 0#32
  ![v1389.toNat, 0]
def k0_off3 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond1 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk1 (v1364 : BitVec 32) : Prop :=
  (∀ (k0_h1 : k0_cond1 v1364 = 1#1), ∀ a, (k0_off3 v1364) a + S1x1024.size a ≤ S16384x1024.size a)
theorem k0_off3_inb : ∀ (v1364 : BitVec 32) (k0_hw1 : k0_chk1 v1364), ∀ (k0_h1 : k0_cond1 v1364 = 1#1), ∀ a, (k0_off3 v1364) a + S1x1024.size a ≤ S16384x1024.size a := fun v1364 k0_hw1 k0_h1 => k0_hw1 k0_h1

def k0_off4 (d0 : Dev nD) (k0_t1 : Fin k0_t1_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c0_i32_1338 : BitVec 32 := 0#32
  let v1376 : BitVec 32 := Scalar.addi v24 c0_i32_1338
  let c2_i32_1336 : BitVec 32 := 2#32
  let c0_i32_30 : BitVec 32 := 0#32
  let c1_i32_31 : BitVec 32 := 1#32
  let arg22 : BitVec 32 := Scf.iv c0_i32_30 c1_i32_31 k0_t1
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off5 (k0_t1 : Fin k0_t1_loop.trips) : Fin 2 → Nat :=
  let c0_i32_1344 : BitVec 32 := 0#32
  let c2_i32_1336 : BitVec 32 := 2#32
  let c0_i32_30 : BitVec 32 := 0#32
  let c1_i32_31 : BitVec 32 := 1#32
  let arg22 : BitVec 32 := Scf.iv c0_i32_30 c1_i32_31 k0_t1
  let v1374 : BitVec 32 := Scalar.muli c2_i32_1336 arg22
  let c1_i32_1337 : BitVec 32 := 1#32
  let v1375 : BitVec 32 := Scalar.addi v1374 c1_i32_1337
  let v1389 : BitVec 32 := Scalar.addi c0_i32_1344 v1375
  let c0_i32_1346 : BitVec 32 := 0#32
  ![v1389.toNat, 0]
def k0_off6 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond2 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk2 (v1379 : BitVec 32) : Prop :=
  (∀ (k0_h2 : k0_cond2 v1379 = 1#1), ∀ a, (k0_off6 v1379) a + S1x1024.size a ≤ S16384x1024.size a)
theorem k0_off6_inb : ∀ (v1379 : BitVec 32) (k0_hw2 : k0_chk2 v1379), ∀ (k0_h2 : k0_cond2 v1379 = 1#1), ∀ a, (k0_off6 v1379) a + S1x1024.size a ≤ S16384x1024.size a := fun v1379 k0_hw2 k0_h2 => k0_hw2 k0_h2

@[reducible] def k0_t2_loop (v49 : BitVec 32) : Scf.Loop 32 :=
  let c0_i32_33 : BitVec 32 := 0#32
  let v50 : BitVec 32 := Scalar.subi v49 c0_i32_33
  let c1_i32_35 : BitVec 32 := 1#32
  let v52 : BitVec 32 := Scalar.divsi v50 c1_i32_35
  let v53 : BitVec 32 := Scalar.muli v52 c1_i32_35
  let v54 : BitVec 32 := Scalar.addi c0_i32_33 v53
  let c1_i32_36 : BitVec 32 := 1#32
  ⟨c0_i32_33, v54, c1_i32_36⟩

@[reducible] def k0_t3_loop (v49 : BitVec 32) : Scf.Loop 32 :=
  let c0_i32_33 : BitVec 32 := 0#32
  let v50 : BitVec 32 := Scalar.subi v49 c0_i32_33
  let c1_i32_35 : BitVec 32 := 1#32
  let v52 : BitVec 32 := Scalar.divsi v50 c1_i32_35
  let v53 : BitVec 32 := Scalar.muli v52 c1_i32_35
  let v54 : BitVec 32 := Scalar.addi c0_i32_33 v53
  let v51 : BitVec 32 := Scalar.addi c0_i32_33 v50
  let c1_i32_37 : BitVec 32 := 1#32
  ⟨v54, v51, c1_i32_37⟩

def k0_chk3 (v49 : BitVec 32) : Prop :=
  ((k0_t2_loop v49).OK) ∧
  ((k0_t3_loop v49).OK)
theorem k0_t2_ok : ∀ (v49 : BitVec 32) (k0_hw3 : k0_chk3 v49), (k0_t2_loop v49).OK := fun v49 k0_hw3 => k0_hw3.1
theorem k0_t3_ok : ∀ (v49 : BitVec 32) (k0_hw3 : k0_chk3 v49), (k0_t3_loop v49).OK := fun v49 k0_hw3 => k0_hw3.2

def k0_dev4 (d0 : Dev nD) : Nat :=
  let c0_i32_45 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_44 : BitVec 32 := 4#32
  let v62 : BitVec 32 := Scalar.muli v9 c4_i32_44
  let v63 : BitVec 32 := Scalar.addi c0_i32_45 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v64 : BitVec 32 := Scalar.muli v5 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
@[reducible] def k0_t4_loop : Scf.Loop 32 :=
  let c0_i32_53 : BitVec 32 := 0#32
  let c32_i32_54 : BitVec 32 := 32#32
  let v74 : BitVec 32 := Scalar.addi c0_i32_53 c32_i32_54
  let c1_i32_55 : BitVec 32 := 1#32
  ⟨c0_i32_53, v74, c1_i32_55⟩
def k0_off7 (d0 : Dev nD) (k0_t4 : Fin k0_t4_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c64_i32_1332 : BitVec 32 := 64#32
  let v1361 : BitVec 32 := Scalar.addi v24 c64_i32_1332
  let c2_i32_1331 : BitVec 32 := 2#32
  let c0_i32_53 : BitVec 32 := 0#32
  let c1_i32_55 : BitVec 32 := 1#32
  let arg22 : BitVec 32 := Scf.iv c0_i32_53 c1_i32_55 k0_t4
  let v1360 : BitVec 32 := Scalar.muli c2_i32_1331 arg22
  let v1362 : BitVec 32 := Scalar.addi v1361 v1360
  let v1363 : Index := Scalar.indexCast v1362
  ![v1363.toNat]
def k0_off8 (k0_t4 : Fin k0_t4_loop.trips) : Fin 2 → Nat :=
  let c64_i32_1344 : BitVec 32 := 64#32
  let c2_i32_1331 : BitVec 32 := 2#32
  let c0_i32_53 : BitVec 32 := 0#32
  let c1_i32_55 : BitVec 32 := 1#32
  let arg22 : BitVec 32 := Scf.iv c0_i32_53 c1_i32_55 k0_t4
  let v1360 : BitVec 32 := Scalar.muli c2_i32_1331 arg22
  let v1389 : BitVec 32 := Scalar.addi c64_i32_1344 v1360
  let c0_i32_1346 : BitVec 32 := 0#32
  ![v1389.toNat, 0]
def k0_off9 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond3 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk4 (v1364 : BitVec 32) : Prop :=
  (∀ (k0_h3 : k0_cond3 v1364 = 1#1), ∀ a, (k0_off9 v1364) a + S1x1024.size a ≤ S16384x1024.size a)
theorem k0_off9_inb : ∀ (v1364 : BitVec 32) (k0_hw4 : k0_chk4 v1364), ∀ (k0_h3 : k0_cond3 v1364 = 1#1), ∀ a, (k0_off9 v1364) a + S1x1024.size a ≤ S16384x1024.size a := fun v1364 k0_hw4 k0_h3 => k0_hw4 k0_h3

def k0_off10 (d0 : Dev nD) (k0_t4 : Fin k0_t4_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c64_i32_1338 : BitVec 32 := 64#32
  let v1376 : BitVec 32 := Scalar.addi v24 c64_i32_1338
  let c2_i32_1336 : BitVec 32 := 2#32
  let c0_i32_53 : BitVec 32 := 0#32
  let c1_i32_55 : BitVec 32 := 1#32
  let arg22 : BitVec 32 := Scf.iv c0_i32_53 c1_i32_55 k0_t4
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off11 (k0_t4 : Fin k0_t4_loop.trips) : Fin 2 → Nat :=
  let c64_i32_1344 : BitVec 32 := 64#32
  let c2_i32_1336 : BitVec 32 := 2#32
  let c0_i32_53 : BitVec 32 := 0#32
  let c1_i32_55 : BitVec 32 := 1#32
  let arg22 : BitVec 32 := Scf.iv c0_i32_53 c1_i32_55 k0_t4
  let v1374 : BitVec 32 := Scalar.muli c2_i32_1336 arg22
  let c1_i32_1337 : BitVec 32 := 1#32
  let v1375 : BitVec 32 := Scalar.addi v1374 c1_i32_1337
  let v1389 : BitVec 32 := Scalar.addi c64_i32_1344 v1375
  let c0_i32_1346 : BitVec 32 := 0#32
  ![v1389.toNat, 0]
def k0_off12 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond4 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk5 (v1379 : BitVec 32) : Prop :=
  (∀ (k0_h4 : k0_cond4 v1379 = 1#1), ∀ a, (k0_off12 v1379) a + S1x1024.size a ≤ S16384x1024.size a)
theorem k0_off12_inb : ∀ (v1379 : BitVec 32) (k0_hw5 : k0_chk5 v1379), ∀ (k0_h4 : k0_cond4 v1379 = 1#1), ∀ a, (k0_off12 v1379) a + S1x1024.size a ≤ S16384x1024.size a := fun v1379 k0_hw5 k0_h4 => k0_hw5 k0_h4

@[reducible] def k0_t5_loop (v75 : BitVec 32) : Scf.Loop 32 :=
  let c0_i32_57 : BitVec 32 := 0#32
  let v76 : BitVec 32 := Scalar.subi v75 c0_i32_57
  let c1_i32_59 : BitVec 32 := 1#32
  let v78 : BitVec 32 := Scalar.divsi v76 c1_i32_59
  let v79 : BitVec 32 := Scalar.muli v78 c1_i32_59
  let v80 : BitVec 32 := Scalar.addi c0_i32_57 v79
  let c1_i32_60 : BitVec 32 := 1#32
  ⟨c0_i32_57, v80, c1_i32_60⟩

@[reducible] def k0_t6_loop (v75 : BitVec 32) : Scf.Loop 32 :=
  let c0_i32_57 : BitVec 32 := 0#32
  let v76 : BitVec 32 := Scalar.subi v75 c0_i32_57
  let c1_i32_59 : BitVec 32 := 1#32
  let v78 : BitVec 32 := Scalar.divsi v76 c1_i32_59
  let v79 : BitVec 32 := Scalar.muli v78 c1_i32_59
  let v80 : BitVec 32 := Scalar.addi c0_i32_57 v79
  let v77 : BitVec 32 := Scalar.addi c0_i32_57 v76
  let c1_i32_61 : BitVec 32 := 1#32
  ⟨v80, v77, c1_i32_61⟩

def k0_chk6 (v75 : BitVec 32) : Prop :=
  ((k0_t5_loop v75).OK) ∧
  ((k0_t6_loop v75).OK)
theorem k0_t5_ok : ∀ (v75 : BitVec 32) (k0_hw6 : k0_chk6 v75), (k0_t5_loop v75).OK := fun v75 k0_hw6 => k0_hw6.1
theorem k0_t6_ok : ∀ (v75 : BitVec 32) (k0_hw6 : k0_chk6 v75), (k0_t6_loop v75).OK := fun v75 k0_hw6 => k0_hw6.2

def k0_dev5 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v88 : BitVec 32 := Scalar.muli v9 c4_i32_67
  let v89 : BitVec 32 := Scalar.addi c0_i32_68 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v90 : BitVec 32 := Scalar.muli v5 c2_i32_69
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v92 : BitVec 32 := Scalar.muli v8 c1_i32_70
  let v93 : BitVec 32 := Scalar.addi v91 v92
  v93.toNat
@[reducible] def k0_t7_loop : Scf.Loop 32 :=
  let c0_i32_75 : BitVec 32 := 0#32
  let c32_i32_76 : BitVec 32 := 32#32
  let v100 : BitVec 32 := Scalar.addi c0_i32_75 c32_i32_76
  let c1_i32_77 : BitVec 32 := 1#32
  ⟨c0_i32_75, v100, c1_i32_77⟩
def k0_off13 (d0 : Dev nD) (k0_t7 : Fin k0_t7_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c128_i32_1332 : BitVec 32 := 128#32
  let v1361 : BitVec 32 := Scalar.addi v24 c128_i32_1332
  let c2_i32_1331 : BitVec 32 := 2#32
  let c0_i32_75 : BitVec 32 := 0#32
  let c1_i32_77 : BitVec 32 := 1#32
  let arg22 : BitVec 32 := Scf.iv c0_i32_75 c1_i32_77 k0_t7
  let v1360 : BitVec 32 := Scalar.muli c2_i32_1331 arg22
  let v1362 : BitVec 32 := Scalar.addi v1361 v1360
  let v1363 : Index := Scalar.indexCast v1362
  ![v1363.toNat]
def k0_off14 (k0_t7 : Fin k0_t7_loop.trips) : Fin 2 → Nat :=
  let c128_i32_1344 : BitVec 32 := 128#32
  let c2_i32_1331 : BitVec 32 := 2#32
  let c0_i32_75 : BitVec 32 := 0#32
  let c1_i32_77 : BitVec 32 := 1#32
  let arg22 : BitVec 32 := Scf.iv c0_i32_75 c1_i32_77 k0_t7
  let v1360 : BitVec 32 := Scalar.muli c2_i32_1331 arg22
  let v1389 : BitVec 32 := Scalar.addi c128_i32_1344 v1360
  let c0_i32_1346 : BitVec 32 := 0#32
  ![v1389.toNat, 0]
def k0_off15 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond5 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk7 (v1364 : BitVec 32) : Prop :=
  (∀ (k0_h5 : k0_cond5 v1364 = 1#1), ∀ a, (k0_off15 v1364) a + S1x1024.size a ≤ S16384x1024.size a)
theorem k0_off15_inb : ∀ (v1364 : BitVec 32) (k0_hw7 : k0_chk7 v1364), ∀ (k0_h5 : k0_cond5 v1364 = 1#1), ∀ a, (k0_off15 v1364) a + S1x1024.size a ≤ S16384x1024.size a := fun v1364 k0_hw7 k0_h5 => k0_hw7 k0_h5

def k0_off16 (d0 : Dev nD) (k0_t7 : Fin k0_t7_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c128_i32_1338 : BitVec 32 := 128#32
  let v1376 : BitVec 32 := Scalar.addi v24 c128_i32_1338
  let c2_i32_1336 : BitVec 32 := 2#32
  let c0_i32_75 : BitVec 32 := 0#32
  let c1_i32_77 : BitVec 32 := 1#32
  let arg22 : BitVec 32 := Scf.iv c0_i32_75 c1_i32_77 k0_t7
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off17 (k0_t7 : Fin k0_t7_loop.trips) : Fin 2 → Nat :=
  let c128_i32_1344 : BitVec 32 := 128#32
  let c2_i32_1336 : BitVec 32 := 2#32
  let c0_i32_75 : BitVec 32 := 0#32
  let c1_i32_77 : BitVec 32 := 1#32
  let arg22 : BitVec 32 := Scf.iv c0_i32_75 c1_i32_77 k0_t7
  let v1374 : BitVec 32 := Scalar.muli c2_i32_1336 arg22
  let c1_i32_1337 : BitVec 32 := 1#32
  let v1375 : BitVec 32 := Scalar.addi v1374 c1_i32_1337
  let v1389 : BitVec 32 := Scalar.addi c128_i32_1344 v1375
  let c0_i32_1346 : BitVec 32 := 0#32
  ![v1389.toNat, 0]
def k0_off18 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond6 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk8 (v1379 : BitVec 32) : Prop :=
  (∀ (k0_h6 : k0_cond6 v1379 = 1#1), ∀ a, (k0_off18 v1379) a + S1x1024.size a ≤ S16384x1024.size a)
theorem k0_off18_inb : ∀ (v1379 : BitVec 32) (k0_hw8 : k0_chk8 v1379), ∀ (k0_h6 : k0_cond6 v1379 = 1#1), ∀ a, (k0_off18 v1379) a + S1x1024.size a ≤ S16384x1024.size a := fun v1379 k0_hw8 k0_h6 => k0_hw8 k0_h6

def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v118 : BitVec 32 := Scalar.muli v2 c4_i32_97
  let v119 : BitVec 32 := Scalar.addi c0_i32_98 v118
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_99 : BitVec 32 := 2#32
  let v120 : BitVec 32 := Scalar.muli v10 c2_i32_99
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v122 : BitVec 32 := Scalar.muli v8 c1_i32_100
  let v123 : BitVec 32 := Scalar.addi v121 v122
  v123.toNat
def k0_dev7 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v130 : BitVec 32 := Scalar.muli v2 c4_i32_107
  let v131 : BitVec 32 := Scalar.addi c0_i32_108 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v132 : BitVec 32 := Scalar.muli v5 c2_i32_109
  let v133 : BitVec 32 := Scalar.addi v131 v132
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_110 : BitVec 32 := 1#32
  let v134 : BitVec 32 := Scalar.muli v11 c1_i32_110
  let v135 : BitVec 32 := Scalar.addi v133 v134
  v135.toNat
def k0_off19 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_115 : BitVec 32 := 512#32
  let v142 : BitVec 32 := Scalar.muli v13 c512_i32_115
  let c0_i32_116 : BitVec 32 := 0#32
  let v143 : BitVec 32 := Scalar.addi v142 c0_i32_116
  let c0_i32_118 : BitVec 32 := 0#32
  ![v143.toNat, 0]
@[reducible] def k0_t8_loop (v101 : BitVec 32) : Scf.Loop 32 :=
  let c0_i32_121 : BitVec 32 := 0#32
  let v148 : BitVec 32 := Scalar.subi v101 c0_i32_121
  let c1_i32_123 : BitVec 32 := 1#32
  let v150 : BitVec 32 := Scalar.divsi v148 c1_i32_123
  let v151 : BitVec 32 := Scalar.muli v150 c1_i32_123
  let v152 : BitVec 32 := Scalar.addi c0_i32_121 v151
  let c1_i32_124 : BitVec 32 := 1#32
  ⟨c0_i32_121, v152, c1_i32_124⟩

@[reducible] def k0_t9_loop (v101 : BitVec 32) : Scf.Loop 32 :=
  let c0_i32_121 : BitVec 32 := 0#32
  let v148 : BitVec 32 := Scalar.subi v101 c0_i32_121
  let c1_i32_123 : BitVec 32 := 1#32
  let v150 : BitVec 32 := Scalar.divsi v148 c1_i32_123
  let v151 : BitVec 32 := Scalar.muli v150 c1_i32_123
  let v152 : BitVec 32 := Scalar.addi c0_i32_121 v151
  let v149 : BitVec 32 := Scalar.addi c0_i32_121 v148
  let c1_i32_125 : BitVec 32 := 1#32
  ⟨v152, v149, c1_i32_125⟩

def k0_chk9 (v101 : BitVec 32) : Prop :=
  ((k0_t8_loop v101).OK) ∧
  ((k0_t9_loop v101).OK)
theorem k0_t8_ok : ∀ (v101 : BitVec 32) (k0_hw9 : k0_chk9 v101), (k0_t8_loop v101).OK := fun v101 k0_hw9 => k0_hw9.1
theorem k0_t9_ok : ∀ (v101 : BitVec 32) (k0_hw9 : k0_chk9 v101), (k0_t9_loop v101).OK := fun v101 k0_hw9 => k0_hw9.2

def k0_dev8 (d0 : Dev nD) : Nat :=
  let c0_i32_132 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_131 : BitVec 32 := 4#32
  let v160 : BitVec 32 := Scalar.muli v9 c4_i32_131
  let v161 : BitVec 32 := Scalar.addi c0_i32_132 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v162 : BitVec 32 := Scalar.muli v5 c2_i32_133
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v164 : BitVec 32 := Scalar.muli v8 c1_i32_134
  let v165 : BitVec 32 := Scalar.addi v163 v164
  v165.toNat
@[reducible] def k0_t10_loop : Scf.Loop 32 :=
  let c0_i32_139 : BitVec 32 := 0#32
  let c32_i32_140 : BitVec 32 := 32#32
  let v172 : BitVec 32 := Scalar.addi c0_i32_139 c32_i32_140
  let c1_i32_141 : BitVec 32 := 1#32
  ⟨c0_i32_139, v172, c1_i32_141⟩
def k0_off20 (d0 : Dev nD) (k0_t10 : Fin k0_t10_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c192_i32_1332 : BitVec 32 := 192#32
  let v1361 : BitVec 32 := Scalar.addi v24 c192_i32_1332
  let c2_i32_1331 : BitVec 32 := 2#32
  let c0_i32_139 : BitVec 32 := 0#32
  let c1_i32_141 : BitVec 32 := 1#32
  let arg22 : BitVec 32 := Scf.iv c0_i32_139 c1_i32_141 k0_t10
  let v1360 : BitVec 32 := Scalar.muli c2_i32_1331 arg22
  let v1362 : BitVec 32 := Scalar.addi v1361 v1360
  let v1363 : Index := Scalar.indexCast v1362
  ![v1363.toNat]
def k0_off21 (k0_t10 : Fin k0_t10_loop.trips) : Fin 2 → Nat :=
  let c192_i32_1344 : BitVec 32 := 192#32
  let c2_i32_1331 : BitVec 32 := 2#32
  let c0_i32_139 : BitVec 32 := 0#32
  let c1_i32_141 : BitVec 32 := 1#32
  let arg22 : BitVec 32 := Scf.iv c0_i32_139 c1_i32_141 k0_t10
  let v1360 : BitVec 32 := Scalar.muli c2_i32_1331 arg22
  let v1389 : BitVec 32 := Scalar.addi c192_i32_1344 v1360
  let c0_i32_1346 : BitVec 32 := 0#32
  ![v1389.toNat, 0]
def k0_off22 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond7 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk10 (v1364 : BitVec 32) : Prop :=
  (∀ (k0_h7 : k0_cond7 v1364 = 1#1), ∀ a, (k0_off22 v1364) a + S1x1024.size a ≤ S16384x1024.size a)
theorem k0_off22_inb : ∀ (v1364 : BitVec 32) (k0_hw10 : k0_chk10 v1364), ∀ (k0_h7 : k0_cond7 v1364 = 1#1), ∀ a, (k0_off22 v1364) a + S1x1024.size a ≤ S16384x1024.size a := fun v1364 k0_hw10 k0_h7 => k0_hw10 k0_h7

def k0_off23 (d0 : Dev nD) (k0_t10 : Fin k0_t10_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c192_i32_1338 : BitVec 32 := 192#32
  let v1376 : BitVec 32 := Scalar.addi v24 c192_i32_1338
  let c2_i32_1336 : BitVec 32 := 2#32
  let c0_i32_139 : BitVec 32 := 0#32
  let c1_i32_141 : BitVec 32 := 1#32
  let arg22 : BitVec 32 := Scf.iv c0_i32_139 c1_i32_141 k0_t10
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off24 (k0_t10 : Fin k0_t10_loop.trips) : Fin 2 → Nat :=
  let c192_i32_1344 : BitVec 32 := 192#32
  let c2_i32_1336 : BitVec 32 := 2#32
  let c0_i32_139 : BitVec 32 := 0#32
  let c1_i32_141 : BitVec 32 := 1#32
  let arg22 : BitVec 32 := Scf.iv c0_i32_139 c1_i32_141 k0_t10
  let v1374 : BitVec 32 := Scalar.muli c2_i32_1336 arg22
  let c1_i32_1337 : BitVec 32 := 1#32
  let v1375 : BitVec 32 := Scalar.addi v1374 c1_i32_1337
  let v1389 : BitVec 32 := Scalar.addi c192_i32_1344 v1375
  let c0_i32_1346 : BitVec 32 := 0#32
  ![v1389.toNat, 0]
def k0_off25 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond8 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk11 (v1379 : BitVec 32) : Prop :=
  (∀ (k0_h8 : k0_cond8 v1379 = 1#1), ∀ a, (k0_off25 v1379) a + S1x1024.size a ≤ S16384x1024.size a)
theorem k0_off25_inb : ∀ (v1379 : BitVec 32) (k0_hw11 : k0_chk11 v1379), ∀ (k0_h8 : k0_cond8 v1379 = 1#1), ∀ a, (k0_off25 v1379) a + S1x1024.size a ≤ S16384x1024.size a := fun v1379 k0_hw11 k0_h8 => k0_hw11 k0_h8

def k0_dev9 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v190 : BitVec 32 := Scalar.muli v2 c4_i32_161
  let v191 : BitVec 32 := Scalar.addi c0_i32_162 v190
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_163 : BitVec 32 := 2#32
  let v192 : BitVec 32 := Scalar.muli v10 c2_i32_163
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v194 : BitVec 32 := Scalar.muli v8 c1_i32_164
  let v195 : BitVec 32 := Scalar.addi v193 v194
  v195.toNat
def k0_dev10 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v202 : BitVec 32 := Scalar.muli v2 c4_i32_171
  let v203 : BitVec 32 := Scalar.addi c0_i32_172 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v204 : BitVec 32 := Scalar.muli v5 c2_i32_173
  let v205 : BitVec 32 := Scalar.addi v203 v204
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_174 : BitVec 32 := 1#32
  let v206 : BitVec 32 := Scalar.muli v11 c1_i32_174
  let v207 : BitVec 32 := Scalar.addi v205 v206
  v207.toNat
def k0_off26 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_179 : BitVec 32 := 512#32
  let v214 : BitVec 32 := Scalar.muli v13 c512_i32_179
  let c64_i32_180 : BitVec 32 := 64#32
  let v215 : BitVec 32 := Scalar.addi v214 c64_i32_180
  let c0_i32_182 : BitVec 32 := 0#32
  ![v215.toNat, 0]
@[reducible] def k0_t11_loop (v173 : BitVec 32) : Scf.Loop 32 :=
  let c0_i32_185 : BitVec 32 := 0#32
  let v220 : BitVec 32 := Scalar.subi v173 c0_i32_185
  let c1_i32_187 : BitVec 32 := 1#32
  let v222 : BitVec 32 := Scalar.divsi v220 c1_i32_187
  let v223 : BitVec 32 := Scalar.muli v222 c1_i32_187
  let v224 : BitVec 32 := Scalar.addi c0_i32_185 v223
  let c1_i32_188 : BitVec 32 := 1#32
  ⟨c0_i32_185, v224, c1_i32_188⟩

@[reducible] def k0_t12_loop (v173 : BitVec 32) : Scf.Loop 32 :=
  let c0_i32_185 : BitVec 32 := 0#32
  let v220 : BitVec 32 := Scalar.subi v173 c0_i32_185
  let c1_i32_187 : BitVec 32 := 1#32
  let v222 : BitVec 32 := Scalar.divsi v220 c1_i32_187
  let v223 : BitVec 32 := Scalar.muli v222 c1_i32_187
  let v224 : BitVec 32 := Scalar.addi c0_i32_185 v223
  let v221 : BitVec 32 := Scalar.addi c0_i32_185 v220
  let c1_i32_189 : BitVec 32 := 1#32
  ⟨v224, v221, c1_i32_189⟩

def k0_chk12 (v173 : BitVec 32) : Prop :=
  ((k0_t11_loop v173).OK) ∧
  ((k0_t12_loop v173).OK)
theorem k0_t11_ok : ∀ (v173 : BitVec 32) (k0_hw12 : k0_chk12 v173), (k0_t11_loop v173).OK := fun v173 k0_hw12 => k0_hw12.1
theorem k0_t12_ok : ∀ (v173 : BitVec 32) (k0_hw12 : k0_chk12 v173), (k0_t12_loop v173).OK := fun v173 k0_hw12 => k0_hw12.2

def k0_dev11 (d0 : Dev nD) : Nat :=
  let c0_i32_196 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_195 : BitVec 32 := 4#32
  let v232 : BitVec 32 := Scalar.muli v9 c4_i32_195
  let v233 : BitVec 32 := Scalar.addi c0_i32_196 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v234 : BitVec 32 := Scalar.muli v5 c2_i32_197
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v236 : BitVec 32 := Scalar.muli v8 c1_i32_198
  let v237 : BitVec 32 := Scalar.addi v235 v236
  v237.toNat
@[reducible] def k0_t13_loop : Scf.Loop 32 :=
  let c0_i32_203 : BitVec 32 := 0#32
  let c32_i32_204 : BitVec 32 := 32#32
  let v244 : BitVec 32 := Scalar.addi c0_i32_203 c32_i32_204
  let c1_i32_205 : BitVec 32 := 1#32
  ⟨c0_i32_203, v244, c1_i32_205⟩
def k0_off27 (d0 : Dev nD) (k0_t13 : Fin k0_t13_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c256_i32_1332 : BitVec 32 := 256#32
  let v1361 : BitVec 32 := Scalar.addi v24 c256_i32_1332
  let c2_i32_1331 : BitVec 32 := 2#32
  let c0_i32_203 : BitVec 32 := 0#32
  let c1_i32_205 : BitVec 32 := 1#32
  let arg22 : BitVec 32 := Scf.iv c0_i32_203 c1_i32_205 k0_t13
  let v1360 : BitVec 32 := Scalar.muli c2_i32_1331 arg22
  let v1362 : BitVec 32 := Scalar.addi v1361 v1360
  let v1363 : Index := Scalar.indexCast v1362
  ![v1363.toNat]
def k0_off28 (k0_t13 : Fin k0_t13_loop.trips) : Fin 2 → Nat :=
  let c256_i32_1344 : BitVec 32 := 256#32
  let c2_i32_1331 : BitVec 32 := 2#32
  let c0_i32_203 : BitVec 32 := 0#32
  let c1_i32_205 : BitVec 32 := 1#32
  let arg22 : BitVec 32 := Scf.iv c0_i32_203 c1_i32_205 k0_t13
  let v1360 : BitVec 32 := Scalar.muli c2_i32_1331 arg22
  let v1389 : BitVec 32 := Scalar.addi c256_i32_1344 v1360
  let c0_i32_1346 : BitVec 32 := 0#32
  ![v1389.toNat, 0]
def k0_off29 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond9 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk13 (v1364 : BitVec 32) : Prop :=
  (∀ (k0_h9 : k0_cond9 v1364 = 1#1), ∀ a, (k0_off29 v1364) a + S1x1024.size a ≤ S16384x1024.size a)
theorem k0_off29_inb : ∀ (v1364 : BitVec 32) (k0_hw13 : k0_chk13 v1364), ∀ (k0_h9 : k0_cond9 v1364 = 1#1), ∀ a, (k0_off29 v1364) a + S1x1024.size a ≤ S16384x1024.size a := fun v1364 k0_hw13 k0_h9 => k0_hw13 k0_h9

def k0_off30 (d0 : Dev nD) (k0_t13 : Fin k0_t13_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c256_i32_1338 : BitVec 32 := 256#32
  let v1376 : BitVec 32 := Scalar.addi v24 c256_i32_1338
  let c2_i32_1336 : BitVec 32 := 2#32
  let c0_i32_203 : BitVec 32 := 0#32
  let c1_i32_205 : BitVec 32 := 1#32
  let arg22 : BitVec 32 := Scf.iv c0_i32_203 c1_i32_205 k0_t13
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off31 (k0_t13 : Fin k0_t13_loop.trips) : Fin 2 → Nat :=
  let c256_i32_1344 : BitVec 32 := 256#32
  let c2_i32_1336 : BitVec 32 := 2#32
  let c0_i32_203 : BitVec 32 := 0#32
  let c1_i32_205 : BitVec 32 := 1#32
  let arg22 : BitVec 32 := Scf.iv c0_i32_203 c1_i32_205 k0_t13
  let v1374 : BitVec 32 := Scalar.muli c2_i32_1336 arg22
  let c1_i32_1337 : BitVec 32 := 1#32
  let v1375 : BitVec 32 := Scalar.addi v1374 c1_i32_1337
  let v1389 : BitVec 32 := Scalar.addi c256_i32_1344 v1375
  let c0_i32_1346 : BitVec 32 := 0#32
  ![v1389.toNat, 0]
def k0_off32 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond10 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk14 (v1379 : BitVec 32) : Prop :=
  (∀ (k0_h10 : k0_cond10 v1379 = 1#1), ∀ a, (k0_off32 v1379) a + S1x1024.size a ≤ S16384x1024.size a)
theorem k0_off32_inb : ∀ (v1379 : BitVec 32) (k0_hw14 : k0_chk14 v1379), ∀ (k0_h10 : k0_cond10 v1379 = 1#1), ∀ a, (k0_off32 v1379) a + S1x1024.size a ≤ S16384x1024.size a := fun v1379 k0_hw14 k0_h10 => k0_hw14 k0_h10

def k0_dev12 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v262 : BitVec 32 := Scalar.muli v2 c4_i32_225
  let v263 : BitVec 32 := Scalar.addi c0_i32_226 v262
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_227 : BitVec 32 := 2#32
  let v264 : BitVec 32 := Scalar.muli v10 c2_i32_227
  let v265 : BitVec 32 := Scalar.addi v263 v264
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v266 : BitVec 32 := Scalar.muli v8 c1_i32_228
  let v267 : BitVec 32 := Scalar.addi v265 v266
  v267.toNat
def k0_dev13 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v274 : BitVec 32 := Scalar.muli v2 c4_i32_235
  let v275 : BitVec 32 := Scalar.addi c0_i32_236 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v276 : BitVec 32 := Scalar.muli v5 c2_i32_237
  let v277 : BitVec 32 := Scalar.addi v275 v276
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_238 : BitVec 32 := 1#32
  let v278 : BitVec 32 := Scalar.muli v11 c1_i32_238
  let v279 : BitVec 32 := Scalar.addi v277 v278
  v279.toNat
def k0_off33 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_243 : BitVec 32 := 512#32
  let v286 : BitVec 32 := Scalar.muli v13 c512_i32_243
  let c128_i32_244 : BitVec 32 := 128#32
  let v287 : BitVec 32 := Scalar.addi v286 c128_i32_244
  let c0_i32_246 : BitVec 32 := 0#32
  ![v287.toNat, 0]
@[reducible] def k0_t14_loop (v245 : BitVec 32) : Scf.Loop 32 :=
  let c0_i32_249 : BitVec 32 := 0#32
  let v292 : BitVec 32 := Scalar.subi v245 c0_i32_249
  let c1_i32_251 : BitVec 32 := 1#32
  let v294 : BitVec 32 := Scalar.divsi v292 c1_i32_251
  let v295 : BitVec 32 := Scalar.muli v294 c1_i32_251
  let v296 : BitVec 32 := Scalar.addi c0_i32_249 v295
  let c1_i32_252 : BitVec 32 := 1#32
  ⟨c0_i32_249, v296, c1_i32_252⟩

@[reducible] def k0_t15_loop (v245 : BitVec 32) : Scf.Loop 32 :=
  let c0_i32_249 : BitVec 32 := 0#32
  let v292 : BitVec 32 := Scalar.subi v245 c0_i32_249
  let c1_i32_251 : BitVec 32 := 1#32
  let v294 : BitVec 32 := Scalar.divsi v292 c1_i32_251
  let v295 : BitVec 32 := Scalar.muli v294 c1_i32_251
  let v296 : BitVec 32 := Scalar.addi c0_i32_249 v295
  let v293 : BitVec 32 := Scalar.addi c0_i32_249 v292
  let c1_i32_253 : BitVec 32 := 1#32
  ⟨v296, v293, c1_i32_253⟩

def k0_chk15 (v245 : BitVec 32) : Prop :=
  ((k0_t14_loop v245).OK) ∧
  ((k0_t15_loop v245).OK)
theorem k0_t14_ok : ∀ (v245 : BitVec 32) (k0_hw15 : k0_chk15 v245), (k0_t14_loop v245).OK := fun v245 k0_hw15 => k0_hw15.1
theorem k0_t15_ok : ∀ (v245 : BitVec 32) (k0_hw15 : k0_chk15 v245), (k0_t15_loop v245).OK := fun v245 k0_hw15 => k0_hw15.2

def k0_dev14 (d0 : Dev nD) : Nat :=
  let c0_i32_260 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_259 : BitVec 32 := 4#32
  let v304 : BitVec 32 := Scalar.muli v9 c4_i32_259
  let v305 : BitVec 32 := Scalar.addi c0_i32_260 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v306 : BitVec 32 := Scalar.muli v5 c2_i32_261
  let v307 : BitVec 32 := Scalar.addi v305 v306
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v308 : BitVec 32 := Scalar.muli v8 c1_i32_262
  let v309 : BitVec 32 := Scalar.addi v307 v308
  v309.toNat
@[reducible] def k0_t16_loop : Scf.Loop 32 :=
  let c0_i32_267 : BitVec 32 := 0#32
  let c32_i32_268 : BitVec 32 := 32#32
  let v316 : BitVec 32 := Scalar.addi c0_i32_267 c32_i32_268
  let c1_i32_269 : BitVec 32 := 1#32
  ⟨c0_i32_267, v316, c1_i32_269⟩
def k0_off34 (d0 : Dev nD) (k0_t16 : Fin k0_t16_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c320_i32_1332 : BitVec 32 := 320#32
  let v1361 : BitVec 32 := Scalar.addi v24 c320_i32_1332
  let c2_i32_1331 : BitVec 32 := 2#32
  let c0_i32_267 : BitVec 32 := 0#32
  let c1_i32_269 : BitVec 32 := 1#32
  let arg22 : BitVec 32 := Scf.iv c0_i32_267 c1_i32_269 k0_t16
  let v1360 : BitVec 32 := Scalar.muli c2_i32_1331 arg22
  let v1362 : BitVec 32 := Scalar.addi v1361 v1360
  let v1363 : Index := Scalar.indexCast v1362
  ![v1363.toNat]
def k0_off35 (k0_t16 : Fin k0_t16_loop.trips) : Fin 2 → Nat :=
  let c320_i32_1344 : BitVec 32 := 320#32
  let c2_i32_1331 : BitVec 32 := 2#32
  let c0_i32_267 : BitVec 32 := 0#32
  let c1_i32_269 : BitVec 32 := 1#32
  let arg22 : BitVec 32 := Scf.iv c0_i32_267 c1_i32_269 k0_t16
  let v1360 : BitVec 32 := Scalar.muli c2_i32_1331 arg22
  let v1389 : BitVec 32 := Scalar.addi c320_i32_1344 v1360
  let c0_i32_1346 : BitVec 32 := 0#32
  ![v1389.toNat, 0]
def k0_off36 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond11 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk16 (v1364 : BitVec 32) : Prop :=
  (∀ (k0_h11 : k0_cond11 v1364 = 1#1), ∀ a, (k0_off36 v1364) a + S1x1024.size a ≤ S16384x1024.size a)
theorem k0_off36_inb : ∀ (v1364 : BitVec 32) (k0_hw16 : k0_chk16 v1364), ∀ (k0_h11 : k0_cond11 v1364 = 1#1), ∀ a, (k0_off36 v1364) a + S1x1024.size a ≤ S16384x1024.size a := fun v1364 k0_hw16 k0_h11 => k0_hw16 k0_h11

def k0_off37 (d0 : Dev nD) (k0_t16 : Fin k0_t16_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c320_i32_1338 : BitVec 32 := 320#32
  let v1376 : BitVec 32 := Scalar.addi v24 c320_i32_1338
  let c2_i32_1336 : BitVec 32 := 2#32
  let c0_i32_267 : BitVec 32 := 0#32
  let c1_i32_269 : BitVec 32 := 1#32
  let arg22 : BitVec 32 := Scf.iv c0_i32_267 c1_i32_269 k0_t16
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off38 (k0_t16 : Fin k0_t16_loop.trips) : Fin 2 → Nat :=
  let c320_i32_1344 : BitVec 32 := 320#32
  let c2_i32_1336 : BitVec 32 := 2#32
  let c0_i32_267 : BitVec 32 := 0#32
  let c1_i32_269 : BitVec 32 := 1#32
  let arg22 : BitVec 32 := Scf.iv c0_i32_267 c1_i32_269 k0_t16
  let v1374 : BitVec 32 := Scalar.muli c2_i32_1336 arg22
  let c1_i32_1337 : BitVec 32 := 1#32
  let v1375 : BitVec 32 := Scalar.addi v1374 c1_i32_1337
  let v1389 : BitVec 32 := Scalar.addi c320_i32_1344 v1375
  let c0_i32_1346 : BitVec 32 := 0#32
  ![v1389.toNat, 0]
def k0_off39 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond12 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk17 (v1379 : BitVec 32) : Prop :=
  (∀ (k0_h12 : k0_cond12 v1379 = 1#1), ∀ a, (k0_off39 v1379) a + S1x1024.size a ≤ S16384x1024.size a)
theorem k0_off39_inb : ∀ (v1379 : BitVec 32) (k0_hw17 : k0_chk17 v1379), ∀ (k0_h12 : k0_cond12 v1379 = 1#1), ∀ a, (k0_off39 v1379) a + S1x1024.size a ≤ S16384x1024.size a := fun v1379 k0_hw17 k0_h12 => k0_hw17 k0_h12

def k0_dev15 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v334 : BitVec 32 := Scalar.muli v2 c4_i32_289
  let v335 : BitVec 32 := Scalar.addi c0_i32_290 v334
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_291 : BitVec 32 := 2#32
  let v336 : BitVec 32 := Scalar.muli v10 c2_i32_291
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v338 : BitVec 32 := Scalar.muli v8 c1_i32_292
  let v339 : BitVec 32 := Scalar.addi v337 v338
  v339.toNat
def k0_dev16 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v346 : BitVec 32 := Scalar.muli v2 c4_i32_299
  let v347 : BitVec 32 := Scalar.addi c0_i32_300 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v348 : BitVec 32 := Scalar.muli v5 c2_i32_301
  let v349 : BitVec 32 := Scalar.addi v347 v348
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_302 : BitVec 32 := 1#32
  let v350 : BitVec 32 := Scalar.muli v11 c1_i32_302
  let v351 : BitVec 32 := Scalar.addi v349 v350
  v351.toNat
def k0_off40 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_307 : BitVec 32 := 512#32
  let v358 : BitVec 32 := Scalar.muli v13 c512_i32_307
  let c192_i32_308 : BitVec 32 := 192#32
  let v359 : BitVec 32 := Scalar.addi v358 c192_i32_308
  let c0_i32_310 : BitVec 32 := 0#32
  ![v359.toNat, 0]
@[reducible] def k0_t17_loop (v317 : BitVec 32) : Scf.Loop 32 :=
  let c0_i32_313 : BitVec 32 := 0#32
  let v364 : BitVec 32 := Scalar.subi v317 c0_i32_313
  let c1_i32_315 : BitVec 32 := 1#32
  let v366 : BitVec 32 := Scalar.divsi v364 c1_i32_315
  let v367 : BitVec 32 := Scalar.muli v366 c1_i32_315
  let v368 : BitVec 32 := Scalar.addi c0_i32_313 v367
  let c1_i32_316 : BitVec 32 := 1#32
  ⟨c0_i32_313, v368, c1_i32_316⟩

@[reducible] def k0_t18_loop (v317 : BitVec 32) : Scf.Loop 32 :=
  let c0_i32_313 : BitVec 32 := 0#32
  let v364 : BitVec 32 := Scalar.subi v317 c0_i32_313
  let c1_i32_315 : BitVec 32 := 1#32
  let v366 : BitVec 32 := Scalar.divsi v364 c1_i32_315
  let v367 : BitVec 32 := Scalar.muli v366 c1_i32_315
  let v368 : BitVec 32 := Scalar.addi c0_i32_313 v367
  let v365 : BitVec 32 := Scalar.addi c0_i32_313 v364
  let c1_i32_317 : BitVec 32 := 1#32
  ⟨v368, v365, c1_i32_317⟩

def k0_chk18 (v317 : BitVec 32) : Prop :=
  ((k0_t17_loop v317).OK) ∧
  ((k0_t18_loop v317).OK)
theorem k0_t17_ok : ∀ (v317 : BitVec 32) (k0_hw18 : k0_chk18 v317), (k0_t17_loop v317).OK := fun v317 k0_hw18 => k0_hw18.1
theorem k0_t18_ok : ∀ (v317 : BitVec 32) (k0_hw18 : k0_chk18 v317), (k0_t18_loop v317).OK := fun v317 k0_hw18 => k0_hw18.2

def k0_dev17 (d0 : Dev nD) : Nat :=
  let c0_i32_323 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_322 : BitVec 32 := 4#32
  let v376 : BitVec 32 := Scalar.muli v9 c4_i32_322
  let v377 : BitVec 32 := Scalar.addi c0_i32_323 v376
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v378 : BitVec 32 := Scalar.muli v5 c2_i32_324
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v380 : BitVec 32 := Scalar.muli v8 c1_i32_325
  let v381 : BitVec 32 := Scalar.addi v379 v380
  v381.toNat
@[reducible] def k0_t19_loop : Scf.Loop 32 :=
  let c0_i32_330 : BitVec 32 := 0#32
  let c32_i32_331 : BitVec 32 := 32#32
  let v388 : BitVec 32 := Scalar.addi c0_i32_330 c32_i32_331
  let c1_i32_332 : BitVec 32 := 1#32
  ⟨c0_i32_330, v388, c1_i32_332⟩
def k0_off41 (d0 : Dev nD) (k0_t19 : Fin k0_t19_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c384_i32_1332 : BitVec 32 := 384#32
  let v1361 : BitVec 32 := Scalar.addi v24 c384_i32_1332
  let c2_i32_1331 : BitVec 32 := 2#32
  let c0_i32_330 : BitVec 32 := 0#32
  let c1_i32_332 : BitVec 32 := 1#32
  let arg22 : BitVec 32 := Scf.iv c0_i32_330 c1_i32_332 k0_t19
  let v1360 : BitVec 32 := Scalar.muli c2_i32_1331 arg22
  let v1362 : BitVec 32 := Scalar.addi v1361 v1360
  let v1363 : Index := Scalar.indexCast v1362
  ![v1363.toNat]
def k0_off42 (k0_t19 : Fin k0_t19_loop.trips) : Fin 2 → Nat :=
  let c384_i32_1344 : BitVec 32 := 384#32
  let c2_i32_1331 : BitVec 32 := 2#32
  let c0_i32_330 : BitVec 32 := 0#32
  let c1_i32_332 : BitVec 32 := 1#32
  let arg22 : BitVec 32 := Scf.iv c0_i32_330 c1_i32_332 k0_t19
  let v1360 : BitVec 32 := Scalar.muli c2_i32_1331 arg22
  let v1389 : BitVec 32 := Scalar.addi c384_i32_1344 v1360
  let c0_i32_1346 : BitVec 32 := 0#32
  ![v1389.toNat, 0]
def k0_off43 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond13 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk19 (v1364 : BitVec 32) : Prop :=
  (∀ (k0_h13 : k0_cond13 v1364 = 1#1), ∀ a, (k0_off43 v1364) a + S1x1024.size a ≤ S16384x1024.size a)
theorem k0_off43_inb : ∀ (v1364 : BitVec 32) (k0_hw19 : k0_chk19 v1364), ∀ (k0_h13 : k0_cond13 v1364 = 1#1), ∀ a, (k0_off43 v1364) a + S1x1024.size a ≤ S16384x1024.size a := fun v1364 k0_hw19 k0_h13 => k0_hw19 k0_h13

def k0_off44 (d0 : Dev nD) (k0_t19 : Fin k0_t19_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c384_i32_1338 : BitVec 32 := 384#32
  let v1376 : BitVec 32 := Scalar.addi v24 c384_i32_1338
  let c2_i32_1336 : BitVec 32 := 2#32
  let c0_i32_330 : BitVec 32 := 0#32
  let c1_i32_332 : BitVec 32 := 1#32
  let arg22 : BitVec 32 := Scf.iv c0_i32_330 c1_i32_332 k0_t19
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off45 (k0_t19 : Fin k0_t19_loop.trips) : Fin 2 → Nat :=
  let c384_i32_1344 : BitVec 32 := 384#32
  let c2_i32_1336 : BitVec 32 := 2#32
  let c0_i32_330 : BitVec 32 := 0#32
  let c1_i32_332 : BitVec 32 := 1#32
  let arg22 : BitVec 32 := Scf.iv c0_i32_330 c1_i32_332 k0_t19
  let v1374 : BitVec 32 := Scalar.muli c2_i32_1336 arg22
  let c1_i32_1337 : BitVec 32 := 1#32
  let v1375 : BitVec 32 := Scalar.addi v1374 c1_i32_1337
  let v1389 : BitVec 32 := Scalar.addi c384_i32_1344 v1375
  let c0_i32_1346 : BitVec 32 := 0#32
  ![v1389.toNat, 0]
def k0_off46 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond14 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk20 (v1379 : BitVec 32) : Prop :=
  (∀ (k0_h14 : k0_cond14 v1379 = 1#1), ∀ a, (k0_off46 v1379) a + S1x1024.size a ≤ S16384x1024.size a)
theorem k0_off46_inb : ∀ (v1379 : BitVec 32) (k0_hw20 : k0_chk20 v1379), ∀ (k0_h14 : k0_cond14 v1379 = 1#1), ∀ a, (k0_off46 v1379) a + S1x1024.size a ≤ S16384x1024.size a := fun v1379 k0_hw20 k0_h14 => k0_hw20 k0_h14

def k0_dev18 (d0 : Dev nD) : Nat :=
  let c0_i32_353 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_352 : BitVec 32 := 4#32
  let v406 : BitVec 32 := Scalar.muli v2 c4_i32_352
  let v407 : BitVec 32 := Scalar.addi c0_i32_353 v406
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_354 : BitVec 32 := 2#32
  let v408 : BitVec 32 := Scalar.muli v10 c2_i32_354
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v410 : BitVec 32 := Scalar.muli v8 c1_i32_355
  let v411 : BitVec 32 := Scalar.addi v409 v410
  v411.toNat
def k0_dev19 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v418 : BitVec 32 := Scalar.muli v2 c4_i32_362
  let v419 : BitVec 32 := Scalar.addi c0_i32_363 v418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v420 : BitVec 32 := Scalar.muli v5 c2_i32_364
  let v421 : BitVec 32 := Scalar.addi v419 v420
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_365 : BitVec 32 := 1#32
  let v422 : BitVec 32 := Scalar.muli v11 c1_i32_365
  let v423 : BitVec 32 := Scalar.addi v421 v422
  v423.toNat
def k0_off47 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_370 : BitVec 32 := 512#32
  let v430 : BitVec 32 := Scalar.muli v13 c512_i32_370
  let c256_i32_371 : BitVec 32 := 256#32
  let v431 : BitVec 32 := Scalar.addi v430 c256_i32_371
  let c0_i32_373 : BitVec 32 := 0#32
  ![v431.toNat, 0]
@[reducible] def k0_t20_loop (v389 : BitVec 32) : Scf.Loop 32 :=
  let c0_i32_376 : BitVec 32 := 0#32
  let v436 : BitVec 32 := Scalar.subi v389 c0_i32_376
  let c1_i32_378 : BitVec 32 := 1#32
  let v438 : BitVec 32 := Scalar.divsi v436 c1_i32_378
  let v439 : BitVec 32 := Scalar.muli v438 c1_i32_378
  let v440 : BitVec 32 := Scalar.addi c0_i32_376 v439
  let c1_i32_379 : BitVec 32 := 1#32
  ⟨c0_i32_376, v440, c1_i32_379⟩

@[reducible] def k0_t21_loop (v389 : BitVec 32) : Scf.Loop 32 :=
  let c0_i32_376 : BitVec 32 := 0#32
  let v436 : BitVec 32 := Scalar.subi v389 c0_i32_376
  let c1_i32_378 : BitVec 32 := 1#32
  let v438 : BitVec 32 := Scalar.divsi v436 c1_i32_378
  let v439 : BitVec 32 := Scalar.muli v438 c1_i32_378
  let v440 : BitVec 32 := Scalar.addi c0_i32_376 v439
  let v437 : BitVec 32 := Scalar.addi c0_i32_376 v436
  let c1_i32_380 : BitVec 32 := 1#32
  ⟨v440, v437, c1_i32_380⟩

def k0_chk21 (v389 : BitVec 32) : Prop :=
  ((k0_t20_loop v389).OK) ∧
  ((k0_t21_loop v389).OK)
theorem k0_t20_ok : ∀ (v389 : BitVec 32) (k0_hw21 : k0_chk21 v389), (k0_t20_loop v389).OK := fun v389 k0_hw21 => k0_hw21.1
theorem k0_t21_ok : ∀ (v389 : BitVec 32) (k0_hw21 : k0_chk21 v389), (k0_t21_loop v389).OK := fun v389 k0_hw21 => k0_hw21.2

def k0_dev20 (d0 : Dev nD) : Nat :=
  let c0_i32_386 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_385 : BitVec 32 := 4#32
  let v448 : BitVec 32 := Scalar.muli v9 c4_i32_385
  let v449 : BitVec 32 := Scalar.addi c0_i32_386 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v450 : BitVec 32 := Scalar.muli v5 c2_i32_387
  let v451 : BitVec 32 := Scalar.addi v449 v450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_388 : BitVec 32 := 1#32
  let v452 : BitVec 32 := Scalar.muli v8 c1_i32_388
  let v453 : BitVec 32 := Scalar.addi v451 v452
  v453.toNat
@[reducible] def k0_t22_loop : Scf.Loop 32 :=
  let c0_i32_393 : BitVec 32 := 0#32
  let c32_i32_394 : BitVec 32 := 32#32
  let v460 : BitVec 32 := Scalar.addi c0_i32_393 c32_i32_394
  let c1_i32_395 : BitVec 32 := 1#32
  ⟨c0_i32_393, v460, c1_i32_395⟩
def k0_off48 (d0 : Dev nD) (k0_t22 : Fin k0_t22_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c448_i32_1332 : BitVec 32 := 448#32
  let v1361 : BitVec 32 := Scalar.addi v24 c448_i32_1332
  let c2_i32_1331 : BitVec 32 := 2#32
  let c0_i32_393 : BitVec 32 := 0#32
  let c1_i32_395 : BitVec 32 := 1#32
  let arg22 : BitVec 32 := Scf.iv c0_i32_393 c1_i32_395 k0_t22
  let v1360 : BitVec 32 := Scalar.muli c2_i32_1331 arg22
  let v1362 : BitVec 32 := Scalar.addi v1361 v1360
  let v1363 : Index := Scalar.indexCast v1362
  ![v1363.toNat]
def k0_off49 (k0_t22 : Fin k0_t22_loop.trips) : Fin 2 → Nat :=
  let c448_i32_1344 : BitVec 32 := 448#32
  let c2_i32_1331 : BitVec 32 := 2#32
  let c0_i32_393 : BitVec 32 := 0#32
  let c1_i32_395 : BitVec 32 := 1#32
  let arg22 : BitVec 32 := Scf.iv c0_i32_393 c1_i32_395 k0_t22
  let v1360 : BitVec 32 := Scalar.muli c2_i32_1331 arg22
  let v1389 : BitVec 32 := Scalar.addi c448_i32_1344 v1360
  let c0_i32_1346 : BitVec 32 := 0#32
  ![v1389.toNat, 0]
def k0_off50 (v1364 : BitVec 32) : Fin 2 → Nat :=
  let c16383_i32 : BitVec 32 := 16383#32
  let c0_i32_1334 : BitVec 32 := 0#32
  let v1368 : BitVec 32 := Scalar.maxsi c0_i32_1334 v1364
  let v1369 : BitVec 32 := Scalar.minsi c16383_i32 v1368
  let c0_i32_1347 : BitVec 32 := 0#32
  ![v1369.toNat, 0]
def k0_cond15 (v1364 : BitVec 32) : BitVec 1 :=
  let c0_i32_1333 : BitVec 32 := 0#32
  let v1365 : BitVec 1 := Scalar.cmpi .sge v1364 c0_i32_1333
  let c16384_i32 : BitVec 32 := 16384#32
  let v1366 : BitVec 1 := Scalar.cmpi .slt v1364 c16384_i32
  let v1367 : BitVec 1 := Scalar.andi v1365 v1366
  let v1370 : BitVec 32 := Scalar.extui v1367
  let c0_i32_1335 : BitVec 32 := 0#32
  let v1371 : BitVec 1 := Scalar.cmpi .ne v1370 c0_i32_1335
  v1371

def k0_chk22 (v1364 : BitVec 32) : Prop :=
  (∀ (k0_h15 : k0_cond15 v1364 = 1#1), ∀ a, (k0_off50 v1364) a + S1x1024.size a ≤ S16384x1024.size a)
theorem k0_off50_inb : ∀ (v1364 : BitVec 32) (k0_hw22 : k0_chk22 v1364), ∀ (k0_h15 : k0_cond15 v1364 = 1#1), ∀ a, (k0_off50 v1364) a + S1x1024.size a ≤ S16384x1024.size a := fun v1364 k0_hw22 k0_h15 => k0_hw22 k0_h15

def k0_off51 (d0 : Dev nD) (k0_t22 : Fin k0_t22_loop.trips) : Fin 1 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c448_i32_1338 : BitVec 32 := 448#32
  let v1376 : BitVec 32 := Scalar.addi v24 c448_i32_1338
  let c2_i32_1336 : BitVec 32 := 2#32
  let c0_i32_393 : BitVec 32 := 0#32
  let c1_i32_395 : BitVec 32 := 1#32
  let arg22 : BitVec 32 := Scf.iv c0_i32_393 c1_i32_395 k0_t22
  let v1374 : BitVec 32 := Scalar.muli c2_i32_1336 arg22
  let c1_i32_1337 : BitVec 32 := 1#32
  let v1375 : BitVec 32 := Scalar.addi v1374 c1_i32_1337
  let v1377 : BitVec 32 := Scalar.addi v1376 v1375
  let v1378 : Index := Scalar.indexCast v1377
  ![v1378.toNat]
def k0_off52 (k0_t22 : Fin k0_t22_loop.trips) : Fin 2 → Nat :=
  let c448_i32_1344 : BitVec 32 := 448#32
  let c2_i32_1336 : BitVec 32 := 2#32
  let c0_i32_393 : BitVec 32 := 0#32
  let c1_i32_395 : BitVec 32 := 1#32
  let arg22 : BitVec 32 := Scf.iv c0_i32_393 c1_i32_395 k0_t22
  let v1374 : BitVec 32 := Scalar.muli c2_i32_1336 arg22
  let c1_i32_1337 : BitVec 32 := 1#32
  let v1375 : BitVec 32 := Scalar.addi v1374 c1_i32_1337
  let v1389 : BitVec 32 := Scalar.addi c448_i32_1344 v1375
  let c0_i32_1346 : BitVec 32 := 0#32
  ![v1389.toNat, 0]
def k0_off53 (v1379 : BitVec 32) : Fin 2 → Nat :=
  let c16383_i32_1342 : BitVec 32 := 16383#32
  let c0_i32_1341 : BitVec 32 := 0#32
  let v1383 : BitVec 32 := Scalar.maxsi c0_i32_1341 v1379
  let v1384 : BitVec 32 := Scalar.minsi c16383_i32_1342 v1383
  let c0_i32_1347 : BitVec 32 := 0#32
  ![v1384.toNat, 0]
def k0_cond16 (v1379 : BitVec 32) : BitVec 1 :=
  let c0_i32_1339 : BitVec 32 := 0#32
  let v1380 : BitVec 1 := Scalar.cmpi .sge v1379 c0_i32_1339
  let c16384_i32_1340 : BitVec 32 := 16384#32
  let v1381 : BitVec 1 := Scalar.cmpi .slt v1379 c16384_i32_1340
  let v1382 : BitVec 1 := Scalar.andi v1380 v1381
  let v1385 : BitVec 32 := Scalar.extui v1382
  let c0_i32_1343 : BitVec 32 := 0#32
  let v1386 : BitVec 1 := Scalar.cmpi .ne v1385 c0_i32_1343
  v1386

def k0_chk23 (v1379 : BitVec 32) : Prop :=
  (∀ (k0_h16 : k0_cond16 v1379 = 1#1), ∀ a, (k0_off53 v1379) a + S1x1024.size a ≤ S16384x1024.size a)
theorem k0_off53_inb : ∀ (v1379 : BitVec 32) (k0_hw23 : k0_chk23 v1379), ∀ (k0_h16 : k0_cond16 v1379 = 1#1), ∀ a, (k0_off53 v1379) a + S1x1024.size a ≤ S16384x1024.size a := fun v1379 k0_hw23 k0_h16 => k0_hw23 k0_h16

def k0_dev21 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v478 : BitVec 32 := Scalar.muli v2 c4_i32_415
  let v479 : BitVec 32 := Scalar.addi c0_i32_416 v478
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_417 : BitVec 32 := 2#32
  let v480 : BitVec 32 := Scalar.muli v10 c2_i32_417
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v482 : BitVec 32 := Scalar.muli v8 c1_i32_418
  let v483 : BitVec 32 := Scalar.addi v481 v482
  v483.toNat
def k0_dev22 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_425 : BitVec 32 := 4#32
  let v490 : BitVec 32 := Scalar.muli v2 c4_i32_425
  let v491 : BitVec 32 := Scalar.addi c0_i32_426 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v492 : BitVec 32 := Scalar.muli v5 c2_i32_427
  let v493 : BitVec 32 := Scalar.addi v491 v492
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_428 : BitVec 32 := 1#32
  let v494 : BitVec 32 := Scalar.muli v11 c1_i32_428
  let v495 : BitVec 32 := Scalar.addi v493 v494
  v495.toNat
def k0_off54 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_433 : BitVec 32 := 512#32
  let v502 : BitVec 32 := Scalar.muli v13 c512_i32_433
  let c320_i32_434 : BitVec 32 := 320#32
  let v503 : BitVec 32 := Scalar.addi v502 c320_i32_434
  let c0_i32_436 : BitVec 32 := 0#32
  ![v503.toNat, 0]
@[reducible] def k0_t23_loop (v461 : BitVec 32) : Scf.Loop 32 :=
  let c0_i32_439 : BitVec 32 := 0#32
  let v508 : BitVec 32 := Scalar.subi v461 c0_i32_439
  let c1_i32_441 : BitVec 32 := 1#32
  let v510 : BitVec 32 := Scalar.divsi v508 c1_i32_441
  let v511 : BitVec 32 := Scalar.muli v510 c1_i32_441
  let v512 : BitVec 32 := Scalar.addi c0_i32_439 v511
  let c1_i32_442 : BitVec 32 := 1#32
  ⟨c0_i32_439, v512, c1_i32_442⟩

@[reducible] def k0_t24_loop (v461 : BitVec 32) : Scf.Loop 32 :=
  let c0_i32_439 : BitVec 32 := 0#32
  let v508 : BitVec 32 := Scalar.subi v461 c0_i32_439
  let c1_i32_441 : BitVec 32 := 1#32
  let v510 : BitVec 32 := Scalar.divsi v508 c1_i32_441
  let v511 : BitVec 32 := Scalar.muli v510 c1_i32_441
  let v512 : BitVec 32 := Scalar.addi c0_i32_439 v511
  let v509 : BitVec 32 := Scalar.addi c0_i32_439 v508
  let c1_i32_443 : BitVec 32 := 1#32
  ⟨v512, v509, c1_i32_443⟩

def k0_chk24 (v461 : BitVec 32) : Prop :=
  ((k0_t23_loop v461).OK) ∧
  ((k0_t24_loop v461).OK)
theorem k0_t23_ok : ∀ (v461 : BitVec 32) (k0_hw24 : k0_chk24 v461), (k0_t23_loop v461).OK := fun v461 k0_hw24 => k0_hw24.1
theorem k0_t24_ok : ∀ (v461 : BitVec 32) (k0_hw24 : k0_chk24 v461), (k0_t24_loop v461).OK := fun v461 k0_hw24 => k0_hw24.2

def k0_dev23 (d0 : Dev nD) : Nat :=
  let c0_i32_449 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_448 : BitVec 32 := 4#32
  let v520 : BitVec 32 := Scalar.muli v9 c4_i32_448
  let v521 : BitVec 32 := Scalar.addi c0_i32_449 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_450 : BitVec 32 := 2#32
  let v522 : BitVec 32 := Scalar.muli v5 c2_i32_450
  let v523 : BitVec 32 := Scalar.addi v521 v522
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_451 : BitVec 32 := 1#32
  let v524 : BitVec 32 := Scalar.muli v8 c1_i32_451
  let v525 : BitVec 32 := Scalar.addi v523 v524
  v525.toNat
def k0_dev24 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v542 : BitVec 32 := Scalar.muli v2 c4_i32_467
  let v543 : BitVec 32 := Scalar.addi c0_i32_468 v542
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_469 : BitVec 32 := 2#32
  let v544 : BitVec 32 := Scalar.muli v10 c2_i32_469
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_470 : BitVec 32 := 1#32
  let v546 : BitVec 32 := Scalar.muli v8 c1_i32_470
  let v547 : BitVec 32 := Scalar.addi v545 v546
  v547.toNat
def k0_off55 (d0 : Dev nD) (c0_i32_476 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_475 : BitVec 32 := 512#32
  let v554 : BitVec 32 := Scalar.muli v19 c512_i32_475
  let v555 : BitVec 32 := Scalar.addi v554 c0_i32_476
  let c0_i32_478 : BitVec 32 := 0#32
  ![v555.toNat, 0]
def k0_dev25 (d0 : Dev nD) : Nat :=
  let c0_i32_500 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_499 : BitVec 32 := 4#32
  let v576 : BitVec 32 := Scalar.muli v2 c4_i32_499
  let v577 : BitVec 32 := Scalar.addi c0_i32_500 v576
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_501 : BitVec 32 := 2#32
  let v578 : BitVec 32 := Scalar.muli v10 c2_i32_501
  let v579 : BitVec 32 := Scalar.addi v577 v578
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_502 : BitVec 32 := 1#32
  let v580 : BitVec 32 := Scalar.muli v8 c1_i32_502
  let v581 : BitVec 32 := Scalar.addi v579 v580
  v581.toNat
def k0_dev26 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v588 : BitVec 32 := Scalar.muli v2 c4_i32_509
  let v589 : BitVec 32 := Scalar.addi c0_i32_510 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_511 : BitVec 32 := 2#32
  let v590 : BitVec 32 := Scalar.muli v5 c2_i32_511
  let v591 : BitVec 32 := Scalar.addi v589 v590
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_512 : BitVec 32 := 1#32
  let v592 : BitVec 32 := Scalar.muli v11 c1_i32_512
  let v593 : BitVec 32 := Scalar.addi v591 v592
  v593.toNat
def k0_off56 (d0 : Dev nD) (c384_i32_518 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_517 : BitVec 32 := 512#32
  let v600 : BitVec 32 := Scalar.muli v13 c512_i32_517
  let v601 : BitVec 32 := Scalar.addi v600 c384_i32_518
  let c0_i32_520 : BitVec 32 := 0#32
  ![v601.toNat, 0]
def k0_off57 (d0 : Dev nD) (c0_i32_534 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_533 : BitVec 32 := 512#32
  let v616 : BitVec 32 := Scalar.muli v16 c512_i32_533
  let v617 : BitVec 32 := Scalar.addi v616 c0_i32_534
  let c0_i32_535 : BitVec 32 := 0#32
  ![v617.toNat, 0]
def k0_dev27 (d0 : Dev nD) : Nat :=
  let c0_i32_551 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_550 : BitVec 32 := 4#32
  let v632 : BitVec 32 := Scalar.muli v2 c4_i32_550
  let v633 : BitVec 32 := Scalar.addi c0_i32_551 v632
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_552 : BitVec 32 := 2#32
  let v634 : BitVec 32 := Scalar.muli v10 c2_i32_552
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_553 : BitVec 32 := 1#32
  let v636 : BitVec 32 := Scalar.muli v8 c1_i32_553
  let v637 : BitVec 32 := Scalar.addi v635 v636
  v637.toNat
def k0_dev28 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v666 : BitVec 32 := Scalar.muli v2 c4_i32_581
  let v667 : BitVec 32 := Scalar.addi c0_i32_582 v666
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_583 : BitVec 32 := 2#32
  let v668 : BitVec 32 := Scalar.muli v10 c2_i32_583
  let v669 : BitVec 32 := Scalar.addi v667 v668
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_584 : BitVec 32 := 1#32
  let v670 : BitVec 32 := Scalar.muli v8 c1_i32_584
  let v671 : BitVec 32 := Scalar.addi v669 v670
  v671.toNat
def k0_dev29 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v678 : BitVec 32 := Scalar.muli v2 c4_i32_591
  let v679 : BitVec 32 := Scalar.addi c0_i32_592 v678
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v680 : BitVec 32 := Scalar.muli v5 c2_i32_593
  let v681 : BitVec 32 := Scalar.addi v679 v680
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_594 : BitVec 32 := 1#32
  let v682 : BitVec 32 := Scalar.muli v11 c1_i32_594
  let v683 : BitVec 32 := Scalar.addi v681 v682
  v683.toNat
def k0_dev30 (d0 : Dev nD) : Nat :=
  let c0_i32_632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_631 : BitVec 32 := 4#32
  let v722 : BitVec 32 := Scalar.muli v2 c4_i32_631
  let v723 : BitVec 32 := Scalar.addi c0_i32_632 v722
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_633 : BitVec 32 := 2#32
  let v724 : BitVec 32 := Scalar.muli v10 c2_i32_633
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_634 : BitVec 32 := 1#32
  let v726 : BitVec 32 := Scalar.muli v8 c1_i32_634
  let v727 : BitVec 32 := Scalar.addi v725 v726
  v727.toNat
def k0_dev31 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v766 : BitVec 32 := Scalar.muli v2 c4_i32_671
  let v767 : BitVec 32 := Scalar.addi c0_i32_672 v766
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_673 : BitVec 32 := 2#32
  let v768 : BitVec 32 := Scalar.muli v10 c2_i32_673
  let v769 : BitVec 32 := Scalar.addi v767 v768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_674 : BitVec 32 := 1#32
  let v770 : BitVec 32 := Scalar.muli v8 c1_i32_674
  let v771 : BitVec 32 := Scalar.addi v769 v770
  v771.toNat
def k0_dev32 (d0 : Dev nD) : Nat :=
  let c0_i32_727 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_726 : BitVec 32 := 4#32
  let v826 : BitVec 32 := Scalar.muli v2 c4_i32_726
  let v827 : BitVec 32 := Scalar.addi c0_i32_727 v826
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_728 : BitVec 32 := 2#32
  let v828 : BitVec 32 := Scalar.muli v5 c2_i32_728
  let v829 : BitVec 32 := Scalar.addi v827 v828
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_729 : BitVec 32 := 1#32
  let v830 : BitVec 32 := Scalar.muli v11 c1_i32_729
  let v831 : BitVec 32 := Scalar.addi v829 v830
  v831.toNat
def k0_dev33 (d0 : Dev nD) : Nat :=
  let c0_i32_767 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_766 : BitVec 32 := 4#32
  let v870 : BitVec 32 := Scalar.muli v2 c4_i32_766
  let v871 : BitVec 32 := Scalar.addi c0_i32_767 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_768 : BitVec 32 := 2#32
  let v872 : BitVec 32 := Scalar.muli v5 c2_i32_768
  let v873 : BitVec 32 := Scalar.addi v871 v872
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_769 : BitVec 32 := 1#32
  let v874 : BitVec 32 := Scalar.muli v11 c1_i32_769
  let v875 : BitVec 32 := Scalar.addi v873 v874
  v875.toNat
def k0_dev34 (d0 : Dev nD) : Nat :=
  let c0_i32_807 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_806 : BitVec 32 := 4#32
  let v914 : BitVec 32 := Scalar.muli v2 c4_i32_806
  let v915 : BitVec 32 := Scalar.addi c0_i32_807 v914
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_808 : BitVec 32 := 2#32
  let v916 : BitVec 32 := Scalar.muli v5 c2_i32_808
  let v917 : BitVec 32 := Scalar.addi v915 v916
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_809 : BitVec 32 := 1#32
  let v918 : BitVec 32 := Scalar.muli v11 c1_i32_809
  let v919 : BitVec 32 := Scalar.addi v917 v918
  v919.toNat
def k0_dev35 (d0 : Dev nD) : Nat :=
  let c0_i32_847 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_846 : BitVec 32 := 4#32
  let v958 : BitVec 32 := Scalar.muli v2 c4_i32_846
  let v959 : BitVec 32 := Scalar.addi c0_i32_847 v958
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_848 : BitVec 32 := 2#32
  let v960 : BitVec 32 := Scalar.muli v5 c2_i32_848
  let v961 : BitVec 32 := Scalar.addi v959 v960
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_849 : BitVec 32 := 1#32
  let v962 : BitVec 32 := Scalar.muli v11 c1_i32_849
  let v963 : BitVec 32 := Scalar.addi v961 v962
  v963.toNat
def k0_off58 (d0 : Dev nD) (c0_i32_870 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_869 : BitVec 32 := 512#32
  let v986 : BitVec 32 := Scalar.muli v23 c512_i32_869
  let v987 : BitVec 32 := Scalar.addi v986 c0_i32_870
  let c0_i32_871 : BitVec 32 := 0#32
  ![v987.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | .hbm, ⟨11, _⟩ => ⟨S2048x1024, .bf16⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Geometry.lean ====
/-
# Geometry: the devices, the buffers' row chunks, the semaphores, and what every buffer comes to hold

Device `4 x + 2 y + z` of the 2 × 2 × 2 mesh keeps half `x` of the table's rows. The 2048 ids are cut in four quarters;
device `c` looks up quarter `c % 4` (`2 y + z`) in its half, adds what its neighbour along `x` found, and hands the
sum around the square of the devices with its `x`. Every quarter goes through in eight chunks of 64 rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Batch
public import Idealize.ShloMosaic.Lib.ShareLeaves
public import Idealize.ShloMosaic.Lib.Tactic

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

/-- The neighbour along `x`: the device that keeps the other half of the table. -/
def px (c : Dev nD) : Dev nD := ⟨(c.val + 4) % 8, Nat.mod_lt _ (by decide)⟩
/-- The neighbour along `y`. -/
def py (c : Dev nD) : Dev nD := ⟨4 * (c.val / 4) + (c.val % 4 + 2) % 4, by have := c.isLt; have h : nD = 8 := rfl; omega⟩
/-- The neighbour along `z`. -/
def pz (c : Dev nD) : Dev nD := ⟨2 * (c.val / 2) + (c.val % 2 + 1) % 2, by have := c.isLt; have h : nD = 8 := rfl; omega⟩
/-- The device across the square: the neighbour along both. -/
def dg (c : Dev nD) : Dev nD := py (pz c)

theorem px_px (c : Dev nD) : px (px c) = c := by revert c; decide
theorem py_py (c : Dev nD) : py (py c) = c := by revert c; decide
theorem pz_pz (c : Dev nD) : pz (pz c) = c := by revert c; decide
theorem py_pz (c : Dev nD) : py (pz c) = dg c := rfl
theorem pz_py (c : Dev nD) : pz (py c) = dg c := by revert c; decide

/-! ## The buffers -/

abbrev gb : Memref sig .tc .vmem S512x1024 .f32 := Memref.whole cc0_scratch0
abbrev pb : Memref sig .tc .vmem S512x1024 .bf16 := Memref.whole cc0_scratch1
abbrev xb : Memref sig .tc .vmem S512x1024 .bf16 := Memref.whole cc0_scratch2
abbrev cb : Memref sig .tc .vmem S512x1024 .bf16 := Memref.whole cc0_scratch3
abbrev yb : Memref sig .tc .vmem S512x1024 .bf16 := Memref.whole cc0_scratch4
abbrev zb : Memref sig .tc .vmem S512x1024 .bf16 := Memref.whole cc0_scratch5
abbrev db : Memref sig .tc .vmem S512x1024 .bf16 := Memref.whole cc0_scratch6
abbrev sm : Memref sig .tc .smem S2048 .i32 := Memref.whole cc0_stg0_0
abbrev em : Memref sig .tc .hbm S16384x1024 .f32 := Memref.whole main_arg1
abbrev om : Memref sig .tc .hbm S2048x1024 .bf16 := Memref.whole main_v8

theorem inbCh (k : Fin 8) : ∀ a, (![64 * k.val, 0] : Fin 2 → Nat) a + S64x1024.size a ≤ S512x1024.size a := by
  revert k; decide
theorem inbOut (c : Dev nD) (k : Fin 8) :
    ∀ a, (![512 * (c.val % 4) + 64 * k.val, 0] : Fin 2 → Nat) a + S64x1024.size a ≤ S2048x1024.size a := by
  revert c k; decide
theorem inbRow (i : Fin 512) : ∀ a, (![i.val, 0] : Fin 2 → Nat) a + S1x1024.size a ≤ S512x1024.size a := by
  intro a; have := i.isLt; fin_cases a
  · show i.val + 1 ≤ 512; omega
  · show 0 + 1024 ≤ 1024; omega
theorem inbE (r : ℕ) (h : r < 16384) : ∀ a, (![r, 0] : Fin 2 → Nat) a + S1x1024.size a ≤ S16384x1024.size a := by
  intro a; fin_cases a
  · show r + 1 ≤ 16384; omega
  · show 0 + 1024 ≤ 1024; omega

/-- The rectangle of chunk `k`: rows `64 k` to `64 k + 63`. -/
abbrev rCh (k : Fin 8) : Rect S512x1024 := Rect.unit (s := S512x1024) ![64 * k.val, 0] S64x1024.size (inbCh k)
/-- Chunk `k` of a 512-row buffer. -/
abbrev ch {e : EltTy} (b : Memref sig .tc .vmem S512x1024 e) (k : Fin 8) : Memref sig .tc .vmem S64x1024 e :=
  b.slice (rCh k) (fun _ => rfl)
/-- Row `i` of a 512-row buffer. -/
abbrev row {e : EltTy} (b : Memref sig .tc .vmem S512x1024 e) (i : Fin 512) : Memref sig .tc .vmem S1x1024 e :=
  b.slice (Rect.unit (s := S512x1024) ![i.val, 0] S1x1024.size (inbRow i)) (fun _ => rfl)
/-- Row `r` of the device's half of the table. -/
abbrev erow (r : ℕ) (h : r < 16384) : Memref sig .tc .hbm S1x1024 .f32 :=
  em.slice (Rect.unit (s := S16384x1024) ![r, 0] S1x1024.size (inbE r h)) (fun _ => rfl)
/-- The block of the result that chunk `k` of device `e`'s sum goes to: the same block on every device. -/
abbrev ob (e : Dev nD) (k : Fin 8) : Memref sig .tc .hbm S64x1024 .bf16 :=
  om.slice (Rect.unit (s := S2048x1024) ![512 * (e.val % 4) + 64 * k.val, 0] S64x1024.size (inbOut e k)) (fun _ => rfl)

/-! ## The semaphores -/

/-- The semaphores of chunk `k` that cross devices, by use: 0 the send along `x`, 1 its arrival, 2 the send along
    `y`, 3 its arrival, 4 the send along `z`, 5 its arrival, 6 the forward to the device across the square, 7 its
    arrival. The forward of chunks 0–3 goes along `y`, of chunks 4–7 along `z`. -/
def semIx (j k : Fin 8) : DmaSem sig :=
  ⟨if j.val < 6 then 9 + 8 * j.val + k.val
    else if j.val = 6 then (if k.val < 4 then 57 + k.val else 61 + k.val)
    else (if k.val < 4 then 61 + k.val else 65 + k.val), by
      show _ < 105
      have := j.isLt; have := k.isLt; (repeat' split) <;> omega⟩
/-- The semaphore of chunk `k`'s row copies. -/
def gsem (k : Fin 8) : DmaSem sig := ⟨1 + k.val, by show _ < 105; have := k.isLt; omega⟩
/-- The semaphores of chunk `k`'s four copies to the result: 0 the own quarter's, 1 the quarter from along `z`, 2 from
    along `y`, 3 from across the square. -/
def osem (j : Fin 4) (k : Fin 8) : DmaSem sig :=
  ⟨73 + (if j.val = 0 then (if k.val < 6 then k.val else if k.val = 6 then 7 else 10)
    else if j.val = 1 then (if k.val = 0 then 6 else if k.val = 1 then 9 else 12 + 2 * (k.val - 2))
    else if j.val = 2 then (if k.val = 0 then 8 else if k.val = 1 then 11 else 13 + 2 * (k.val - 2))
    else 24 + k.val), by
      show _ < 105
      have := j.isLt; have := k.isLt; (repeat' split) <;> omega⟩

theorem semIx_inj : ∀ p q : Fin 8 × Fin 8, semIx p.1 p.2 = semIx q.1 q.2 → p = q := by decide +kernel

/-- The barrier's semaphore. -/
abbrev barS : Sem sig := sig.barrier 0 rfl

abbrev barCell (c : Dev nD) : GSem nD τ sig := ((c : Thread nD τ), .reg barS)
abbrev cellAt (c : Dev nD) (j k : Fin 8) : GSem nD τ sig := ((c : Thread nD τ), .dma (semIx j k))

/-- The units one chunk's copy is worth. -/
abbrev N : ℕ := (ch pb 0).view.dmaCredit
/-- The units one row's copy is worth. -/
abbrev NR : ℕ := (row gb 0).view.dmaCredit
theorem N_pos : 0 < N := View.dmaCredit_pos _ (by decide)
theorem NR_pos : 0 < NR := View.dmaCredit_pos _ (by decide)

/-! ## The contents -/

section Contents
variable (ids : Dev nD → (cc0_stg0_0 : Ref sig .tc).ty.Contents (Elt F)) (Ew : Dev nD → (main_arg1 : Ref sig .tc).ty.Contents (Elt F))

/-- The place among the 2048 ids of row `i` of device `c`'s quarter. -/
def idIx (c : Dev nD) (i : Fin 512) : S2048.Idx := fun a => ⟨512 * (c.val % 4) + i.val, by
  have h : S2048.size a = 2048 := by fin_cases a; rfl
  have := i.isLt; omega⟩
/-- The id, relative to the device's half of the table, of row `i` of the device's quarter. -/
def word (c : Dev nD) (i : Fin 512) : BitVec 32 := ids c (idIx c i)
/-- The table row an id names: the id itself when it is in the device's half. -/
def rowOf (v : BitVec 32) : ℕ := (k0_off3 v) 0
/-- The id lies in the device's half. -/
abbrev Hit (v : BitVec 32) : Prop := k0_cond1 v = 1#1

/-- The larger of a word and zero is not negative. -/
theorem max_nonneg (v : BitVec 32) : 0 ≤ (IntOp.maxsi 0#32 v).toInt := by
  unfold IntOp.maxsi
  by_cases hv : v.slt 0#32 = true
  · rw [if_pos hv]; decide
  · rw [if_neg hv]
    have h0 := mt BitVec.slt_iff_toInt_lt.mpr hv
    rw [show (0#32 : BitVec 32).toInt = 0 from by decide] at h0
    omega
/-- The smaller of 16383 and a word that is not negative is below 16384. -/
theorem min_lt (w : BitVec 32) (hw : 0 ≤ w.toInt) : (IntOp.minsi 16383#32 w).toNat < 16384 := by
  unfold IntOp.minsi
  by_cases h : (16383#32).slt w = true
  · rw [if_pos h]; decide
  · rw [if_neg h]
    have h1 := mt BitVec.slt_iff_toInt_lt.mpr h
    rw [show (16383#32 : BitVec 32).toInt = 16383 from by decide] at h1
    rw [BitVec.toInt_eq_toNat_cond] at h1 hw
    have := w.isLt
    split at h1 <;> omega

theorem rowOf_lt (v : BitVec 32) : rowOf v < 16384 := min_lt _ (max_nonneg v)

/-- The table element an id and a column name. -/
def eAt (c : Dev nD) (v : BitVec 32) (j : Fin 1024) : F .f32 :=
  Ew c (fun a => match a with | ⟨0, _⟩ => ⟨rowOf v, rowOf_lt v⟩ | ⟨1, _⟩ => j)

/-- What the row buffer holds once gathered: the table's row where the id is in the half, zero elsewhere. -/
def G (c : Dev nD) : (cc0_scratch0 : Ref sig .tc).ty.Contents (Elt F) := fun i =>
  if Hit (word ids c (i 0)) then eAt Ew c (word ids c (i 0)) (i 1) else k0_pay1 (F := F) i
/-- The part sum the device sends: its rows, rounded. -/
def P (c : Dev nD) : (cc0_scratch1 : Ref sig .tc).ty.Contents (Elt F) := (truncf .bf16 (G ids Ew c : FVec F S512x1024 .f32) bitsLt_bf16_f32 : FVec F S512x1024 .bf16)
/-- The sum of the two halves' rows. -/
def Cb (c : Dev nD) : (cc0_scratch3 : Ref sig .tc).ty.Contents (Elt F) := (addf (P ids Ew c : FVec F S512x1024 .bf16) (P ids Ew (px c)) : FVec F S512x1024 .bf16)
/-- The result: quarter `q` holds the sum of the device of this `x` that looks quarter `q` up. -/
def Out (c : Dev nD) : (main_v8 : Ref sig .tc).ty.Contents (Elt F) := fun i =>
  Cb ids Ew (⟨4 * (c.val / 4) + (i 0).val / 512, by
      have h0 : (i 0).val < 2048 := (i 0).isLt
      have := c.isLt; have h : nD = 8 := rfl; omega⟩ : Dev nD)
    (fun a => match a with | ⟨0, _⟩ => ⟨(i 0).val % 512, Nat.mod_lt _ (by decide)⟩ | ⟨1, _⟩ => i 1)

end Contents

/-! ## Writing a piece whose new contents are known -/

/-- What a full write through a view leaves on the view's elements is any contents that read as the payload. -/
theorem write_agree {κ : Kind} {sp : Space} {s : Shape} {e : EltTy} {Val : EltTy → Type} (v : View sig κ sp s e)
    (f g : v.ty.Contents Val) (w : s.Idx → Val e) (h : v.read Val g = w) : ∀ i ∈ v.set, v.write Val f w Finset.univ i = g i := by
  intro i hi
  subst h
  rw [View.set, Finset.mem_map] at hi
  obtain ⟨x, -, rfl⟩ := hi
  rw [View.write_emb_of_mem _ _ (Finset.mem_univ x), View.read_apply, cast_cast, cast_eq]

end Cert.Emb
-- ==== Proof.Protocol.lean ====
/-
# Protocol: the cells two devices share, what each hands over, who owes what, and in what order cells are waited for
-/
module

public import proofs.«01_k».proof.Proof.Geometry

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's cells, the cells of the protocol, and the counts of the local copies. -/
abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := (Emb.inl).trans embR
abbrev EC : UEmb Counters (MT nD τ sig Unit (Elt F) ℕ UU ℕ) := countersEmb

abbrev 𝒱₀ : Variants := Variants.none

/-! ## Pieces of buffers -/

/-- Chunk `k` of a buffer of device `c`, at a share, holding `f` there. -/
abbrev at' {e : EltTy} (c : Dev nD) (b : Memref sig .tc .vmem S512x1024 e) (k : Fin 8) (q : PosShare TreeShare)
    (f : Buf (Elt F) ((ch b k).view.loc (c : Thread nD τ))) : sProp 𝕄 :=
  (ch b k).view.loc (c : Thread nD τ) ↦[(ch b k).view.set]{q} f

/-- The block of device `c`'s result that chunk `k` of device `e`'s sum goes to. -/
abbrev outAt (c e : Dev nD) (k : Fin 8) (f : Buf (Elt F) ((ob e k).view.loc (c : Thread nD τ))) : sProp 𝕄 :=
  (ob e k).view.loc (c : Thread nD τ) ↦[(ob e k).view.set]{fullShare} f

/-- Where the forward of chunk `k` lands: along `y` for the first four chunks, along `z` for the others. -/
def fd (c : Dev nD) (k : Fin 8) : Dev nD := if k.val < 4 then py c else pz c
theorem fd_fd (c : Dev nD) (k : Fin 8) : fd (fd c k) k = c := by revert c k; decide

section Sched
variable (ids : Dev nD → (cc0_stg0_0 : Ref sig .tc).ty.Contents (Elt F)) (Ew : Dev nD → (main_arg1 : Ref sig .tc).ty.Contents (Elt F))

/-! ## The payloads -/

/-- What semaphore `(j, k)` of device `c` hands over: a send gives the share of its source back, an arrival the chunk
    that landed. -/
def pay (c : Dev nD) (j k : Fin 8) : sProp 𝕄 :=
  match j with
  | ⟨0, _⟩ => at' c pb k fullShare.left (P ids Ew c)
  | ⟨1, _⟩ => at' c xb k fullShare (P ids Ew (px c))
  | ⟨2, _⟩ => at' c cb k fullShare.left (Cb ids Ew c)
  | ⟨3, _⟩ => at' c yb k fullShare (Cb ids Ew (py c))
  | ⟨4, _⟩ => at' c cb k fullShare.right.left (Cb ids Ew c)
  | ⟨5, _⟩ => at' c zb k fullShare (Cb ids Ew (pz c))
  | ⟨6, _⟩ => if k.val < 4 then at' c zb k fullShare.left (Cb ids Ew (pz c)) else at' c yb k fullShare.left (Cb ids Ew (py c))
  | ⟨_ + 7, _⟩ => at' c db k fullShare (Cb ids Ew (dg c))

/-- A landing chunk of device `d`, at contents nobody knows, and that its arrival cell `(j, k)` is open. -/
def land {e : EltTy} (d : Dev nD) (b : Memref sig .tc .vmem S512x1024 e) (j k : Fin 8) : sProp 𝕄 :=
  iprop((∃ f, at' (F := F) d b k fullShare f) ∗ reached ER (cellAt d j k) 0)

/-- What device `c`'s barrier brings: from the neighbour along `x` (duty 0), `y` (1) and `z` (2) their landing chunks. -/
def barPay (c : Dev nD) (d : Fin 3) : sProp 𝕄 :=
  match d with
  | ⟨0, _⟩ => bigSep Finset.univ fun k : Fin 8 => land (F := F) (px c) xb 1 k
  | ⟨1, _⟩ => bigSep Finset.univ fun k : Fin 8 =>
      iprop(land (F := F) (py c) yb 3 k ∗ if k.val < 4 then land (F := F) (py c) db 7 k else iprop(emp))
  | ⟨_ + 2, _⟩ => bigSep Finset.univ fun k : Fin 8 =>
      iprop(land (F := F) (pz c) zb 5 k ∗ if k.val < 4 then iprop(emp) else land (F := F) (pz c) db 7 k)

omit [FloatOps F] in
instance land_storable {e : EltTy} (d : Dev nD) (b : Memref sig .tc .vmem S512x1024 e) (j k : Fin 8) :
    BI.Storable (upEmb : UEmb _ 𝕄) (land (F := F) d b j k) := by unfold land; infer_instance
instance pay_storable (c : Dev nD) (j k : Fin 8) : BI.Storable (upEmb : UEmb _ 𝕄) (pay ids Ew c j k) := by
  unfold pay; (repeat' split) <;> infer_instance
omit [FloatOps F] in
instance barPay_storable (c : Dev nD) (d : Fin 3) : BI.Storable (upEmb : UEmb _ 𝕄) (barPay (F := F) c d) := by
  have hi (p : Prop) [Decidable p] (A B : sProp 𝕄) [BI.Storable (upEmb : UEmb _ 𝕄) A] [BI.Storable (upEmb : UEmb _ 𝕄) B] :
      BI.Storable (upEmb : UEmb _ 𝕄) (if p then A else B) := by split <;> infer_instance
  unfold barPay; split <;> infer_instance

/-! ## The schedule -/

/-- The cell is one of the protocol's semaphores that cross devices. -/
abbrev Is (s : SemLoc sig) : Prop := ∃ p : Fin 8 × Fin 8, s = .dma (semIx p.1 p.2)

open Classical in
/-- Every cell has one round: the barrier three duties, one from each neighbour, every other cell one. -/
def sched : Rounds.Schedule (GSem nD τ sig) (Fin 3) 𝕄 where
  duties g r := if r = 0 ∧ g.1.2 = .tc then (if g.2 = .reg barS then Finset.univ else if Is g.2 then {0} else ∅) else ∅
  unitless _ := False
  amount g _ _ := if g.2 = .reg barS then 1 else N
  payload g _ d :=
    if g.2 = .reg barS then barPay (F := F) g.1.1 d
    else if h : Is g.2 then pay ids Ew g.1.1 h.choose.1 h.choose.2
    else iprop(emp)
  amount_pos g _ _ _ := by
    by_cases h : g.2 = .reg barS
    · rw [if_pos h]; exact Nat.one_pos
    · rw [if_neg h]; exact N_pos

open Classical in
instance sched_payload_storable (g : GSem nD τ sig) (r : ℕ) (d : Fin 3) : BI.Storable (upEmb : UEmb _ 𝕄) ((sched ids Ew).payload g r d) := by
  show BI.Storable upEmb (if g.2 = .reg barS then barPay (F := F) g.1.1 d
    else if h : Is g.2 then pay ids Ew g.1.1 h.choose.1 h.choose.2 else iprop(emp))
  (repeat' split) <;> infer_instance

theorem dma_ne_bar (s : DmaSem sig) : (SemLoc.dma s : SemLoc sig) ≠ .reg barS := fun h => by cases h

theorem duties_bar (c : Dev nD) : (sched ids Ew).duties (barCell c) 0 = Finset.univ := by
  dsimp only [sched]; rw [if_pos ⟨rfl, rfl⟩]; exact if_pos rfl
theorem duties_at (c : Dev nD) (j k : Fin 8) : (sched ids Ew).duties (cellAt c j k) 0 = {0} := by
  dsimp only [sched]; rw [if_pos ⟨rfl, rfl⟩, if_neg (dma_ne_bar _)]; exact if_pos ⟨(j, k), rfl⟩
theorem duties_later (g : GSem nD τ sig) : ∀ r, 1 ≤ r → (sched ids Ew).duties g r = ∅ :=
  fun r hr => by dsimp only [sched]; exact if_neg fun h => by omega
theorem amount_bar (c : Dev nD) (d : Fin 3) : (sched ids Ew).amount (barCell c) 0 d = 1 := by dsimp only [sched]; exact if_pos rfl
theorem amount_at (c : Dev nD) (j k : Fin 8) (d : Fin 3) : (sched ids Ew).amount (cellAt c j k) 0 d = N := by
  dsimp only [sched]; exact if_neg (dma_ne_bar _)
theorem expect_bar (c : Dev nD) : (sched ids Ew).expect (barCell c) 0 = 3 := by
  unfold Schedule.expect Schedule.amountOf
  rw [duties_bar, Finset.sum_congr rfl fun d _ => amount_bar ids Ew c d]; rfl
theorem expect_at (c : Dev nD) (j k : Fin 8) : (sched ids Ew).expect (cellAt c j k) 0 = N := by
  unfold Schedule.expect Schedule.amountOf; rw [duties_at, Finset.sum_singleton, amount_at]
theorem payload_bar (c : Dev nD) (d : Fin 3) : (sched ids Ew).payload (barCell c) 0 d = barPay (F := F) c d := by
  dsimp only [sched]; exact if_pos rfl
theorem payload_at (c : Dev nD) (j k : Fin 8) (d : Fin 3) : (sched ids Ew).payload (cellAt c j k) 0 d = pay ids Ew c j k := by
  have h : Is (.dma (semIx j k)) := ⟨(j, k), rfl⟩
  have h1 : h.choose = (j, k) := semIx_inj _ _ (by have := h.choose_spec; injection this with h2; exact h2.symm)
  dsimp only [sched]; rw [if_neg (dma_ne_bar _), dif_pos h, h1]
theorem rest_bar (c : Dev nD) : bigSep ((sched ids Ew).duties (barCell c) 0 \ ∅) (fun u => (sched ids Ew).payload (barCell c) 0 u)
    = bigSep Finset.univ fun d => barPay (F := F) c d := by
  rw [Finset.sdiff_empty, duties_bar]; exact bigSep_congr fun d _ => payload_bar ids Ew c d
theorem rest_at (c : Dev nD) (j k : Fin 8) :
    bigSep ((sched ids Ew).duties (cellAt c j k) 0 \ ∅) (fun u => (sched ids Ew).payload (cellAt c j k) 0 u) = pay ids Ew c j k := by
  rw [Finset.sdiff_empty, duties_at, bigSep_singleton, payload_at]

end Sched

/-! ## Levels and what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of semaphore `(j, k)`: arrivals are waited for in this order. -/
def lvOf (j k : Fin 8) : ℕ := if j.val = 1 then 2 + k.val else if j.val = 3 then 20 + k.val else if j.val = 5 then 20 + k.val
  else if j.val = 7 then 40 else 0

open Classical in
/-- The level of a cell: the barrier comes first, then the arrivals along `x`, along `y` and `z`, and across. -/
def lv (g : GSem nD τ sig) (_ : Unit) : ℕ :=
  if g.2 = .reg barS then 1 else if h : Is g.2 then lvOf h.choose.1 h.choose.2 else 0

theorem lv_bar (c : Dev nD) (u : Unit) : lv (barCell c) u = 1 := by unfold lv; exact if_pos rfl
theorem lv_at (c : Dev nD) (j k : Fin 8) (u : Unit) : lv (cellAt c j k) u = lvOf j k := by
  have h : Is (.dma (semIx j k)) := ⟨(j, k), rfl⟩
  have h1 : h.choose = (j, k) := semIx_inj _ _ (by have := h.choose_spec; injection this with h2; exact h2.symm)
  unfold lv; rw [if_neg (dma_ne_bar _), dif_pos h, h1]
theorem lv_other (c : Dev nD) (s : DmaSem sig) (hs : ∀ p : Fin 8 × Fin 8, s ≠ semIx p.1 p.2) (u : Unit) : lv ((c : Thread nD τ), .dma s) u = 0 := by
  unfold lv; rw [if_neg (dma_ne_bar _), dif_neg]
  rintro ⟨p, hp⟩; injection hp with h; exact hs p h
theorem gsem_ne (k : Fin 8) : ∀ p : Fin 8 × Fin 8, gsem k ≠ semIx p.1 p.2 := by revert k; decide +kernel
theorem osem_ne (j : Fin 4) (k : Fin 8) : ∀ p : Fin 8 × Fin 8, osem j k ≠ semIx p.1 p.2 := by revert j k; decide +kernel

/-- When the forward of chunk `k` goes, among the chunk's 24 steps. -/
def tfw (k : Fin 8) : ℕ := if k.val < 4 then 10 else 12

/-- What device `c` still owes for chunk `k` when `p` of the chunk's steps are done: the arrivals of the copies it has
    not sent yet. -/
def owedK (c : Dev nD) (k : Fin 8) (p : ℕ) : CellTallies nD τ sig Unit :=
  (if p ≤ 3 then tallyAt (cellAt (px c) 1 k) () N else 0) + (if p ≤ 6 then tallyAt (cellAt (py c) 3 k) () N else 0)
    + (if p ≤ 7 then tallyAt (cellAt (pz c) 5 k) () N else 0) + (if p ≤ tfw k then tallyAt (cellAt (fd c k) 7 k) () N else 0)

/-- How many of chunk `k`'s steps are done when the steps `l` remain. -/
abbrev phase (l : List (Fin 8)) (k : Fin 8) : ℕ := 24 - l.count k

/-- What device `c` still owes when the steps `l` remain. -/
def owed (c : Dev nD) (l : List (Fin 8)) : CellTallies nD τ sig Unit := ∑ k, owedK c k (phase l k)

/-- Everything still owed when the steps `l` remain sits above level `b`. -/
abbrev Above (b : ℕ) (l : List (Fin 8)) : Prop :=
  ∀ k : Fin 8, (phase l k ≤ 3 → b < 2 + k.val) ∧ (phase l k ≤ 7 → b < 20 + k.val) ∧ (phase l k ≤ tfw k → b < 40)

theorem owedK_pos {c : Dev nD} {k : Fin 8} {p : ℕ} {g : GSem nD τ sig} {u : Unit} (h : 0 < owedK c k p g u) :
    (p ≤ 3 ∧ g = cellAt (px c) 1 k) ∨ (p ≤ 7 ∧ (g = cellAt (py c) 3 k ∨ g = cellAt (pz c) 5 k)) ∨ (p ≤ tfw k ∧ g = cellAt (fd c k) 7 k) := by
  have one : ∀ (g' : GSem nD τ sig) (a : Prop) [Decidable a], 0 < (if a then tallyAt g' () N else (0 : CellTallies nD τ sig Unit)) g u → a ∧ g = g' := by
    intro g' a _ h
    by_cases ha : a
    · rw [if_pos ha, tallyAt_apply] at h
      by_cases hg : g = g' ∧ u = ()
      · exact ⟨ha, hg.1⟩
      · rw [if_neg hg] at h; exact absurd h (Nat.lt_irrefl 0)
    · rw [if_neg ha] at h; exact absurd h (Nat.lt_irrefl 0)
  unfold owedK at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (one _ _ h)
      · exact .inr (.inl ⟨by have := (one _ _ h).1; omega, .inl (one _ _ h).2⟩)
    · exact .inr (.inl ⟨(one _ _ h).1, .inr (one _ _ h).2⟩)
  · exact .inr (.inr (one _ _ h))

theorem owed_pos {c : Dev nD} {l : List (Fin 8)} {g : GSem nD τ sig} {u : Unit} (h : 0 < owed c l g u) :
    ∃ k, 0 < owedK c k (phase l k) g u := by
  by_contra hn
  push Not at hn
  unfold owed at h
  rw [Finset.sum_apply, Finsupp.finset_sum_apply] at h
  rw [Finset.sum_eq_zero (fun k _ => Nat.le_zero.mp (hn k))] at h
  exact Nat.lt_irrefl 0 h

/-- What is owed for chunks sits at levels the condition `Above` compares with. -/
theorem owed_above {b : ℕ} {c : Dev nD} {l : List (Fin 8)} (hA : Above b l) {g : GSem nD τ sig} {u : Unit} (h : 0 < owed c l g u) :
    u ∈ L g ∧ b < lv g u := by
  obtain ⟨k, hk⟩ := owed_pos h
  obtain ⟨h1, h2, h3⟩ := hA k
  rcases owedK_pos hk with ⟨hp, rfl⟩ | ⟨hp, rfl | rfl⟩ | ⟨hp, rfl⟩
  · exact ⟨by rw [L_tc]; exact Finset.mem_singleton_self _, by rw [lv_at]; exact h1 hp⟩
  · exact ⟨by rw [L_tc]; exact Finset.mem_singleton_self _, by rw [lv_at]; exact h2 hp⟩
  · exact ⟨by rw [L_tc]; exact Finset.mem_singleton_self _, by rw [lv_at]; exact h2 hp⟩
  · exact ⟨by rw [L_tc]; exact Finset.mem_singleton_self _, by rw [lv_at]; exact h3 hp⟩

/-- A cell at level `b` or below may be waited for while everything owed sits above. -/
theorem mayWait (b : ℕ) (c : Dev nD) (s : SemLoc sig) (l : List (Fin 8)) (hA : Above b l) (hs : lv ((c : Thread nD τ), s) () ≤ b) :
    (levAts L lv : sProp 𝕄) ⊢ MayWait (c : Thread nD τ) s () (owed c l) :=
  MayOwe.of_cut (L := L) (lev := lv) b (fun p hp => by rw [Finset.mem_singleton.mp hp, L_tc]; exact Finset.mem_singleton_self _)
    (fun g u hg => (owed_above hA hg).1)
    (fun p hp => by rw [Finset.mem_singleton.mp hp]; exact hs)
    (fun g u hg => (owed_above hA hg).2)

/-- What device `c` owes at the launch: a unit to each neighbour's barrier, and every arrival it sends. -/
def O₀ (c : Dev nD) (l : List (Fin 8)) : CellTallies nD τ sig Unit :=
  owed c l + tallyAt (barCell (pz c)) () 1 + tallyAt (barCell (py c)) () 1 + tallyAt (barCell (px c)) () 1

end Cert.Emb
-- ==== Proof.Gather.lean ====
/-
# Gather: one chunk's row copies, started by a loop over the ids and drained by another

A chunk has 64 ids. A row whose id lies in the device's half of the table is copied from there; the others keep the
zeros. All of a chunk's copies run on one semaphore, and nothing is known of any until all are waited for.
-/
module

public import proofs.«01_k».proof.Proof.Protocol
public import Mathlib.Data.Nat.Count
public import Idealize.ShloMosaic.Lib.Pipeline.ValueKit.Geometry

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a program is shown to do: run from the resources at hand, it ends in `Q`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- A program that is done has its result's assertion to show. -/
theorem wp_end (c : Dev nD) {α : Type} (a : α) (Q : α → sProp 𝕄) : Q a ⊢ WP c (.ret a) Q := by
  show Q a ⊢ wp frame (wpE (defs₀ (F := F)) 𝒱₀ (c : Thread nD τ) none) Set.univ (.ret a) Q
  rw [wp_ret]
  iintro H
  imodintro
  iexact H

/-- A program may be entered through an update. -/
theorem wp_of_fupd (c : Dev nD) {α : Type} {e : Prog (TpuEff nD τ sig (Elt F) Λ₀ .tc) α} {Q : α → sProp 𝕄} :
    iprop(|={Set.univ}=> WP c e Q) ⊢ WP c e Q := Entails.of_eq (fupd_wp_eq _ _ _ e Q)

/-- Row `i` of chunk `k` among the buffer's 512. -/
def ix (k : Fin 8) (i : Fin 64) : Fin 512 := ⟨64 * k.val + i.val, by have := k.isLt; have := i.isLt; omega⟩

/-- What the row buffer holds before the gather. -/
abbrev zeros : (cc0_scratch0 : Ref sig .tc).ty.Contents (Elt F) := k0_pay1 (F := F)

section
variable (ids : Dev nD → (cc0_stg0_0 : Ref sig .tc).ty.Contents (Elt F)) (Ew : Dev nD → (main_arg1 : Ref sig .tc).ty.Contents (Elt F))
variable (c : Dev nD) (k : Fin 8)

/-- The id of row `i` of the chunk. -/
abbrev wd (i : Fin 64) : BitVec 32 := word ids c (ix k i)
/-- Row `n` of the chunk is copied. -/
def hitAt (n : ℕ) : Prop := ∃ h : n < 64, Hit (wd ids c k ⟨n, h⟩)
instance : DecidablePred (hitAt ids c k) := fun n => by unfold hitAt Hit; infer_instance
/-- How many of the first `n` rows are copied. -/
def cnt (n : ℕ) : ℕ := Nat.count (hitAt ids c k) n

/-- The row whose copy is the `t`-th to start. -/
def nth (t : ℕ) : ℕ := Classical.epsilon fun n => hitAt ids c k n ∧ cnt ids c k n = t
theorem nth_cnt {n : ℕ} (h : hitAt ids c k n) : nth ids c k (cnt ids c k n) = n := by
  have hs := Classical.epsilon_spec (p := fun m => hitAt ids c k m ∧ cnt ids c k m = cnt ids c k n) ⟨n, h, rfl⟩
  exact Nat.count_injective hs.1 h hs.2

/-- The share of the table that row `i` of the chunk reads with. -/
abbrev qE (i : Fin 64) : PosShare TreeShare := ShareLeaves.leaf 6 (ShareLeaves.leaf 3 fullShare k) i
/-- The table row an id names, as a piece of the device's half. -/
abbrev eR (v : BitVec 32) : Memref sig .tc .hbm S1x1024 .f32 := erow (rowOf v) (rowOf_lt v)

/-- The table at row `i`'s share. -/
def eAll (i : Fin 64) : sProp 𝕄 := em.view.loc (c : Thread nD τ) ↦[Finset.univ]{qE k i} Ew c
/-- Row `i` of the chunk, holding `f`. -/
def rowAt (i : Fin 64) (f : (cc0_scratch0 : Ref sig .tc).ty.Contents (Elt F)) : sProp 𝕄 :=
  (row gb (ix k i)).view.loc (c : Thread nD τ) ↦[(row gb (ix k i)).view.set]{fullShare} f

/-- A row not looked at yet. -/
def todo (i : Fin 64) : sProp 𝕄 := iprop(eAll Ew c k i ∗ rowAt (F := F) c k i zeros)
/-- A row looked at: what is left in hand while its copy, if it has one, is on its way. -/
def done (i : Fin 64) : sProp 𝕄 :=
  if Hit (wd ids c k i) then (em.view.loc (c : Thread nD τ) ↦[Finset.univ \ (eR (wd ids c k i)).view.set]{qE k i} Ew c)
  else iprop(eAll Ew c k i ∗ rowAt (F := F) c k i (G ids Ew c))
/-- What a row's copy delivers: the row, and the share of the table row it read. -/
def dl (i : Fin 64) : sProp 𝕄 :=
  iprop(rowAt (F := F) c k i (G ids Ew c) ∗ (em.view.loc (c : Thread nD τ) ↦[(eR (wd ids c k i)).view.set]{qE k i} Ew c))
def dlN (n : ℕ) : sProp 𝕄 := if h : n < 64 then dl ids Ew c k ⟨n, h⟩ else iprop(emp)
/-- The chunk's deliveries in the order the copies start. -/
def dls (t : Fin (cnt ids c k 64)) : sProp 𝕄 := dlN ids Ew c k (nth ids c k t.val)

instance dls_storable (t) : BI.Storable (upEmb : UEmb _ 𝕄) (dls ids Ew c k t) := by
  unfold dls dlN dl rowAt; split <;> infer_instance

/-- The rows, when the first `n` are looked at. -/
def rows (n : ℕ) : sProp 𝕄 := bigSep Finset.univ fun i : Fin 64 => if i.val < n then done ids Ew c k i else todo Ew c k i
/-- The chunk's copies, when the first `n` rows are looked at and none is waited for. -/
abbrev fly (n u : ℕ) : sProp 𝕄 :=
  Transfers.Batch (EC (F := F)) (c : Thread nD τ) (.dma (gsem k)) () NR (dls ids Ew c k) n u
def gInv (n : ℕ) : sProp 𝕄 := iprop(rows ids Ew c k n ∗ fly ids Ew c k (cnt ids c k n) 0)

theorem rows_at (n : ℕ) (hn : n < 64) :
    rows ids Ew c k n = iprop(todo Ew c k ⟨n, hn⟩ ∗ bigSep (Finset.univ.erase (⟨n, hn⟩ : Fin 64)) fun i => if i.val < n then done ids Ew c k i else todo Ew c k i)
    ∧ rows ids Ew c k (n + 1) = iprop(done ids Ew c k ⟨n, hn⟩ ∗ bigSep (Finset.univ.erase (⟨n, hn⟩ : Fin 64)) fun i => if i.val < n then done ids Ew c k i else todo Ew c k i) := by
  unfold rows
  constructor
  · rw [bigSep_univ_at _ (⟨n, hn⟩ : Fin 64), if_neg (Nat.lt_irrefl n)]
  · rw [bigSep_univ_at _ (⟨n, hn⟩ : Fin 64), if_pos (Nat.lt_succ_self n)]
    refine congrArg _ (bigSep_congr fun i hi => ?_)
    have hne : i.val ≠ n := fun h => (Finset.ne_of_mem_erase hi) (Fin.ext h)
    by_cases h : i.val < n
    · rw [if_pos h, if_pos (by omega)]
    · rw [if_neg h, if_neg (by omega)]

theorem hitAt_iff (n : ℕ) (hn : n < 64) : hitAt ids c k n ↔ Hit (wd ids c k ⟨n, hn⟩) := ⟨fun ⟨_, h⟩ => h, fun h => ⟨hn, h⟩⟩

/-- A row that reads zero and whose id is outside the half holds what the gather leaves there. -/
theorem zeros_agree (i : Fin 64) (h : ¬Hit (wd ids c k i)) :
    ∀ j ∈ (row gb (ix k i)).view.set, zeros (F := F) j = G ids Ew c j := by
  intro j hj
  have h0 : j 0 = ix k i := by
    rw [show (row gb (ix k i)).view.set = (Rect.unit (s := S512x1024) ![(ix k i).val, 0] S1x1024.size (inbRow _)).set from View.set_slice_whole _ _,
      Rect.mem_set_unit] at hj
    have := hj 0
    exact Fin.ext (by have h1 := this.1; have h2 := this.2; simp at h1 h2; omega)
  unfold G
  rw [h0, if_neg h]

/-- What a copied row reads is what the gather leaves there. -/
theorem row_read (i : Fin 64) (h : Hit (wd ids c k i)) :
    (row gb (ix k i)).view.read (Elt F) (G ids Ew c) = (eR (wd ids c k i)).view.read (Elt F) (Ew c) := by
  funext x
  have hx0 : x 0 = (0 : Fin 1) := Fin.ext (by have : (x 0).val < 1 := (x 0).isLt; simpa using this)
  have e0 : (row gb (ix k i)).view.emb x 0 = ix k i := Fin.ext (by
    rw [ValueKit.view_emb_slice_whole_unit_val]; simp [hx0])
  have e1 : (row gb (ix k i)).view.emb x 1 = x 1 := Fin.ext (by
    rw [ValueKit.view_emb_slice_whole_unit_val]; simp)
  rw [View.read_apply, View.read_apply, cast_eq, cast_eq]
  unfold G
  rw [e0, e1, if_pos h]
  unfold eAt
  congr 1
  funext a
  fin_cases a
  · exact Fin.ext (by show _ = ((eR (wd ids c k i)).view.emb x 0).val; rw [ValueKit.view_emb_slice_whole_unit_val]; simp [hx0])
  · exact Fin.ext (by show _ = ((eR (wd ids c k i)).view.emb x 1).val; rw [ValueKit.view_emb_slice_whole_unit_val]; simp)

/-- The table at a row's share, the row an id names taken out. -/
theorem eAll_split (i : Fin 64) (v : BitVec 32) : eAll Ew c k i
    = iprop((em.view.loc (c : Thread nD τ) ↦[(eR v).view.set]{qE k i} Ew c) ∗ (em.view.loc (c : Thread nD τ) ↦[Finset.univ \ (eR v).view.set]{qE k i} Ew c)) :=
  have h := pointsTo_split_subset (ℓ := em.view.loc (c : Thread nD τ)) (q := qE k i) (f := Ew c) (Finset.subset_univ (eR v).view.set)
  Entails.antisymm h.1 h.2

/-- A row whose id is outside the half is passed over. -/
theorem row_miss (n : ℕ) (hn : n < 64) (h : ¬Hit (wd ids c k ⟨n, hn⟩)) : gInv ids Ew c k n ⊢ gInv ids Ew c k (n + 1) := by
  unfold gInv
  rw [(rows_at ids Ew c k n hn).1, (rows_at ids Ew c k n hn).2,
    show cnt ids c k (n + 1) = cnt ids c k n from by
      unfold cnt; rw [Nat.count_succ, if_neg (fun h' => h ((hitAt_iff ids c k n hn).mp h')), Nat.add_zero]]
  unfold done todo; rw [if_neg h]
  unfold rowAt
  rw [pointsTo_congr (zeros_agree ids Ew c k ⟨n, hn⟩ h)]

/-- A row whose id lies in the half: its copy starts. -/
theorem row_hit (n : ℕ) (hn : n < 64) (h : Hit (wd ids c k ⟨n, hn⟩))
    {src : Memref sig .tc .hbm S1x1024 .f32} {dst : Memref sig .tc .vmem S1x1024 .f32} {sem : DmaSem sig}
    (hs : src = eR (wd ids c k ⟨n, hn⟩)) (hd : dst = row gb (ix k ⟨n, hn⟩)) (hm : sem = gsem k)
    {h1 : src.view.WordExact} {h2 : dst.view.WordExact} {h3 : DmaTarget.Typed (nD := nD) (p := Proc.tc) .hbm (.dma sem) (.here dst)}
    {α : Type} {Q : α → sProp 𝕄} {K : PUnit → Prog (TpuEff nD τ sig (Elt F) Λ₀ .tc) α} (R : sProp 𝕄)
    (hk : iprop(gInv ids Ew c k (n + 1) ∗ R) ⊢ WP c (K ⟨⟩) Q) :
    iprop(gInv ids Ew c k n ∗ R) ⊢ WP c (.op (.enqueueDma src (.here dst) (.dma sem) h1 h2 h3) K) Q := by
  subst hs hd hm
  have hlt : cnt ids c k n < cnt ids c k 64 := by
    unfold cnt
    exact Nat.count_strict_mono ((hitAt_iff ids c k n hn).mpr h) hn
  have hD : dls ids Ew c k ⟨cnt ids c k n, hlt⟩ = dl ids Ew c k ⟨n, hn⟩ := by
    unfold dls dlN
    dsimp only
    rw [nth_cnt ids c k ((hitAt_iff ids c k n hn).mpr h), dif_pos hn]
  rw [show gInv ids Ew c k n = iprop(rows ids Ew c k n ∗ fly ids Ew c k (cnt ids c k n) 0) from rfl, (rows_at ids Ew c k n hn).1]
  rw [show todo Ew c k ⟨n, hn⟩ = iprop(eAll Ew c k ⟨n, hn⟩ ∗ (row gb (ix k ⟨n, hn⟩)).view.loc (c : Thread nD τ) ↦[(row gb (ix k ⟨n, hn⟩)).view.set]{fullShare} zeros) from rfl]
  rw [eAll_split Ew c k ⟨n, hn⟩ (wd ids c k ⟨n, hn⟩)]
  iintro ⟨⟨⟨⟨⟨HE, HE'⟩, HR⟩, Hrows⟩, HB⟩, HR'⟩
  iapply (Transfers.wp_dmaBatch (EC (F := F)) 𝒱₀ (c : Thread nD τ) none (src := eR (wd ids c k ⟨n, hn⟩)) (dst := row gb (ix k ⟨n, hn⟩)) () NR (Sd := (row gb (ix k ⟨n, hn⟩)).view.set)
    (q := qE k ⟨n, hn⟩) (D := dls ids Ew c k) (fs := Ew c) (fd := zeros) rfl (Finset.Subset.refl _) hlt (Nat.zero_le _) (by
      rw [hD]
      exact sep_mono (Entails.of_eq (pointsTo_congr (write_agree (row gb (ix k ⟨n, hn⟩)).view zeros (G ids Ew c) _ (row_read ids Ew c k ⟨n, hn⟩ h)))) .rfl)) $$ [HE HR HB]
  · isplitl [HE]; · iexact HE
    isplitl [HR]; · iexact HR
    iexact HB
  iintro HB
  iapply hk
  isplitr [HR']
  · rw [show gInv ids Ew c k (n + 1) = iprop(rows ids Ew c k (n + 1) ∗ fly ids Ew c k (cnt ids c k (n + 1)) 0) from rfl,
      (rows_at ids Ew c k n hn).2, show cnt ids c k (n + 1) = cnt ids c k n + 1 from by
      unfold cnt; rw [Nat.count_succ, if_pos ((hitAt_iff ids c k n hn).mpr h)]]
    isplitr [HB]
    · isplitl [HE']
      · unfold done; rw [if_pos h]; iexact HE'
      · iexact Hrows
    · iexact HB
  · iexact HR'

/-- The count of copied rows, as the program keeps it. -/
theorem count_word (n : ℕ) (hn : n < 64) :
    Scalar.addi (BitVec.ofNat 32 (cnt ids c k n))
      (Scalar.extui (Scalar.andi (Scalar.cmpi .sge (wd ids c k ⟨n, hn⟩) 0#32) (Scalar.cmpi .slt (wd ids c k ⟨n, hn⟩) 16384#32)))
    = BitVec.ofNat 32 (cnt ids c k (n + 1)) := by
  have key : ∀ b : BitVec 1, Scalar.cmpi .ne (Scalar.extui b : BitVec 32) 0#32 = 1#1 → (Scalar.extui b : BitVec 32) = 1#32 := by decide
  have key' : ∀ b : BitVec 1, ¬(Scalar.cmpi .ne (Scalar.extui b : BitVec 32) 0#32 = 1#1) → (Scalar.extui b : BitVec 32) = 0#32 := by decide
  unfold cnt
  rw [Nat.count_succ]
  by_cases h : Hit (wd ids c k ⟨n, hn⟩)
  · rw [if_pos ((hitAt_iff ids c k n hn).mpr h), key _ h]
    exact (BitVec.ofNat_add _ 1).symm
  · rw [if_neg (fun h' => h ((hitAt_iff ids c k n hn).mp h')), key' _ h]
    exact BitVec.add_zero _

/-- The ids, as the device holds them. -/
abbrev idsAt : sProp 𝕄 := sm.view.loc (c : Thread nD τ) ↦[Finset.univ]{fullShare} ids c

/-- What the bodies assume of an id holds of every id. -/
theorem chk (v : BitVec 32) : k0_chk1 v := fun _ a => inbE (rowOf v) (rowOf_lt v) a

/-- Half a trip of the gather loop: read an id, and start its row's copy if the id lies in the half. -/
def half (o1 : Fin 1 → ℕ) (i1 : ∀ a, o1 a + S1.size a ≤ S2048.size a) (o2 : Fin 2 → ℕ) (i2 : ∀ a, o2 a + S1x1024.size a ≤ S512x1024.size a)
    (sem : DmaSem sig) (acc : BitVec 32) {α : Type} (K : BitVec 32 → Prog (TpuEff nD τ sig (Elt F) Λ₀ .tc) α) :
    Prog (TpuEff nD τ sig (Elt F) Λ₀ .tc) α :=
  smemLoadElt (p := Proc.tc) sm (Rect.unit (s := S2048) o1 S1.size i1) (View.loads_smem_one rfl numel1_S1) (Shape.Idx.first (numel1_S1.symm ▸ Nat.one_pos)) fun v =>
  .op (.assume (k0_chk1 v) (k0_chk1.dec v)) fun l =>
  if h : k0_cond1 v = 1#1 then
    .op (.enqueueDma (em.slice (Rect.unit (s := S16384x1024) (k0_off3 v) S1x1024.size (k0_off3_inb v l.down h)) (fun _ => rfl))
      (.here (gb.slice (Rect.unit (s := S512x1024) o2 S1x1024.size i2) (fun _ => rfl))) (.dma sem) (View.wordExact_bits rfl) (View.wordExact_bits rfl)
      ⟨Or.inl rfl, trivial⟩) fun _ => K (Scalar.addi acc (Scalar.extui (Scalar.andi (Scalar.cmpi .sge v 0#32) (Scalar.cmpi .slt v 16384#32))))
  else K (Scalar.addi acc (Scalar.extui (Scalar.andi (Scalar.cmpi .sge v 0#32) (Scalar.cmpi .slt v 16384#32))))

theorem wp_half (n : ℕ) (hn : n < 64) {o1 i1 o2 i2} {sem : DmaSem sig} (h1 : o1 = ![512 * (c.val % 4) + (64 * k.val + n)])
    (h2 : o2 = ![64 * k.val + n, 0]) (hm : sem = gsem k)
    {α : Type} {Q : α → sProp 𝕄} {K : BitVec 32 → Prog (TpuEff nD τ sig (Elt F) Λ₀ .tc) α} (R : sProp 𝕄)
    (hk : iprop(gInv ids Ew c k (n + 1) ∗ idsAt ids c ∗ R) ⊢ WP c (K (BitVec.ofNat 32 (cnt ids c k (n + 1)))) Q) :
    iprop(gInv ids Ew c k n ∗ idsAt ids c ∗ R) ⊢ WP c (half o1 i1 o2 i2 sem (BitVec.ofNat 32 (cnt ids c k n)) K) Q := by
  subst h1 h2
  unfold half
  iintro ⟨Hg, Hs, HR⟩
  iapply (wp_smemLoadElt (defs := defs₀ (F := F)) 𝒱₀ (c : Thread nD τ) none Set.univ (m := sm)
    (r := Rect.unit (s := S2048) ![512 * (c.val % 4) + (64 * k.val + n)] S1.size i1) (S := Finset.univ) (f := ids c) (Finset.subset_univ _)) $$ Hs
  iintro Hs
  have hw : ∀ x, ((sm.access (Rect.unit (s := S2048) ![512 * (c.val % 4) + (64 * k.val + n)] S1.size i1)).read (Elt F) (ids c) x) = wd ids c k ⟨n, hn⟩ := by
    intro x
    have hx0 : (x 0).val = 0 := by have : (x 0).val < 1 := (x 0).isLt; omega
    rw [View.read_apply, cast_eq]
    refine congrArg (ids c) (funext fun a => ?_)
    fin_cases a
    exact Fin.ext ((ValueKit.view_emb_slice_whole_unit_val _ _ _ _ _ _).trans (by show 512 * (c.val % 4) + (64 * k.val + n) + (x 0).val = 512 * (c.val % 4) + (64 * k.val + n); omega))
  rw [hw]
  iapply (wp_assume (defs := defs₀ (F := F)) 𝒱₀ (c : Thread nD τ) none Set.univ (chk (wd ids c k ⟨n, hn⟩)))
  have hcw := count_word ids c k n hn
  by_cases h : Hit (wd ids c k ⟨n, hn⟩)
  · rw [dif_pos h]
    have hgo := row_hit ids Ew c k n hn h (src := em.slice (Rect.unit (s := S16384x1024) (k0_off3 (wd ids c k ⟨n, hn⟩)) S1x1024.size (k0_off3_inb _ (chk _) h)) (fun _ => rfl))
      (dst := gb.slice (Rect.unit (s := S512x1024) ![64 * k.val + n, 0] S1x1024.size i2) (fun _ => rfl)) rfl rfl hm
      (h1 := View.wordExact_bits rfl) (h2 := View.wordExact_bits rfl) (h3 := ⟨Or.inl rfl, trivial⟩) (Q := Q)
      (K := fun _ => K (BitVec.ofNat 32 (cnt ids c k (n + 1)))) iprop(idsAt ids c ∗ R) hk
    rw [hcw]
    iapply hgo
    isplitl [Hg]; · iexact Hg
    isplitl [Hs] <;> iassumption
  · rw [dif_neg h, hcw]
    iapply hk
    isplitl [Hg]; · iapply (row_miss ids Ew c k n hn h) $$ Hg
    isplitl [Hs] <;> iassumption

/-- The gather loop: a chunk's 64 ids, two a trip. -/
theorem wp_gather {ok : k0_t1_loop.OK} {body : Fin k0_t1_loop.trips → BitVec 32 → Prog (TpuEff nD τ sig (Elt F) Λ₀ .tc) (BitVec 32)}
    (hb : ∀ t acc, ∃ o1 i1 o2 i2 o1' i1' o2' i2' s s', body t acc = half o1 i1 o2 i2 s acc (fun a => half o1' i1' o2' i2' s' a .ret)
      ∧ o1 = ![512 * (c.val % 4) + (64 * k.val + 2 * t.val)] ∧ o2 = ![64 * k.val + 2 * t.val, 0] ∧ s = gsem k
      ∧ o1' = ![512 * (c.val % 4) + (64 * k.val + (2 * t.val + 1))] ∧ o2' = ![64 * k.val + (2 * t.val + 1), 0] ∧ s' = gsem k)
    {α : Type} {Q : α → sProp 𝕄} {K : BitVec 32 → Prog (TpuEff nD τ sig (Elt F) Λ₀ .tc) α} (R : sProp 𝕄)
    (hk : iprop(gInv ids Ew c k 64 ∗ idsAt ids c ∗ R) ⊢ WP c (K (BitVec.ofNat 32 (cnt ids c k 64))) Q) :
    iprop(gInv ids Ew c k 0 ∗ idsAt ids c ∗ R) ⊢ WP c (Scf.Loop.for k0_t1_loop ok 0#32 body >>= K) Q := by
  have htr : k0_t1_loop.trips = 32 := by decide
  have hI : ∀ (t : Fin k0_t1_loop.trips) (acc : BitVec 32),
      iprop(⌜acc = BitVec.ofNat 32 (cnt ids c k (2 * t.val))⌝ ∗ gInv ids Ew c k (2 * t.val) ∗ idsAt ids c)
        ⊢ WP c (body t acc) (fun a => iprop(⌜a = BitVec.ofNat 32 (cnt ids c k (2 * (t.val + 1)))⌝ ∗ gInv ids Ew c k (2 * (t.val + 1)) ∗ idsAt ids c)) := by
    intro t acc
    have ht : t.val < 32 := lt_of_lt_of_eq t.isLt htr
    obtain ⟨o1, i1, o2, i2, o1', i1', o2', i2', s, s', he, h1, h2, hs, h1', h2', hs'⟩ := hb t acc
    iintro ⟨%hacc, Hg, Hs⟩
    rw [he, hacc]
    iapply (wp_half ids Ew c k (2 * t.val) (by omega) h1 h2 hs iprop(True) (K := fun a => half o1' i1' o2' i2' s' a .ret)
      (wp_half ids Ew c k (2 * t.val + 1) (by omega) h1' h2' hs' iprop(True) (K := .ret)
        (Q := fun a => iprop(⌜a = BitVec.ofNat 32 (cnt ids c k (2 * (t.val + 1)))⌝ ∗ gInv ids Ew c k (2 * (t.val + 1)) ∗ idsAt ids c)) (by
          iintro ⟨Hg, Hs, -⟩
          iapply (wp_end c)
          isplitr; · ipureintro; rfl
          isplitl [Hg] <;> iassumption)))
    isplitl [Hg]; · iexact Hg
    isplitl [Hs]; · iexact Hs
    ipureintro; trivial
  iintro ⟨Hg, Hs, HR⟩
  iapply (Scf.wp_for_bind frame (wpE (defs₀ (F := F)) 𝒱₀ (c : Thread nD τ) none) Set.univ _ _ _ ok _ body
    (fun n acc => iprop(⌜acc = BitVec.ofNat 32 (cnt ids c k (2 * n))⌝ ∗ gInv ids Ew c k (2 * n) ∗ idsAt ids c)) hI) $$ [Hg Hs]
  · isplitr; · ipureintro; unfold cnt; rw [Nat.mul_zero, Nat.count_zero]
    isplitl [Hg] <;> iassumption
  iintro %acc ⟨%hacc, Hg, Hs⟩
  rw [show Scf.trips (w := 32) _ _ _ = 32 from htr] at *
  rw [hacc]
  iapply hk
  isplitl [Hg]; · iexact Hg
  isplitl [Hs] <;> iassumption

theorem nth_spec (m t : ℕ) (h : t < cnt ids c k m) : ∃ n, n < m ∧ hitAt ids c k n ∧ cnt ids c k n = t := by
  induction m with
  | zero => exact absurd h (by unfold cnt; rw [Nat.count_zero]; omega)
  | succ m ih =>
    by_cases hm : t < cnt ids c k m
    · obtain ⟨n, h1, h2, h3⟩ := ih hm
      exact ⟨n, by omega, h2, h3⟩
    · unfold cnt at h hm
      rw [Nat.count_succ] at h
      by_cases hh : hitAt ids c k m
      · rw [if_pos hh] at h
        exact ⟨m, by omega, hh, by unfold cnt; omega⟩
      · rw [if_neg hh] at h; omega

theorem nth_lt (t : Fin (cnt ids c k 64)) : nth ids c k t.val < 64 ∧ hitAt ids c k (nth ids c k t.val) ∧ cnt ids c k (nth ids c k t.val) = t.val := by
  obtain ⟨n, h1, h2, h3⟩ := nth_spec ids c k 64 t.val t.isLt
  rw [← h3, nth_cnt ids c k h2]
  exact ⟨h1, h2, rfl⟩

/-- The copied rows, in order. -/
def hits : Fin (cnt ids c k 64) ↪ Fin 64 := ⟨fun t => ⟨nth ids c k t.val, (nth_lt ids c k t).1⟩, fun a b h => Fin.ext (by
  rw [← (nth_lt ids c k a).2.2, ← (nth_lt ids c k b).2.2, Fin.mk.inj h])⟩

/-- All the deliveries are the copied rows'. -/
theorem dls_all : bigSep Finset.univ (dls ids Ew c k) = bigSep (Finset.univ.filter fun i : Fin 64 => Hit (wd ids c k i)) (dl ids Ew c k) := by
  rw [show (Finset.univ.filter fun i : Fin 64 => Hit (wd ids c k i)) = Finset.univ.map (hits ids c k) from ?_, bigSep_map]
  · refine bigSep_congr fun t _ => ?_
    unfold dls dlN
    rw [dif_pos (nth_lt ids c k t).1]; rfl
  · ext i
    rw [Finset.mem_filter, Finset.mem_map]
    constructor
    · rintro ⟨-, h⟩
      have hh := (hitAt_iff ids c k i.val i.isLt).mpr h
      exact ⟨⟨cnt ids c k i.val, by unfold cnt; exact Nat.count_strict_mono hh i.isLt⟩, Finset.mem_univ _, Fin.ext (nth_cnt ids c k hh)⟩
    · rintro ⟨t, -, rfl⟩
      exact ⟨Finset.mem_univ _, (hitAt_iff ids c k _ (nth_lt ids c k t).1).mp (nth_lt ids c k t).2.1⟩

theorem mem_row (i : Fin 512) (j : (cc0_scratch0 : Ref sig .tc).ty.shape.Idx) : j ∈ (row gb i).view.set ↔ (j 0).val = i.val := by
  rw [show (row gb i).view.set = (Rect.unit (s := S512x1024) ![i.val, 0] S1x1024.size (inbRow i)).set from View.set_slice_whole _ _, Rect.mem_set_unit]
  have h1 : (j 1).val < 1024 := (j 1).isLt
  constructor
  · intro h
    have h0 : i.val ≤ (j 0).val ∧ (j 0).val < i.val + 1 := h 0
    omega
  · intro h a
    fin_cases a
    · show i.val ≤ (j 0).val ∧ (j 0).val < i.val + 1; omega
    · show 0 ≤ (j 1).val ∧ (j 1).val < 0 + 1024; omega
theorem mem_ch (j : (cc0_scratch0 : Ref sig .tc).ty.shape.Idx) : j ∈ (ch gb k).view.set ↔ 64 * k.val ≤ (j 0).val ∧ (j 0).val < 64 * k.val + 64 := by
  rw [show (ch gb k).view.set = (rCh k).set from View.set_slice_whole _ _, Rect.mem_set_unit]
  have h1 : (j 1).val < 1024 := (j 1).isLt
  constructor
  · intro h; exact h 0
  · intro h a
    fin_cases a
    · exact h
    · show 0 ≤ (j 1).val ∧ (j 1).val < 0 + 1024; omega

/-- A chunk of the row buffer is its rows. -/
theorem at_rows (f : (cc0_scratch0 : Ref sig .tc).ty.Contents (Elt F)) :
    at' c gb k fullShare f = bigSep Finset.univ fun i : Fin 64 => rowAt (F := F) c k i f := by
  have hset : (ch gb k).view.set = Finset.univ.biUnion fun i : Fin 64 => (row gb (ix k i)).view.set := by
    ext j
    rw [Finset.mem_biUnion, mem_ch]
    constructor
    · intro h
      have hi : (j 0).val - 64 * k.val < 64 := by omega
      refine ⟨⟨(j 0).val - 64 * k.val, hi⟩, Finset.mem_univ _, (mem_row (ix k ⟨(j 0).val - 64 * k.val, hi⟩) j).mpr ?_⟩
      show (j 0).val = 64 * k.val + ((j 0).val - 64 * k.val)
      omega
    · rintro ⟨i, -, hi⟩
      have h1 : (j 0).val = 64 * k.val + i.val := (mem_row (ix k i) j).mp hi
      have := i.isLt
      omega
  unfold at' rowAt
  rw [hset]
  exact pointsTo_biUnion _ _ (by
    intro a _ b _ hab
    refine Finset.disjoint_left.mpr fun j ha hb => hab (Fin.ext ?_)
    have h1 : (j 0).val = 64 * k.val + a.val := (mem_row (ix k a) j).mp ha
    have h2 : (j 0).val = 64 * k.val + b.val := (mem_row (ix k b) j).mp hb
    omega)

/-- A chunk's part of the table's shares. -/
def eSh : sProp 𝕄 := bigSep Finset.univ fun i : Fin 64 => eAll Ew c k i
/-- A chunk gathered: its rows hold what the gather leaves, the semaphore reads zero, and the table's shares are back. -/
def gDone : sProp 𝕄 := iprop(at' c gb k fullShare (G ids Ew c) ∗ semVal ((c : Thread nD τ), .dma (gsem k)) 0 ∗ eSh Ew c k)
/-- A chunk not begun. -/
def gTodo : sProp 𝕄 := iprop(at' c gb k fullShare (zeros (F := F)) ∗ semVal ((c : Thread nD τ), .dma (gsem k)) 0 ∗ eSh Ew c k)

/-- A chunk begins with no copy on its way. -/
theorem g_open : gTodo (F := F) Ew c k ⊢ |={Set.univ}=> gInv ids Ew c k 0 := by
  have h0 : rows ids Ew c k 0 = iprop(eSh Ew c k ∗ bigSep Finset.univ fun i : Fin 64 => rowAt (F := F) c k i zeros) := by
    unfold rows eSh
    rw [← bigSep_sep']
    exact bigSep_congr fun i _ => if_neg (Nat.not_lt_zero _)
  have hc : cnt ids c k 0 = 0 := by unfold cnt; exact Nat.count_zero _
  unfold gTodo gInv
  rw [h0, hc, at_rows c k]
  iintro ⟨Hb, Hv, HE⟩
  imod (Transfers.batch_alloc' (EC (F := F)) (c := (c : Thread nD τ)) (sm := .dma (gsem k)) () NR (dls ids Ew c k) (E := Set.univ)) $$ Hv with HB
  imodintro
  isplitr [HB]
  · isplitl [HE] <;> iassumption
  · iexact HB

theorem split_hit (Φ : Fin 64 → sProp 𝕄) : bigSep Finset.univ Φ = iprop((bigSep (Finset.univ.filter fun i : Fin 64 => Hit (wd ids c k i)) Φ)
    ∗ bigSep (Finset.univ.filter fun i : Fin 64 => ¬Hit (wd ids c k i)) Φ) := bigSep_filter_split Finset.univ _

/-- The rows looked at and the deliveries make the chunk and the table's shares. -/
theorem g_join : iprop(rows ids Ew c k 64 ∗ bigSep Finset.univ (dls ids Ew c k))
      ⊢ iprop(at' c gb k fullShare (G ids Ew c) ∗ eSh Ew c k) := by
  have hr : rows ids Ew c k 64 = bigSep Finset.univ (done ids Ew c k) := by
    unfold rows; exact bigSep_congr fun i _ => if_pos i.isLt
  rw [dls_all, at_rows c k, hr]
  unfold eSh
  rw [← bigSep_sep', split_hit ids c k, split_hit ids c k fun i : Fin 64 => iprop(rowAt (F := F) c k i (G ids Ew c) ∗ eAll Ew c k i)]
  refine Entails.trans (Q := iprop((bigSep (Finset.univ.filter fun i : Fin 64 => Hit (wd ids c k i)) fun i => iprop(done ids Ew c k i ∗ dl ids Ew c k i))
    ∗ bigSep (Finset.univ.filter fun i : Fin 64 => ¬Hit (wd ids c k i)) fun i => done ids Ew c k i)) ?_ (sep_mono (bigSep_mono fun i hi => ?_) (bigSep_mono fun i hi => ?_))
  · rw [bigSep_sep']
    show BIBase.Entails (PROP := sProp 𝕄) _ _
    iintro ⟨⟨H1, H2⟩, H3⟩
    isplitr [H2]
    · isplitl [H1] <;> iassumption
    · iexact H2
  · unfold done dl
    rw [if_pos (Finset.mem_filter.mp hi).2, eAll_split Ew c k i (wd ids c k i)]
    show BIBase.Entails (PROP := sProp 𝕄) _ _
    iintro ⟨H1, H2, H3⟩
    isplitl [H2]; · iexact H2
    isplitl [H3] <;> iassumption
  · unfold done
    rw [if_neg (Finset.mem_filter.mp hi).2]
    show BIBase.Entails (PROP := sProp 𝕄) _ _
    iintro ⟨H1, H2⟩
    isplitl [H2] <;> iassumption

/-- All of a chunk's copies waited for, the chunk is gathered. -/
theorem g_close : iprop(rows ids Ew c k 64 ∗ fly ids Ew c k (cnt ids c k 64) (NR * cnt ids c k 64)) ⊢ |={Set.univ}=> gDone ids Ew c k := by
  unfold gDone
  iintro ⟨Hr, HB⟩
  imod (Transfers.batch_collect' (EC (F := F)) (c := (c : Thread nD τ)) NR_pos) $$ HB with ⟨HD, Hv⟩
  imodintro
  ihave H := (g_join ids Ew c k) $$ [Hr HD]
  · isplitl [Hr] <;> iassumption
  icases H with ⟨H1, H2⟩
  isplitl [H1]; · iexact H1
  isplitl [Hv] <;> iassumption

/-- What the device owes, whatever it has waited for. -/
def owesE (O : CellTallies nD τ sig Unit) : sProp 𝕄 := iprop(∃ W, owes (c : Thread nD τ) O W)

theorem drain_trips : ∀ n : Fin 65, (k0_t2_loop (BitVec.ofNat 32 n.val)).trips = n.val ∧ (k0_t3_loop (BitVec.ofNat 32 n.val)).trips = 0
    ∧ k0_chk3 (BitVec.ofNat 32 n.val) := by
  have h1 : ∀ n : Fin 65, (k0_t2_loop (BitVec.ofNat 32 n.val)).trips = n.val := by decide +kernel
  have h2 : ∀ n : Fin 65, (k0_t3_loop (BitVec.ofNat 32 n.val)).trips = 0 := by decide +kernel
  have h3 : ∀ n : Fin 65, (k0_t2_loop (BitVec.ofNat 32 n.val)).OK := by decide +kernel
  have h4 : ∀ n : Fin 65, (k0_t3_loop (BitVec.ofNat 32 n.val)).OK := by decide +kernel
  exact fun n => ⟨h1 n, h2 n, h3 n, h4 n⟩

theorem cnt_le : cnt ids c k 64 ≤ 64 := by unfold cnt; exact Nat.count_le _

theorem chk_drain : k0_chk3 (BitVec.ofNat 32 (cnt ids c k 64)) := (drain_trips ⟨cnt ids c k 64, Nat.lt_succ_of_le (cnt_le ids c k)⟩).2.2

/-- The drain loop: one wait for every copy that started. -/
theorem wp_drain {O : CellTallies nD τ sig Unit} (M : sProp 𝕄) [BI.Persistent M]
    (hM : M ⊢ MayWait (c : Thread nD τ) (.dma (gsem k)) () O)
    {ok : (k0_t2_loop (BitVec.ofNat 32 (cnt ids c k 64))).OK} {init : BitVec 32}
    {body : Fin (k0_t2_loop (BitVec.ofNat 32 (cnt ids c k 64))).trips → BitVec 32 → Prog (TpuEff nD τ sig (Elt F) Λ₀ .tc) (BitVec 32)}
    (hb : ∀ t acc, ∃ (s : DmaSem sig) (src : Memref sig .tc .hbm S1x1024 .f32) (dst : Memref sig .tc .vmem S1x1024 .f32) (h : src.view.WordExact)
      (h' : dst.view.WordExact), body t acc = .op (.waitDma2 (p := Proc.tc) s src dst h h') (fun _ => .ret 0#32) ∧ s = gsem k ∧ dst.view.dmaCredit = NR)
    {α : Type} {Q : α → sProp 𝕄} {K : BitVec 32 → Prog (TpuEff nD τ sig (Elt F) Λ₀ .tc) α} (R : sProp 𝕄)
    (hk : ∀ a, iprop(gDone ids Ew c k ∗ owesE c O ∗ M ∗ R) ⊢ WP c (K a) Q) :
    iprop(gInv ids Ew c k 64 ∗ owesE c O ∗ M ∗ R) ⊢ WP c (Scf.Loop.for (k0_t2_loop (BitVec.ofNat 32 (cnt ids c k 64))) ok init body >>= K) Q := by
  have htr := (drain_trips ⟨cnt ids c k 64, Nat.lt_succ_of_le (cnt_le ids c k)⟩).1
  dsimp only at htr
  have hI : ∀ (t : Fin (k0_t2_loop (BitVec.ofNat 32 (cnt ids c k 64))).trips) (acc : BitVec 32),
      iprop(fly ids Ew c k (cnt ids c k 64) (NR * t.val) ∗ owesE c O ∗ M)
        ⊢ WP c (body t acc) (fun a => iprop(fly ids Ew c k (cnt ids c k 64) (NR * (t.val + 1)) ∗ owesE c O ∗ M)) := by
    intro t acc
    have ht : t.val < cnt ids c k 64 := lt_of_lt_of_eq t.isLt htr
    obtain ⟨s, src, dst, h, h', he, hs, hd⟩ := hb t acc
    subst hs
    rw [he]
    unfold owesE
    iintro ⟨HB, ⟨%W, HO⟩, #HM⟩
    iapply (Transfers.wp_waitBatchMulO (EC (F := F)) 𝒱₀ (c : Thread nD τ) none (srcw := src) (dstw := dst) () (N := NR) 1 (by rw [hd, Nat.one_mul])
      (D := dls ids Ew c k) (j := cnt ids c k 64) (u := NR * t.val) (by rw [Nat.one_mul, ← Nat.mul_succ]; exact Nat.mul_le_mul_left _ ht) (O := O) (W := W)) $$ [HB HO]
    · isplitl [HB]; · iexact HB
      isplitl [HO]; · iexact HO
      iapply hM; iexact HM
    iintro ⟨HB, HO⟩
    iapply (wp_end c)
    isplitl [HB]
    · rw [Nat.one_mul, ← Nat.mul_succ]; iexact HB
    isplitl [HO]
    · iexists _; iexact HO
    · iexact HM
  unfold gInv
  iintro ⟨⟨Hr, HB⟩, HO, #HM, HR⟩
  iapply (Scf.wp_for_bind frame (wpE (defs₀ (F := F)) 𝒱₀ (c : Thread nD τ) none) Set.univ _ _ _ ok _ body
    (fun n _ => iprop(fly ids Ew c k (cnt ids c k 64) (NR * n) ∗ owesE c O ∗ M)) hI) $$ [HB HO]
  · isplitl [HB]; · rw [Nat.mul_zero]; iexact HB
    isplitl [HO]; · iexact HO
    iexact HM
  iintro %acc ⟨HB, HO, -⟩
  have htr' : Scf.trips (k0_t2_loop (BitVec.ofNat 32 (cnt ids c k 64))).lb (k0_t2_loop (BitVec.ofNat 32 (cnt ids c k 64))).ub
    (k0_t2_loop (BitVec.ofNat 32 (cnt ids c k 64))).st = cnt ids c k 64 := htr
  rw [htr']
  iapply (wp_of_fupd c)
  imod (g_close ids Ew c k) $$ [Hr HB] with HG
  · isplitl [Hr] <;> iassumption
  imodintro
  iapply (hk acc)
  isplitl [HG]; · iexact HG
  isplitl [HO]; · iexact HO
  isplitr; · iexact HM
  iexact HR

/-- The loop after it, for the waits left over, has no trip. -/
theorem wp_skip {ok : (k0_t3_loop (BitVec.ofNat 32 (cnt ids c k 64))).OK} {init : BitVec 32}
    {body : Fin (k0_t3_loop (BitVec.ofNat 32 (cnt ids c k 64))).trips → BitVec 32 → Prog (TpuEff nD τ sig (Elt F) Λ₀ .tc) (BitVec 32)}
    {α : Type} {Q : α → sProp 𝕄} {K : BitVec 32 → Prog (TpuEff nD τ sig (Elt F) Λ₀ .tc) α} (R : sProp 𝕄)
    (hk : ∀ a, R ⊢ WP c (K a) Q) :
    R ⊢ WP c (Scf.Loop.for (k0_t3_loop (BitVec.ofNat 32 (cnt ids c k 64))) ok init body >>= K) Q := by
  have htr := (drain_trips ⟨cnt ids c k 64, Nat.lt_succ_of_le (cnt_le ids c k)⟩).2.1
  dsimp only at htr
  iintro HR
  iapply (Scf.wp_for_bind frame (wpE (defs₀ (F := F)) 𝒱₀ (c : Thread nD τ) none) Set.univ _ _ _ ok init body
    (fun n _ => iprop(True)) (fun t _ => absurd (lt_of_lt_of_eq t.isLt htr) (Nat.not_lt_zero _))) $$ []
  · ipureintro; trivial
  iintro %acc -
  iapply (hk acc)
  iexact HR

end

end Cert.Emb
-- ==== Proof.Ops.lean ====
/-
# Ops: one operation of the kernel at a time

Each theorem takes what one operation needs and what the rest of the program is entered with.
-/
module

public import proofs.«01_k».proof.Proof.Gather

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (ids : Dev nD → (cc0_stg0_0 : Ref sig .tc).ty.Contents (Elt F)) (Ew : Dev nD → (main_arg1 : Ref sig .tc).ty.Contents (Elt F))
variable (K : GSem nD τ sig → ℕ) (c : Dev nD)

/-- The protocol's standing facts: every cell's invariant, and the levels. -/
def Pers : sProp 𝕄 := iprop((bigSep (Finset.univ : Finset (Dev nD)) fun d => cellInv ER (sched ids Ew) (K (barCell d)) (barCell d))
  ∗ (bigSep (Finset.univ : Finset (Dev nD × Fin 8 × Fin 8)) fun p => cellInv ER (sched ids Ew) (K (cellAt p.1 p.2.1 p.2.2)) (cellAt p.1 p.2.1 p.2.2))
  ∗ levAts L lv)
instance pers_persistent : BI.Persistent (Pers (F := F) ids Ew K) := by unfold Pers; infer_instance

theorem pers_at (d : Dev nD) (j k : Fin 8) : Pers (F := F) ids Ew K ⊢ cellInv ER (sched ids Ew) (K (cellAt d j k)) (cellAt d j k) := by
  have h : iprop(bigSep (Finset.univ : Finset (Dev nD × Fin 8 × Fin 8)) fun p => cellInv ER (sched (F := F) ids Ew) (K (cellAt p.1 p.2.1 p.2.2)) (cellAt p.1 p.2.1 p.2.2))
      ⊢ (cellInv ER (sched ids Ew) (K (cellAt d j k)) (cellAt d j k) : sProp 𝕄) := bigSep_elim (Finset.mem_univ ((d, j, k) : Dev nD × Fin 8 × Fin 8))
  unfold Pers
  iintro ⟨-, H, -⟩
  iapply h $$ H
theorem pers_bar (d : Dev nD) : Pers (F := F) ids Ew K ⊢ cellInv ER (sched ids Ew) (K (barCell d)) (barCell d) := by
  have h : iprop(bigSep (Finset.univ : Finset (Dev nD)) fun d => cellInv ER (sched (F := F) ids Ew) (K (barCell d)) (barCell d))
      ⊢ (cellInv ER (sched ids Ew) (K (barCell d)) (barCell d) : sProp 𝕄) := bigSep_elim (Finset.mem_univ d)
  unfold Pers
  iintro ⟨H, -, -⟩
  iapply h $$ H
theorem pers_wait (b : ℕ) (s : SemLoc sig) (l : List (Fin 8)) (hA : Above b l) (hs : lv ((c : Thread nD τ), s) () ≤ b) :
    Pers (F := F) ids Ew K ⊢ MayWait (c : Thread nD τ) s () (owed c l) := by
  unfold Pers
  iintro ⟨-, -, H⟩
  iapply (mayWait b c s l hA hs) $$ H
theorem above_zero (l : List (Fin 8)) : Above 0 l := fun k => ⟨fun _ => by omega, fun _ => by omega, fun _ => by omega⟩

/-- A copy of a chunk to a neighbour: it reads at a share, which comes back when the send is waited for, and hands the
    neighbour's arrival semaphore the landed chunk. -/
theorem op_send {d n : Dev nD} {α : Type} {Q : α → sProp 𝕄} {κ : PUnit → Prog (TpuEff nD τ sig (Elt F) Λ₀ .tc) α}
    (j j' k : Fin 8) (b b' : Memref sig .tc .vmem S512x1024 .bf16) (q : PosShare TreeShare)
    (f : Buf (Elt F) ((ch b k).view.loc (c : Thread nD τ))) (f' : Buf (Elt F) ((ch b' k).view.loc (d : Thread nD τ)))
    (hrd : (ch b' k).view.read (Elt F) f' = (ch b k).view.read (Elt F) f)
    (hpay : at' c b k q f = pay ids Ew c j k) (hpay' : at' d b' k fullShare f' = pay ids Ew d j' k)
    {O' : CellTallies nD τ sig Unit} (O : CellTallies nD τ sig Unit) (hO : O' = O + tallyAt (cellAt d j' k) () N)
    {src dst : Memref sig .tc .vmem S64x1024 .bf16} {s s' : DmaSem sig}
    (hn : n = d) (hsrc : src = ch b k) (hdst : dst = ch b' k) (hs : s = semIx j k) (hs' : s' = semIx j' k)
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)} :
    iprop(at' c b k q f ∗ land (F := F) d b' j' k ∗ dutyTok ER (cellAt d j' k) 0 0 ∗ dutyTok ER (cellAt c j k) 0 0 ∗ reached ER (cellAt c j k) 0
        ∗ owesE c O' ∗ Pers ids Ew K)
      ⊢ iprop(((cred (tallyAt (cellAt c j k) () N) ∗ owesE c O) -∗ WP c (κ ⟨⟩) Q)
        -∗ WP c (.op (.enqueueDma src (.remote (Dev.tc n : Thread nD τ) dst (.dma s) hsc) (.dma s') h1 h2 h3) κ) Q) := by
  subst hn hsrc hdst hs hs'
  unfold land owesE
  iintro ⟨Hsrc, ⟨⟨%g, Hdst⟩, #Hr'⟩, Ht', Ht, #Hr, ⟨%W, HO⟩, #HP⟩ Hk
  iapply (Rounds.wp_send_pointsTo 𝒱₀ ER (sched ids Ew) (c : Thread nD τ) none (c' := (n : Thread nD τ)) (src := ch b k) (dst := ch b' k)
    (κ₁ := K (cellAt c j k)) (κ₂ := K (cellAt n j' k)) (r₁ := 0) (r₂ := 0) (d₁ := 0) (d₂ := 0) (fd := g) (q := q) (fs := f)
    (by rw [duties_at]; exact Finset.mem_singleton_self _) (by rw [duties_at]; exact Finset.mem_singleton_self _)
    () () N rfl (amount_at ids Ew c j k 0) (amount_at ids Ew n j' k 0) O hO (W := W)
    (by rw [payload_at, ← hpay])
    (by rw [payload_at, ← hpay']
        exact Entails.of_eq (pointsTo_congr (write_agree (ch b' k).view g f' _ hrd)))) $$ [Hsrc Hdst HO Ht Ht']
  · isplitr; · iapply (pers_at ids Ew K c j k); iexact HP
    isplitr; · iapply (pers_at ids Ew K n j' k); iexact HP
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait on one of the protocol's own semaphores: what it hands over. -/
theorem op_wait {α : Type} {Q : α → sProp 𝕄} {κ : PUnit → Prog (TpuEff nD τ sig (Elt F) Λ₀ .tc) α}
    (j k : Fin 8) (O : CellTallies nD τ sig Unit)
    (hM : Pers (F := F) ids Ew K ⊢ MayWait (c : Thread nD τ) (.dma (semIx j k)) () O)
    {sp sp' : Space} {s1 : Shape} {e1 : EltTy} {s2 : Shape} {e2 : EltTy} {src : Memref sig .tc sp s1 e1} {dst : Memref sig .tc sp' s2 e2} {s : DmaSem sig}
    (hs : s = semIx j k) (hN : dst.view.dmaCredit = N) {h1 : src.view.WordExact} {h2 : dst.view.WordExact} :
    iprop(atPos ER (cellAt c j k) 0 ∅ 0 ∗ cred (tallyAt (cellAt c j k) () N) ∗ owesE c O ∗ Pers ids Ew K)
      ⊢ iprop(((atPos ER (cellAt c j k) 1 ∅ 0 ∗ pay ids Ew c j k ∗ owesE c O) -∗ WP c (κ ⟨⟩) Q)
        -∗ WP c (.op (.waitDma2 (p := Proc.tc) s src dst h1 h2) κ) Q) := by
  subst hs
  unfold owesE
  iintro ⟨Hat, Hc, ⟨%W, HO⟩, #HP⟩ Hk
  iapply (Rounds.wp_wait_rest_token 𝒱₀ ER (sched ids Ew) (c : Thread nD τ) none (κ := K (cellAt c j k))
      (wpE_waitDma2_eq 𝒱₀ (c : Thread nD τ) none Set.univ) (Set.mem_univ _) () (O := O) (W := W) (R := 0) (m := 0) (T := ∅)
      (by rw [Nat.zero_add, expect_at]; exact hN)) $$ [Hat Hc HO]
  · isplitr; · iapply (pers_at ids Ew K c j k); iexact HP
    isplitl [Hc]; · rw [hN]; iexact Hc
    isplitl [HO]; · iexact HO
    isplitr; · iapply hM; iexact HP
    iexact Hat
  rw [rest_at]
  iintro ⟨HO, Hat, -, Hp⟩
  iapply Hk
  isplitl [Hat]; · iexact Hat
  isplitl [Hp]; · iexact Hp
  iexists _; iexact HO

/-- What a copy of a chunk to the result brings back: the block of the result, and the share it read at. -/
def oD (e : Dev nD) (b : Memref sig .tc .vmem S512x1024 .bf16) (k : Fin 8) (q : PosShare TreeShare)
    (f : Buf (Elt F) ((ch b k).view.loc (c : Thread nD τ))) : sProp 𝕄 := iprop(outAt c e k (Out ids Ew c) ∗ at' c b k q f)

/-- A chunk's copy to the result starts. -/
theorem op_out {α : Type} {Q : α → sProp 𝕄} {κ : PUnit → Prog (TpuEff nD τ sig (Elt F) Λ₀ .tc) α}
    (e : Dev nD) (j : Fin 4) (k : Fin 8) (b : Memref sig .tc .vmem S512x1024 .bf16) (q : PosShare TreeShare)
    (f : Buf (Elt F) ((ch b k).view.loc (c : Thread nD τ)))
    (hrd : (ob e k).view.read (Elt F) (Out ids Ew c) = (ch b k).view.read (Elt F) f)
    {src : Memref sig .tc .vmem S64x1024 .bf16} {dst : Memref sig .tc .hbm S64x1024 .bf16} {s : DmaSem sig}
    (hsrc : src = ch b k) (hdst : dst = ob e k) (hs : s = osem j k) {h1 : src.view.WordExact} {h2 : dst.view.WordExact}
    {h3 : DmaTarget.Typed (nD := nD) (p := Proc.tc) .vmem (.dma s) (.here dst)} :
    iprop(at' c b k q f ∗ (∃ g, outAt (F := F) c e k g) ∗ semVal ((c : Thread nD τ), .dma (osem j k)) 0)
      ⊢ iprop((Transfers.Flight (EC (F := F)) (c : Thread nD τ) (.dma (osem j k)) () N (oD ids Ew c e b k q f) -∗ WP c (κ ⟨⟩) Q)
        -∗ WP c (.op (.enqueueDma src (.here dst) (.dma s) h1 h2 h3) κ) Q) := by
  subst hsrc hdst hs
  iintro ⟨Hs, ⟨%g, Hd⟩, Hv⟩ Hk
  iapply (Transfers.wp_dmaLocal (EC (F := F)) 𝒱₀ (c : Thread nD τ) none (src := ch b k) (dst := ob e k) (q := q) (fs := f) (fd := g)
    (Sd := (ob e k).view.set) () N rfl N_pos (Finset.Subset.refl _)) $$ [Hs Hd Hv]
  · isplitl [Hs]; · iexact Hs
    isplitl [Hd]; · iexact Hd
    iexact Hv
  iintro HF
  iapply Hk
  have hD : iprop(((ob e k).view.loc (c : Thread nD τ) ↦[(ob e k).view.set]{fullShare}
        (ob e k).view.write (Elt F) g (ReadAs.same.apply ((ch b k).view.read (Elt F) f)) Finset.univ) ∗ at' c b k q f) ⊢ oD ids Ew c e b k q f := by
    unfold oD
    exact sep_mono (Entails.of_eq (pointsTo_congr (write_agree (ob e k).view g (Out ids Ew c) _ hrd))) .rfl
  iapply (Transfers.Flight_mono (EC (F := F)) (c : Thread nD τ) hD) $$ HF

/-- A wait for a copy to the result. -/
theorem op_owait {α : Type} {Q : α → sProp 𝕄} {κ : PUnit → Prog (TpuEff nD τ sig (Elt F) Λ₀ .tc) α}
    (j : Fin 4) (k : Fin 8) (O : CellTallies nD τ sig Unit) (D : sProp 𝕄)
    (hM : Pers (F := F) ids Ew K ⊢ MayWait (c : Thread nD τ) (.dma (osem j k)) () O)
    {sp sp' : Space} {s1 : Shape} {e1 : EltTy} {s2 : Shape} {e2 : EltTy} {src : Memref sig .tc sp s1 e1} {dst : Memref sig .tc sp' s2 e2} {s : DmaSem sig}
    (hs : s = osem j k) (hN : dst.view.dmaCredit = N) {h1 : src.view.WordExact} {h2 : dst.view.WordExact} :
    iprop(Transfers.Flight (EC (F := F)) (c : Thread nD τ) (.dma (osem j k)) () N D ∗ owesE c O ∗ Pers ids Ew K)
      ⊢ iprop(((D ∗ semVal ((c : Thread nD τ), .dma (osem j k)) 0 ∗ owesE c O) -∗ WP c (κ ⟨⟩) Q)
        -∗ WP c (.op (.waitDma2 (p := Proc.tc) s src dst h1 h2) κ) Q) := by
  subst hs
  unfold owesE
  iintro ⟨HF, ⟨%W, HO⟩, #HP⟩ Hk
  iapply (Transfers.wp_waitLocalO (EC (F := F)) 𝒱₀ (c : Thread nD τ) none (srcw := src) (dstw := dst) () hN (D := D) (O := O) (W := W)) $$ [HF HO]
  · isplitl [HF]; · iexact HF
    isplitl [HO]; · iexact HO
    iapply hM; iexact HP
  iintro ⟨HD, Hv, HO⟩
  iapply Hk
  isplitl [HD]; · iexact HD
  isplitl [Hv]; · iexact Hv
  iexists _; iexact HO

/-- A load of a chunk. -/
theorem op_load {α : Type} {Q : α → sProp 𝕄} {e : EltTy} (k : Fin 8) (b : Memref sig .tc .vmem S512x1024 e) (q : PosShare TreeShare) (f : Buf (Elt F) ((ch b k).view.loc (c : Thread nD τ)))
    {o : Fin 2 → ℕ} {i : ∀ a, o a + S64x1024.size a ≤ S512x1024.size a} (ho : o = ![64 * k.val, 0])
    {h : b.view.LoadsAt (Rect.unit (s := S512x1024) o S64x1024.size i).toLoadRect}
    {κ : (S64x1024.Idx → Elt F e) → Prog (TpuEff nD τ sig (Elt F) Λ₀ .tc) α} :
    at' c b k q f ⊢ iprop((at' c b k q f -∗ WP c (κ ((ch b k).view.read (Elt F) f)) Q)
      -∗ WP c (.op (.load (p := Proc.tc) b (Rect.unit (s := S512x1024) o S64x1024.size i).toLoadRect h) κ) Q) := by
  subst ho
  exact wp_load_rect (defs := defs₀ (F := F)) 𝒱₀ (c : Thread nD τ) none Set.univ (m := b) (r := rCh k) (S := (ch b k).view.set) (q := q) (f := f) (Finset.Subset.refl _)

/-- A store of a chunk whose contents are known. -/
theorem op_store {e : EltTy} {α : Type} {Q : α → sProp 𝕄} {κ : PUnit → Prog (TpuEff nD τ sig (Elt F) Λ₀ .tc) α}
    (k : Fin 8) (b : Memref sig .tc .vmem S512x1024 e) (f : Buf (Elt F) ((ch b k).view.loc (c : Thread nD τ)))
    {o : Fin 2 → ℕ} {i : ∀ a, o a + S64x1024.size a ≤ S512x1024.size a} (ho : o = ![64 * k.val, 0])
    {w : S64x1024.Idx → Elt F e} (hw : (ch b k).view.read (Elt F) f = w)
    {hx : (b.access (Rect.unit (s := S512x1024) o S64x1024.size i)).Stores Finset.univ} {hm} :
    iprop(∃ g, at' (F := F) c b k fullShare g) ⊢ iprop((at' c b k fullShare f -∗ WP c (κ ⟨⟩) Q)
      -∗ WP c (.op (.store (p := Proc.tc) b (Rect.unit (s := S512x1024) o S64x1024.size i) w Finset.univ hx hm) κ) Q) := by
  subst ho
  iintro ⟨%g, Hb⟩ Hk
  iapply (wp_store (defs := defs₀ (F := F)) 𝒱₀ (c : Thread nD τ) none Set.univ (m := b) (r := rCh k) (S := (ch b k).view.set) (f := g)
    (by rw [View.setOn_univ])) $$ Hb
  iintro Hb
  iapply Hk
  iapply (Entails.of_eq (pointsTo_congr (write_agree (ch b k).view g f w hw))) $$ Hb

end

end Cert.Emb
-- ==== Proof.State.lean ====
/-
# State: what a device holds between two steps

Each chunk goes through 24 steps. What the device holds for a chunk is a product of 23 pieces, each a function of how
many of the chunk's steps are done; a step changes a few of them.
-/
module

public import proofs.«01_k».proof.Proof.Ops

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The class piece `e` is in when `p` of the chunk's steps are done; `lo` tells the first four chunks, whose steps 10
    to 12 come in another order. -/
def cls (lo : Bool) (e p : ℕ) : ℕ :=
  match e with
  | 0 => if p ≤ 0 then 0 else if p ≤ 1 then 1 else 2
  | 1 => if p ≤ 2 then 0 else if p ≤ 3 then 1 else 2
  | 2 => if p ≤ 3 then 0 else if p ≤ 16 then 1 else 2
  | 3 => if p ≤ 3 then 0 else 1
  | 4 => if p ≤ 4 then 0 else 1
  | 5 => if p ≤ 4 then 0 else 1
  | 6 => if p ≤ 5 then 0 else if p ≤ 6 then 1 else if p ≤ 7 then 2 else if p ≤ 8 then 3 else 4
  | 7 => if p ≤ 6 then 0 else if p ≤ 17 then 1 else 2
  | 8 => if p ≤ 6 then 0 else 1
  | 9 => if p ≤ 7 then 0 else if p ≤ 18 then 1 else 2
  | 10 => if p ≤ 7 then 0 else 1
  | 11 => if p ≤ 8 then 0 else if p ≤ 20 then 1 else 2
  | 12 => if p ≤ 9 then 0 else 1
  | 13 => bif lo then (if p ≤ 9 then 0 else if p ≤ 10 then 1 else if p ≤ 11 then 2 else 0)
      else (if p ≤ 9 then 0 else if p ≤ 10 then 1 else 3)
  | 14 => bif lo then (if p ≤ 11 then 0 else if p ≤ 21 then 1 else 2) else (if p ≤ 10 then 0 else if p ≤ 21 then 1 else 2)
  | 15 => bif lo then (if p ≤ 12 then 0 else 1) else (if p ≤ 11 then 0 else 1)
  | 16 => bif lo then (if p ≤ 12 then 0 else if p ≤ 13 then 1 else 3)
      else (if p ≤ 11 then 0 else if p ≤ 12 then 1 else if p ≤ 13 then 2 else 0)
  | 17 => if p ≤ 13 then 0 else if p ≤ 22 then 1 else 2
  | 18 => bif lo then (if p ≤ 10 then 0 else if p ≤ 19 then 1 else 2) else (if p ≤ 12 then 0 else if p ≤ 19 then 1 else 2)
  | 19 => bif lo then (if p ≤ 10 then 0 else 1) else (if p ≤ 12 then 0 else 1)
  | 20 => if p ≤ 14 then 0 else 1
  | 21 => if p ≤ 14 then 0 else if p ≤ 15 then 1 else 0
  | 22 => if p ≤ 15 then 0 else if p ≤ 23 then 1 else 2
  | _ => 0

section
variable (ids : Dev nD → (cc0_stg0_0 : Ref sig .tc).ty.Contents (Elt F)) (Ew : Dev nD → (main_arg1 : Ref sig .tc).ty.Contents (Elt F))
variable (K : GSem nD τ sig → ℕ) (c : Dev nD)

/-- A send cell: not sent, sent, waited for. -/
def sendP (j k : Fin 8) (a : ℕ) : sProp 𝕄 :=
  match a with
  | 0 => iprop(atPos ER (cellAt c j k) 0 ∅ 0 ∗ dutyTok ER (cellAt c j k) 0 0 ∗ reached ER (cellAt c j k) 0)
  | 1 => iprop(atPos ER (cellAt c j k) 0 ∅ 0 ∗ cred (tallyAt (cellAt c j k) () N))
  | _ => iprop(atPos ER (cellAt c j k) 1 ∅ 0 ∗ pay ids Ew c j k)
/-- A neighbour's landing chunk and the right to fill it: not sent yet, sent. -/
def landP (d : Dev nD) (b : Memref sig .tc .vmem S512x1024 .bf16) (j k : Fin 8) (a : ℕ) : sProp 𝕄 :=
  match a with
  | 0 => iprop(land (F := F) d b j k ∗ dutyTok ER (cellAt d j k) 0 0)
  | _ => iprop(emp)
/-- An arrival cell: not waited for, waited for. -/
def recvP (j k : Fin 8) (a : ℕ) : sProp 𝕄 :=
  match a with
  | 0 => iprop(atPos ER (cellAt c j k) 0 ∅ 0 ∗ cred (tallyAt (cellAt c j k) () N))
  | _ => atPos ER (cellAt c j k) 1 ∅ 0
/-- A copy to the result: not started, on its way, done. -/
def outP (e : Dev nD) (j : Fin 4) (b : Memref sig .tc .vmem S512x1024 .bf16) (k : Fin 8) (q : PosShare TreeShare)
    (f : Buf (Elt F) ((ch b k).view.loc (c : Thread nD τ))) (a : ℕ) : sProp 𝕄 :=
  match a with
  | 0 => iprop(semVal ((c : Thread nD τ), .dma (osem j k)) 0 ∗ ∃ g, outAt (F := F) c e k g)
  | 1 => Transfers.Flight (EC (F := F)) (c : Thread nD τ) (.dma (osem j k)) () N (oD ids Ew c e b k q f)
  | _ => iprop(semVal ((c : Thread nD τ), .dma (osem j k)) 0 ∗ oD ids Ew c e b k q f)
/-- A landed chunk: away, whole, its right half, its left half. -/
def bufP (b : Memref sig .tc .vmem S512x1024 .bf16) (k : Fin 8) (f : Buf (Elt F) ((ch b k).view.loc (c : Thread nD τ))) (a : ℕ) : sProp 𝕄 :=
  match a with
  | 0 => iprop(emp)
  | 1 => at' c b k fullShare f
  | 2 => at' c b k fullShare.right f
  | _ => at' c b k fullShare.left f

/-- The share of a landed chunk that its copy to the result reads at. -/
def oq (lo : Bool) : PosShare TreeShare := bif lo then fullShare.right else fullShare.left

/-- Piece `e` of chunk `k`, in class `a`. -/
def piece (k : Fin 8) (e a : ℕ) : sProp 𝕄 :=
  match e with
  | 0 => match a with
    | 0 => gTodo (F := F) Ew c k
    | 1 => gInv ids Ew c k 64
    | _ => gDone ids Ew c k
  | 1 => match a with
    | 0 => iprop(∃ f, at' (F := F) c pb k fullShare f)
    | 1 => at' c pb k fullShare (P ids Ew c)
    | _ => at' c pb k fullShare.right (P ids Ew c)
  | 2 => sendP ids Ew c 0 k a
  | 3 => landP (px c) xb 1 k a
  | 4 => recvP (F := F) c 1 k a
  | 5 => bufP c xb k (P ids Ew (px c)) a
  | 6 => match a with
    | 0 => iprop(∃ f, at' (F := F) c cb k fullShare f)
    | 1 => at' c cb k fullShare (Cb ids Ew c)
    | 2 => at' c cb k fullShare.right (Cb ids Ew c)
    | 3 => at' c cb k fullShare.right.right (Cb ids Ew c)
    | _ => iprop(emp)
  | 7 => sendP ids Ew c 2 k a
  | 8 => landP (py c) yb 3 k a
  | 9 => sendP ids Ew c 4 k a
  | 10 => landP (pz c) zb 5 k a
  | 11 => outP ids Ew c c 0 cb k fullShare.right.right (Cb ids Ew c) a
  | 12 => recvP (F := F) c 5 k a
  | 13 => bufP c zb k (Cb ids Ew (pz c)) a
  | 14 => outP ids Ew c (pz c) 1 zb k fullShare.right (Cb ids Ew (pz c)) a
  | 15 => recvP (F := F) c 3 k a
  | 16 => bufP c yb k (Cb ids Ew (py c)) a
  | 17 => outP ids Ew c (py c) 2 yb k fullShare.right (Cb ids Ew (py c)) a
  | 18 => sendP ids Ew c 6 k a
  | 19 => landP (fd c k) db 7 k a
  | 20 => recvP (F := F) c 7 k a
  | 21 => bufP c db k (Cb ids Ew (dg c)) a
  | 22 => outP ids Ew c (dg c) 3 db k fullShare (Cb ids Ew (dg c)) a
  | _ => iprop(emp)

/-- The first four chunks. -/
abbrev isLo (k : Fin 8) : Bool := decide (k.val < 4)
/-- What the device holds for chunk `k` when `p` of its steps are done. -/
def Comp (k : Fin 8) (p : ℕ) : sProp 𝕄 := bigSep Finset.univ fun e : Fin 23 => piece ids Ew c k e.val (cls (isLo k) e.val p)

/-- A product of a list of assertions. -/
def sepL : List (sProp 𝕄) → sProp 𝕄
  | [] => iprop(emp)
  | [a] => a
  | a :: b :: l => iprop(a ∗ sepL (b :: l))

theorem sepL_cons (a : sProp 𝕄) (l : List (sProp 𝕄)) : sepL (a :: l) = iprop(a ∗ sepL l) := by
  cases l with
  | nil => exact (BI.equiv_iff.mp sep_emp).symm
  | cons b l => rfl

theorem sepL_map {ι : Type} [DecidableEq ι] (Φ : ι → sProp 𝕄) : ∀ l : List ι, l.Nodup → sepL (l.map Φ) = bigSep l.toFinset Φ
  | [], _ => by rw [List.toFinset_nil]; exact bigSep_empty.symm
  | a :: l, h => by
    rw [List.map_cons, sepL_cons, List.toFinset_cons, bigSep_insert (by rw [List.mem_toFinset]; exact (List.nodup_cons.mp h).1),
      sepL_map Φ l (List.nodup_cons.mp h).2]
    rfl

theorem bigSep_split {ι : Type} [Fintype ι] [DecidableEq ι] (t : Finset ι) (Φ : ι → sProp 𝕄) :
    bigSep Finset.univ Φ = iprop(bigSep t Φ ∗ bigSep (Finset.univ \ t) Φ) := bigSep_sdiff_split (Finset.subset_univ t)

/-- A step of a chunk changes the pieces it names and leaves the others. -/
theorem foc (k : Fin 8) (p : ℕ) (l : List (Fin 23)) (hnd : l.Nodup)
    (h : ∀ e ∉ l, cls (isLo k) e.val p = cls (isLo k) e.val (p + 1)) :
    Comp ids Ew c k p ⊢ iprop(sepL (l.map fun e => piece ids Ew c k e.val (cls (isLo k) e.val p))
      ∗ (sepL (l.map fun e => piece ids Ew c k e.val (cls (isLo k) e.val (p + 1))) -∗ Comp ids Ew c k (p + 1))) := by
  unfold Comp
  rw [bigSep_split l.toFinset fun e : Fin 23 => piece ids Ew c k e.val (cls (isLo k) e.val p),
    bigSep_split l.toFinset fun e : Fin 23 => piece ids Ew c k e.val (cls (isLo k) e.val (p + 1)),
    sepL_map _ l hnd, sepL_map _ l hnd,
    bigSep_congr (s := Finset.univ \ l.toFinset) (Φ := fun e : Fin 23 => piece ids Ew c k e.val (cls (isLo k) e.val p))
      (Ψ := fun e : Fin 23 => piece ids Ew c k e.val (cls (isLo k) e.val (p + 1))) fun e he => by
        rw [h e (fun hm => (Finset.mem_sdiff.mp he).2 (List.mem_toFinset.mpr hm))]]
  iintro ⟨H1, H2⟩
  isplitl [H1]; · iexact H1
  iintro H3
  isplitl [H3]; · iexact H3
  iexact H2

/-- What the device holds when the steps `l`, named by their chunks, remain. -/
def St (l : List (Fin 8)) : sProp 𝕄 := iprop((bigSep Finset.univ fun k : Fin 8 => Comp ids Ew c k (phase l k))
  ∗ owesE (F := F) c (owed c l) ∗ idsAt ids c ∗ Pers ids Ew K ∗ atPos ER (barCell c) (0 + 1) ∅ 0)

theorem phase_self {k : Fin 8} {l : List (Fin 8)} {p : ℕ} (hp : l.count k + p = 23) : phase (k :: l) k = p ∧ phase l k = p + 1 := by
  unfold phase
  rw [List.count_cons_self]
  omega
theorem phase_other {k k' : Fin 8} (l : List (Fin 8)) (h : k' ≠ k) : phase (k :: l) k' = phase l k' := by
  unfold phase
  rw [List.count_cons_of_ne (Ne.symm h)]

theorem owed_step {k : Fin 8} {l : List (Fin 8)} {p : ℕ} (hp : l.count k + p = 23) (d : CellTallies nD τ sig Unit)
    (hd : owedK c k p = owedK c k (p + 1) + d) : owed c (k :: l) = owed c l + d := by
  unfold owed
  rw [← Finset.add_sum_erase _ _ (Finset.mem_univ k), ← Finset.add_sum_erase (s := Finset.univ) (f := fun k => owedK c k (phase l k)) (Finset.mem_univ k),
    (phase_self hp).1, (phase_self hp).2, hd,
    Finset.sum_congr rfl fun k' hk' => by rw [phase_other l (Finset.ne_of_mem_erase hk')]]
  exact add_right_comm _ _ _

/-- One step of the walk: it needs the pieces it changes. -/
theorem step {k : Fin 8} {l : List (Fin 8)} {p : ℕ} (hp : l.count k + p = 23) (es : List (Fin 23)) (hnd : es.Nodup)
    (hes : ∀ lo : Bool, lo = isLo k → ∀ e ∉ es, cls lo e.val p = cls lo e.val (p + 1)) {G H : sProp 𝕄}
    (hop : iprop(sepL (es.map fun e => piece ids Ew c k e.val (cls (isLo k) e.val p)) ∗ owesE c (owed c (k :: l)) ∗ idsAt ids c ∗ Pers ids Ew K)
      ⊢ iprop(((sepL (es.map fun e => piece ids Ew c k e.val (cls (isLo k) e.val (p + 1))) ∗ owesE c (owed c l) ∗ idsAt ids c) -∗ G) -∗ H))
    (h : St ids Ew K c l ⊢ G) : St ids Ew K c (k :: l) ⊢ H := by
  have e1 : (bigSep Finset.univ fun k' : Fin 8 => Comp ids Ew c k' (phase (k :: l) k'))
      = iprop(Comp ids Ew c k p ∗ bigSep (Finset.univ.erase k) fun k' : Fin 8 => Comp ids Ew c k' (phase l k')) := by
    rw [bigSep_univ_at _ k, (phase_self hp).1]
    exact congrArg _ (bigSep_congr fun k' hk' => by rw [phase_other l (Finset.ne_of_mem_erase hk')])
  have e2 : (bigSep Finset.univ fun k' : Fin 8 => Comp ids Ew c k' (phase l k'))
      = iprop(Comp ids Ew c k (p + 1) ∗ bigSep (Finset.univ.erase k) fun k' : Fin 8 => Comp ids Ew c k' (phase l k')) := by
    rw [bigSep_univ_at _ k, (phase_self hp).2]
  unfold St at h ⊢
  rw [e2] at h
  rw [e1]
  iintro ⟨⟨Hk, Hr⟩, Ho, Hi, #HP, HM⟩
  ihave Hf := (foc ids Ew c k p es hnd (hes _ rfl)) $$ Hk
  icases Hf with ⟨Hs, Hb⟩
  iapply hop $$ [Hs Ho Hi]
  · isplitl [Hs]; · iexact Hs
    isplitl [Ho]; · iexact Ho
    isplitl [Hi]; · iexact Hi
    iexact HP
  iintro ⟨Hs, Ho, Hi⟩
  iapply h
  isplitl [Hs Hb Hr]
  · isplitl [Hs Hb]
    · iapply Hb $$ Hs
    · iexact Hr
  isplitl [Ho]; · iexact Ho
  isplitl [Hi]; · iexact Hi
  isplitr; · iexact HP
  iexact HM

/-- A step that only looks. -/
theorem look {k : Fin 8} {l : List (Fin 8)} {p : ℕ} (hp : l.count k + p = 24) (es : List (Fin 23)) (hnd : es.Nodup) {G H : sProp 𝕄}
    (hop : sepL (es.map fun e => piece ids Ew c k e.val (cls (isLo k) e.val p))
      ⊢ iprop((sepL (es.map fun e => piece ids Ew c k e.val (cls (isLo k) e.val p)) -∗ G) -∗ H))
    (h : St ids Ew K c l ⊢ G) : St ids Ew K c l ⊢ H := by
  have hph : phase l k = p := by unfold phase; omega
  have e1 : (bigSep Finset.univ fun k' : Fin 8 => Comp ids Ew c k' (phase l k'))
      = iprop((sepL (es.map fun e => piece ids Ew c k e.val (cls (isLo k) e.val p))
          ∗ bigSep (Finset.univ \ es.toFinset) fun e : Fin 23 => piece ids Ew c k e.val (cls (isLo k) e.val p))
        ∗ bigSep (Finset.univ.erase k) fun k' : Fin 8 => Comp ids Ew c k' (phase l k')) := by
    rw [bigSep_univ_at _ k, hph, sepL_map _ es hnd]
    exact congrArg (fun A => iprop(A ∗ _)) (bigSep_split es.toFinset _)
  unfold St at h ⊢
  rw [e1] at h ⊢
  iintro ⟨⟨⟨Hs, Hf⟩, Hr⟩, Ho⟩
  iapply hop $$ Hs
  iintro Hs
  iapply h
  isplitl [Hs Hf Hr]
  · isplitl [Hs Hf]
    · isplitl [Hs]; · iexact Hs
      iexact Hf
    · iexact Hr
  iexact Ho

end

end Cert.Emb
-- ==== Proof.Kinds.lean ====
/-
# Kinds: the kinds of step

A copy to a neighbour, a wait for a copy that crosses devices, a copy to the result and its wait: each at any step whose
pieces before and after are what the operation needs and leaves.
-/
module

public import proofs.«01_k».proof.Proof.State

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed -/

theorem owedK_same (c : Dev nD) (k : Fin 8) (p : ℕ) (h3 : p ≠ 3) (h6 : p ≠ 6) (h7 : p ≠ 7) (hf : p ≠ tfw k) : owedK c k p = owedK c k (p + 1) := by
  unfold owedK
  rw [if_congr (show p ≤ 3 ↔ p + 1 ≤ 3 by omega) rfl rfl, if_congr (show p ≤ 6 ↔ p + 1 ≤ 6 by omega) rfl rfl,
    if_congr (show p ≤ 7 ↔ p + 1 ≤ 7 by omega) rfl rfl, if_congr (show p ≤ tfw k ↔ p + 1 ≤ tfw k by omega) rfl rfl]
theorem tfw_ge (k : Fin 8) : 10 ≤ tfw k := by unfold tfw; split <;> omega
theorem tfw_lo {k : Fin 8} (h : isLo k = true) : tfw k = 10 := if_pos (of_decide_eq_true h)
theorem tfw_hi {k : Fin 8} (h : isLo k = false) : tfw k = 12 := if_neg (of_decide_eq_false h)
theorem tfw_ne {k : Fin 8} {p : ℕ} (h10 : p ≠ 10) (h12 : p ≠ 12) : p ≠ tfw k := by unfold tfw; split <;> assumption
theorem owedK_x (c : Dev nD) (k : Fin 8) : owedK c k 3 = owedK c k (3 + 1) + tallyAt (cellAt (px c) 1 k) () N := by
  have := tfw_ge k
  unfold owedK
  rw [if_pos (by omega), if_pos (by omega), if_pos (by omega), if_pos (by omega), if_neg (by omega), if_pos (by omega), if_pos (by omega), if_pos (by omega), zero_add]
  ac_rfl
theorem owedK_y (c : Dev nD) (k : Fin 8) : owedK c k 6 = owedK c k (6 + 1) + tallyAt (cellAt (py c) 3 k) () N := by
  have := tfw_ge k
  unfold owedK
  rw [if_neg (by omega), if_pos (by omega), if_pos (by omega), if_pos (by omega), if_neg (by omega), if_neg (by omega), if_pos (by omega), if_pos (by omega)]
  simp only [zero_add]
  ac_rfl
theorem owedK_z (c : Dev nD) (k : Fin 8) : owedK c k 7 = owedK c k (7 + 1) + tallyAt (cellAt (pz c) 5 k) () N := by
  have := tfw_ge k
  unfold owedK
  rw [if_neg (by omega), if_neg (by omega), if_pos (by omega), if_pos (by omega), if_neg (by omega), if_neg (by omega), if_neg (by omega), if_pos (by omega)]
  simp only [zero_add]
  ac_rfl
theorem owedK_f (c : Dev nD) (k : Fin 8) {p : ℕ} (hp : p = tfw k) : owedK c k p = owedK c k (p + 1) + tallyAt (cellAt (fd c k) 7 k) () N := by
  have := tfw_ge k
  unfold owedK
  rw [if_neg (by omega), if_neg (by omega), if_neg (by omega), if_pos (by omega), if_neg (by omega), if_neg (by omega), if_neg (by omega), if_neg (by omega)]
  simp only [zero_add]
theorem owed_same {c : Dev nD} {k : Fin 8} {l : List (Fin 8)} {p : ℕ} (hp : l.count k + p = 23) (hd : owedK c k p = owedK c k (p + 1)) :
    owed c (k :: l) = owed c l := by
  rw [owed_step c hp 0 (by rw [hd, add_zero]), add_zero]

/-! ## The rounded chunks -/

/-- A share splits in its halves. -/
theorem halves {e : EltTy} (c : Dev nD) (b : Memref sig .tc .vmem S512x1024 e) (k : Fin 8) (q : PosShare TreeShare)
    (f : Buf (Elt F) ((ch b k).view.loc (c : Thread nD τ))) : at' c b k q f ⊢ iprop(at' c b k q.left f ∗ at' c b k q.right f) :=
  (pointsTo_share (PosShare.mem_left_op_right q)).1
theorem halves' {e : EltTy} (c : Dev nD) (b : Memref sig .tc .vmem S512x1024 e) (k : Fin 8) (q : PosShare TreeShare)
    (f : Buf (Elt F) ((ch b k).view.loc (c : Thread nD τ))) : iprop(at' c b k q.left f ∗ at' c b k q.right f) ⊢ at' c b k q f :=
  (pointsTo_share (PosShare.mem_left_op_right q)).2

section
variable (ids : Dev nD → (cc0_stg0_0 : Ref sig .tc).ty.Contents (Elt F)) (Ew : Dev nD → (main_arg1 : Ref sig .tc).ty.Contents (Elt F))
variable (K : GSem nD τ sig → ℕ) (c : Dev nD)

theorem read_P (k : Fin 8) : (ch pb k).view.read (Elt F) (P ids Ew c) = truncf .bf16 ((ch gb k).view.read (Elt F) (G ids Ew c) : FVec F S64x1024 .f32) bitsLt_bf16_f32 := rfl
theorem read_Cb (k : Fin 8) : (ch cb k).view.read (Elt F) (Cb ids Ew c)
    = addf ((ch pb k).view.read (Elt F) (P ids Ew c) : FVec F S64x1024 .bf16) ((ch xb k).view.read (Elt F) (P ids Ew (px c))) := rfl

/-! ## The kinds of step -/

/-- A wait for a copy that crosses devices. -/
theorem wait_step {k : Fin 8} {l : List (Fin 8)} {p : ℕ} (hp : l.count k + p = 23) (es : List (Fin 23)) (hnd : es.Nodup)
    (hes : ∀ lo : Bool, lo = isLo k → ∀ e ∉ es, cls lo e.val p = cls lo e.val (p + 1))
    (j : Fin 8) (b : ℕ) (hAb : Above b (k :: l)) (hb : lvOf j k ≤ b) (hd : owedK c k p = owedK c k (p + 1))
    (hA : sepL (es.map fun e => piece ids Ew c k e.val (cls (isLo k) e.val p)) ⊢ iprop(atPos ER (cellAt c j k) 0 ∅ 0 ∗ cred (tallyAt (cellAt c j k) () N)))
    (hB : iprop(atPos ER (cellAt c j k) 1 ∅ 0 ∗ pay ids Ew c j k) ⊢ sepL (es.map fun e => piece ids Ew c k e.val (cls (isLo k) e.val (p + 1))))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig}
    {h1 : src.view.WordExact} {h2 : dst.view.WordExact} (hs : s = semIx j k) (hN : dst.view.dmaCredit = N)
    (h : St ids Ew K c l ⊢ WP c (κ ⟨⟩) Q) : St ids Ew K c (k :: l) ⊢ WP c (.op (.waitDma2 (p := Proc.tc) s src dst h1 h2) κ) Q := by
  refine step ids Ew K c hp es hnd hes ?_ h
  rw [owed_same hp hd]
  have hM : Pers (F := F) ids Ew K ⊢ MayWait (c : Thread nD τ) (.dma (semIx j k)) () (owed c l) := by
    rw [← owed_same hp hd]; exact pers_wait ids Ew K c b _ _ hAb ((lv_at c j k ()).le.trans hb)
  iintro ⟨Hs, Ho, Hi, #HP⟩ Hk
  ihave Hs := hA $$ Hs
  icases Hs with ⟨Hat, Hc⟩
  iapply (op_wait ids Ew K c j k (owed c l) hM hs hN) $$ [Hat Hc Ho]
  · isplitl [Hat]; · iexact Hat
    isplitl [Hc]; · iexact Hc
    isplitl [Ho]; · iexact Ho
    iexact HP
  iintro ⟨Hat, Hp, Ho⟩
  iapply Hk
  isplitl [Hat Hp]
  · iapply hB
    isplitl [Hat]; · iexact Hat
    iexact Hp
  isplitl [Ho]; · iexact Ho
  iexact Hi

/-- A copy to a neighbour. -/
theorem send_step {k : Fin 8} {l : List (Fin 8)} {p : ℕ} (hp : l.count k + p = 23) (es : List (Fin 23)) (hnd : es.Nodup)
    (hes : ∀ lo : Bool, lo = isLo k → ∀ e ∉ es, cls lo e.val p = cls lo e.val (p + 1))
    {d : Dev nD} (j j' : Fin 8) (b b' : Memref sig .tc .vmem S512x1024 .bf16) (q : PosShare TreeShare)
    (f : Buf (Elt F) ((ch b k).view.loc (c : Thread nD τ))) (f' : Buf (Elt F) ((ch b' k).view.loc (d : Thread nD τ))) (R : sProp 𝕄)
    (hrd : (ch b' k).view.read (Elt F) f' = (ch b k).view.read (Elt F) f)
    (hpay : at' c b k q f = pay ids Ew c j k) (hpay' : at' d b' k fullShare f' = pay ids Ew d j' k)
    (hd : owedK c k p = owedK c k (p + 1) + tallyAt (cellAt d j' k) () N)
    (hA : sepL (es.map fun e => piece ids Ew c k e.val (cls (isLo k) e.val p)) ⊢ iprop((at' c b k q f ∗ R) ∗ (atPos ER (cellAt c j k) 0 ∅ 0 ∗ dutyTok ER (cellAt c j k) 0 0 ∗ reached ER (cellAt c j k) 0)
      ∗ land (F := F) d b' j' k ∗ dutyTok ER (cellAt d j' k) 0 0))
    (hB : iprop(R ∗ atPos ER (cellAt c j k) 0 ∅ 0 ∗ cred (tallyAt (cellAt c j k) () N)) ⊢ sepL (es.map fun e => piece ids Ew c k e.val (cls (isLo k) e.val (p + 1))))
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = d) (hsrc : src = ch b k) (hdst : dst = ch b' k) (hs : s = semIx j k) (hs' : s' = semIx j' k)
    (h : St ids Ew K c l ⊢ WP c (κ ⟨⟩) Q) :
    St ids Ew K c (k :: l) ⊢ WP c (.op (.enqueueDma src (.remote (Dev.tc n : Thread nD τ) dst (.dma s) hsc) (.dma s') h1 h2 h3) κ) Q := by
  refine step ids Ew K c hp es hnd hes ?_ h
  iintro ⟨Hs, Ho, Hi, #HP⟩ Hk
  ihave Hs := hA $$ Hs
  icases Hs with ⟨⟨Hb, HR⟩, ⟨Hat, Ht, #Hr⟩, Hl, Ht'⟩
  iapply (op_send ids Ew K c j j' k b b' q f f' hrd hpay hpay' (owed c l) (owed_step c hp _ hd) hn hsrc hdst hs hs') $$ [Hb Ht Hl Ht' Ho]
  · isplitl [Hb]; · iexact Hb
    isplitl [Hl]; · iexact Hl
    isplitl [Ht']; · iexact Ht'
    isplitl [Ht]; · iexact Ht
    isplitr; · iexact Hr
    isplitl [Ho]; · iexact Ho
    iexact HP
  iintro ⟨Hc, Ho⟩
  iapply Hk
  isplitl [HR Hat Hc]
  · iapply hB
    isplitl [HR]; · iexact HR
    isplitl [Hat]; · iexact Hat
    iexact Hc
  isplitl [Ho]; · iexact Ho
  iexact Hi

/-- A copy to the result. -/
theorem out_step {k : Fin 8} {l : List (Fin 8)} {p : ℕ} (hp : l.count k + p = 23) (es : List (Fin 23)) (hnd : es.Nodup)
    (hes : ∀ lo : Bool, lo = isLo k → ∀ e ∉ es, cls lo e.val p = cls lo e.val (p + 1))
    (e : Dev nD) (j : Fin 4) (b : Memref sig .tc .vmem S512x1024 .bf16) (q : PosShare TreeShare)
    (f : Buf (Elt F) ((ch b k).view.loc (c : Thread nD τ))) (R : sProp 𝕄)
    (hrd : (ob e k).view.read (Elt F) (Out ids Ew c) = (ch b k).view.read (Elt F) f)
    (hd : owedK c k p = owedK c k (p + 1))
    (hA : sepL (es.map fun e => piece ids Ew c k e.val (cls (isLo k) e.val p)) ⊢ iprop((at' c b k q f ∗ R) ∗ semVal ((c : Thread nD τ), .dma (osem j k)) 0 ∗ ∃ g, outAt (F := F) c e k g))
    (hB : iprop(R ∗ Transfers.Flight (EC (F := F)) (c : Thread nD τ) (.dma (osem j k)) () N (oD ids Ew c e b k q f)) ⊢ sepL (es.map fun e => piece ids Ew c k e.val (cls (isLo k) e.val (p + 1))))
    {α : Type} {Q : α → sProp 𝕄} {κ : PUnit → Prog (TpuEff nD τ sig (Elt F) Λ₀ .tc) α}
    {src : Memref sig .tc .vmem S64x1024 .bf16} {dst : Memref sig .tc .hbm S64x1024 .bf16} {s : DmaSem sig}
    {h1 : src.view.WordExact} {h2 : dst.view.WordExact}
    {h3 : DmaTarget.Typed (nD := nD) (p := Proc.tc) .vmem (.dma s) (.here dst)}
    (hsrc : src = ch b k) (hdst : dst = ob e k) (hs : s = osem j k)
    (h : St ids Ew K c l ⊢ WP c (κ ⟨⟩) Q) : St ids Ew K c (k :: l) ⊢ WP c (.op (.enqueueDma src (.here dst) (.dma s) h1 h2 h3) κ) Q := by
  refine step ids Ew K c hp es hnd hes ?_ h
  rw [owed_same hp hd]
  iintro ⟨Hs, Ho, Hi, #HP⟩ Hk
  ihave Hs := hA $$ Hs
  icases Hs with ⟨⟨Hb, HR⟩, Hv, Hg⟩
  iapply (op_out ids Ew c e j k b q f hrd hsrc hdst hs) $$ [Hb Hv Hg]
  · isplitl [Hb]; · iexact Hb
    isplitl [Hg]; · iexact Hg
    iexact Hv
  iintro HF
  iapply Hk
  isplitl [HR HF]
  · iapply hB
    isplitl [HR]; · iexact HR
    iexact HF
  isplitl [Ho]; · iexact Ho
  iexact Hi

/-- A wait for a copy to the result. -/
theorem owait_step {k : Fin 8} {l : List (Fin 8)} {p : ℕ} (hp : l.count k + p = 23) (es : List (Fin 23)) (hnd : es.Nodup)
    (hes : ∀ lo : Bool, lo = isLo k → ∀ e ∉ es, cls lo e.val p = cls lo e.val (p + 1))
    (j : Fin 4) (D : sProp 𝕄) (hd : owedK c k p = owedK c k (p + 1))
    (hA : sepL (es.map fun e => piece ids Ew c k e.val (cls (isLo k) e.val p)) ⊢ Transfers.Flight (EC (F := F)) (c : Thread nD τ) (.dma (osem j k)) () N D)
    (hB : iprop(semVal ((c : Thread nD τ), .dma (osem j k)) 0 ∗ D) ⊢ sepL (es.map fun e => piece ids Ew c k e.val (cls (isLo k) e.val (p + 1))))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig}
    {h1 : src.view.WordExact} {h2 : dst.view.WordExact} (hs : s = osem j k) (hN : dst.view.dmaCredit = N)
    (h : St ids Ew K c l ⊢ WP c (κ ⟨⟩) Q) : St ids Ew K c (k :: l) ⊢ WP c (.op (.waitDma2 (p := Proc.tc) s src dst h1 h2) κ) Q := by
  refine step ids Ew K c hp es hnd hes ?_ h
  rw [owed_same hp hd]
  iintro ⟨Hs, Ho, Hi, #HP⟩ Hk
  ihave Hs := hA $$ Hs
  iapply (op_owait ids Ew K c j k (owed c l) D (pers_wait ids Ew K c 0 _ _ (above_zero l) (lv_other c _ (osem_ne j k) ()).le) hs hN) $$ [Hs Ho]
  · isplitl [Hs]; · iexact Hs
    isplitl [Ho]; · iexact Ho
    iexact HP
  iintro ⟨HD, Hv, Ho⟩
  iapply Hk
  isplitl [HD Hv]
  · iapply hB
    isplitl [Hv]; · iexact Hv
    iexact HD
  isplitl [Ho]; · iexact Ho
  iexact Hi

end

end Cert.Emb
-- ==== Proof.Steps.lean ====
/-
# Steps: the copies and waits of a chunk
-/
module

public import proofs.«01_k».proof.Proof.Kinds
public import Idealize.ShloMosaic.Lib.Pipeline.ValueKit.Geometry

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem emp_r (A : sProp 𝕄) : iprop(A ∗ emp) ⊢ A := (Laws.sep_emp (P := A)).1
theorem emp_r' (A : sProp 𝕄) : A ⊢ iprop(A ∗ emp) := (Laws.sep_emp (P := A)).2
theorem swap (A B : sProp 𝕄) : iprop(A ∗ B) ⊢ iprop(B ∗ A) := by iintro ⟨H1, H2⟩; isplitl [H2] <;> iassumption
theorem dg_py (c : Dev nD) : dg (py c) = pz c := by revert c; decide
theorem dg_pz (c : Dev nD) : dg (pz c) = py c := by revert c; decide
theorem pz_x (c : Dev nD) : (pz c).val / 4 = c.val / 4 := by revert c; decide
theorem py_x (c : Dev nD) : (py c).val / 4 = c.val / 4 := by revert c; decide
theorem dg_x (c : Dev nD) : (dg c).val / 4 = c.val / 4 := by revert c; decide

section
variable (ids : Dev nD → (cc0_stg0_0 : Ref sig .tc).ty.Contents (Elt F)) (Ew : Dev nD → (main_arg1 : Ref sig .tc).ty.Contents (Elt F))
variable (K : GSem nD τ sig → ℕ) (c : Dev nD)

theorem Cb_at {d d' : Dev nD} (hd : d = d') {i i' : S512x1024.Idx} (hi : i = i') : Cb ids Ew d i = Cb ids Ew d' i' := by subst hd hi; rfl
/-- A block of the result is the sum of the device that looks it up. -/
theorem read_Out (e : Dev nD) (k : Fin 8) (he : e.val / 4 = c.val / 4) :
    (ob e k).view.read (Elt F) (Out ids Ew c) = (ch cb k).view.read (Elt F) (Cb ids Ew e) := by
  funext y
  have h0 : (((ob e k).view.emb y : (main_v8 : Ref sig .tc).ty.shape.Idx) 0).val = 512 * (e.val % 4) + 64 * k.val + (y 0).val :=
    ValueKit.view_emb_slice_whole_unit_val main_v8 _ _ _ y 0
  have h1 : (((ob e k).view.emb y : (main_v8 : Ref sig .tc).ty.shape.Idx) 1).val = 0 + (y 1).val :=
    ValueKit.view_emb_slice_whole_unit_val main_v8 _ _ _ y 1
  have g0 : (((ch cb k).view.emb y : (cc0_scratch3 : Ref sig .tc).ty.shape.Idx) 0).val = 64 * k.val + (y 0).val :=
    ValueKit.view_emb_slice_whole_unit_val cc0_scratch3 _ _ _ y 0
  have g1 : (((ch cb k).view.emb y : (cc0_scratch3 : Ref sig .tc).ty.shape.Idx) 1).val = 0 + (y 1).val :=
    ValueKit.view_emb_slice_whole_unit_val cc0_scratch3 _ _ _ y 1
  have hy : (y 0).val < 64 := (y 0).isLt
  have hk := k.isLt
  refine Cb_at ids Ew (Fin.ext ?_) (funext fun a => ?_)
  · show 4 * (c.val / 4) + (((ob e k).view.emb y : (main_v8 : Ref sig .tc).ty.shape.Idx) 0).val / 512 = e.val
    rw [h0]; omega
  · fin_cases a
    · refine Fin.ext ?_
      show (((ob e k).view.emb y : (main_v8 : Ref sig .tc).ty.shape.Idx) 0).val % 512 = (((ch cb k).view.emb y : (cc0_scratch3 : Ref sig .tc).ty.shape.Idx) 0).val
      rw [h0, g0]; omega
    · refine Fin.ext ?_
      show (((ob e k).view.emb y : (main_v8 : Ref sig .tc).ty.shape.Idx) 1).val = (((ch cb k).view.emb y : (cc0_scratch3 : Ref sig .tc).ty.shape.Idx) 1).val
      rw [h1, g1]

/-- The chunk from along `x` arrives. -/
theorem st_waitx {k : Fin 8} {l : List (Fin 8)} (hp : l.count k + 4 = 23) (hA : Above (lvOf 1 k) (k :: l))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 1 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [4, 5] (by decide) (fun lo hl => by clear hl; revert lo; decide) 1 (lvOf 1 k) hA le_rfl (owedK_same c k 4 (by decide) (by decide) (by decide) (tfw_ne (by decide) (by decide)))
    (emp_r _) (.rfl) hs hN h

/-- The chunk from along `z` arrives. -/
theorem st_waitz {k : Fin 8} {l : List (Fin 8)} (hp : l.count k + 9 = 23) (hA : Above (lvOf 5 k) (k :: l))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 5 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [12, 13] (by decide) (fun lo hl => by clear hl; revert lo; decide) 5 (lvOf 5 k) hA le_rfl (owedK_same c k 9 (by decide) (by decide) (by decide) (tfw_ne (by decide) (by decide)))
    ((by cases isLo k <;> exact emp_r _)) ((by cases isLo k <;> exact .rfl)) hs hN h

/-- The chunk from along `y` arrives: the first four chunks. -/
theorem st_waity_lo {k : Fin 8} {l : List (Fin 8)} (hp : l.count k + 12 = 23) (hlo : isLo k = true) (hA : Above (lvOf 3 k) (k :: l))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 3 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [15, 16] (by decide) (fun lo h => by rw [h, hlo]; decide) 3 (lvOf 3 k) hA le_rfl (owedK_same c k 12 (by decide) (by decide) (by decide) (by rw [tfw_lo hlo]; decide))
    (by rw [hlo]; exact emp_r _) (by rw [hlo]; exact .rfl) hs hN h

/-- The chunk from along `y` arrives: the other chunks. -/
theorem st_waity_hi {k : Fin 8} {l : List (Fin 8)} (hp : l.count k + 11 = 23) (hlo : isLo k = false) (hA : Above (lvOf 3 k) (k :: l))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 3 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [15, 16] (by decide) (fun lo h => by rw [h, hlo]; decide) 3 (lvOf 3 k) hA le_rfl (owedK_same c k 11 (by decide) (by decide) (by decide) (by rw [tfw_hi hlo]; decide))
    (by rw [hlo]; exact emp_r _) (by rw [hlo]; exact .rfl) hs hN h

/-- The chunk from across the square arrives. -/
theorem st_waitd {k : Fin 8} {l : List (Fin 8)} (hp : l.count k + 14 = 23) (hA : Above (lvOf 7 k) (k :: l))
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 7 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [20, 21] (by decide) (fun lo hl => by clear hl; revert lo; decide) 7 (lvOf 7 k) hA le_rfl (owedK_same c k 14 (by decide) (by decide) (by decide) (tfw_ne (by decide) (by decide)))
    (emp_r _) (.rfl) hs hN h

/-- A send is waited for. -/
theorem st_wait_sx {k : Fin 8} {l : List (Fin 8)} (hp : l.count k + 16 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 0 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [2] (by decide) (fun lo hl => by clear hl; revert lo; decide) 0 0 (above_zero _) (by unfold lvOf; exact Nat.le_refl 0) (owedK_same c k 16 (by decide) (by decide) (by decide) (tfw_ne (by decide) (by decide)))
    (.rfl) (.rfl) hs hN h

/-- A send is waited for. -/
theorem st_wait_sy {k : Fin 8} {l : List (Fin 8)} (hp : l.count k + 17 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 2 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [7] (by decide) (fun lo hl => by clear hl; revert lo; decide) 2 0 (above_zero _) (by unfold lvOf; exact Nat.le_refl 0) (owedK_same c k 17 (by decide) (by decide) (by decide) (tfw_ne (by decide) (by decide)))
    (.rfl) (.rfl) hs hN h

/-- A send is waited for. -/
theorem st_wait_sz {k : Fin 8} {l : List (Fin 8)} (hp : l.count k + 18 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 4 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [9] (by decide) (fun lo hl => by clear hl; revert lo; decide) 4 0 (above_zero _) (by unfold lvOf; exact Nat.le_refl 0) (owedK_same c k 18 (by decide) (by decide) (by decide) (tfw_ne (by decide) (by decide)))
    (.rfl) (.rfl) hs hN h

/-- A forward is waited for. -/
theorem st_wait_sf {k : Fin 8} {l : List (Fin 8)} (hp : l.count k + 19 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = semIx 6 k) (hN : dst.view.dmaCredit = N) (h : St ids Ew K c l ⊢ WP c (κ ⟨⟩) Q) :
    St ids Ew K c (k :: l) ⊢ WP c (.op (.waitDma2 (p := Proc.tc) s src dst h1 h2) κ) Q :=
  wait_step ids Ew K c hp [18] (by decide) (fun lo hl => by clear hl; revert lo; decide) 6 0 (above_zero _) (by unfold lvOf; exact Nat.le_refl 0) (owedK_same c k 19 (by decide) (by decide) (by decide) (tfw_ne (by decide) (by decide)))
    ((by cases isLo k <;> exact .rfl)) ((by cases isLo k <;> exact .rfl)) hs hN h

/-- The rounded chunk goes along `x`. -/
theorem st_sendx {k : Fin 8} {l : List (Fin 8)} (hp : l.count k + 3 = 23)
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = px c) (hsrc : src = ch pb k) (hdst : dst = ch xb k) (hs : s = semIx 0 k) (hs' : s' = semIx 1 k) (h : St ids Ew K c l ⊢ WP c (κ ⟨⟩) Q) :
    St ids Ew K c (k :: l) ⊢ WP c (.op (.enqueueDma src (.remote (Dev.tc n : Thread nD τ) dst (.dma s) hsc) (.dma s') h1 h2 h3) κ) Q :=
  send_step ids Ew K c hp [1, 2, 3] (by decide) (fun lo hl => by clear hl; revert lo; decide) (d := px c) 0 1 pb xb fullShare.left (P ids Ew c) (P ids Ew (px (px c))) (at' c pb k fullShare.right (P ids Ew c))
    (by rw [px_px]; rfl) rfl rfl (owedK_x c k)
    (sep_mono (halves c pb k fullShare _) .rfl) (sep_mono .rfl (emp_r' _)) hn hsrc hdst hs hs' h

/-- The sum goes along `y`. -/
theorem st_sendy {k : Fin 8} {l : List (Fin 8)} (hp : l.count k + 6 = 23)
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = py c) (hsrc : src = ch cb k) (hdst : dst = ch yb k) (hs : s = semIx 2 k) (hs' : s' = semIx 3 k) (h : St ids Ew K c l ⊢ WP c (κ ⟨⟩) Q) :
    St ids Ew K c (k :: l) ⊢ WP c (.op (.enqueueDma src (.remote (Dev.tc n : Thread nD τ) dst (.dma s) hsc) (.dma s') h1 h2 h3) κ) Q :=
  send_step ids Ew K c hp [6, 7, 8] (by decide) (fun lo hl => by clear hl; revert lo; decide) (d := py c) 2 3 cb yb fullShare.left (Cb ids Ew c) (Cb ids Ew (py (py c))) (at' c cb k fullShare.right (Cb ids Ew c))
    (by rw [py_py]; rfl) rfl rfl (owedK_y c k)
    (sep_mono (halves c cb k fullShare _) .rfl) (sep_mono .rfl (emp_r' _)) hn hsrc hdst hs hs' h

/-- The sum goes along `z`. -/
theorem st_sendz {k : Fin 8} {l : List (Fin 8)} (hp : l.count k + 7 = 23)
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = pz c) (hsrc : src = ch cb k) (hdst : dst = ch zb k) (hs : s = semIx 4 k) (hs' : s' = semIx 5 k) (h : St ids Ew K c l ⊢ WP c (κ ⟨⟩) Q) :
    St ids Ew K c (k :: l) ⊢ WP c (.op (.enqueueDma src (.remote (Dev.tc n : Thread nD τ) dst (.dma s) hsc) (.dma s') h1 h2 h3) κ) Q :=
  send_step ids Ew K c hp [6, 9, 10] (by decide) (fun lo hl => by clear hl; revert lo; decide) (d := pz c) 4 5 cb zb fullShare.right.left (Cb ids Ew c) (Cb ids Ew (pz (pz c))) (at' c cb k fullShare.right.right (Cb ids Ew c))
    (by rw [pz_pz]; rfl) rfl rfl (owedK_z c k)
    (sep_mono (halves c cb k fullShare.right _) .rfl) (sep_mono .rfl (emp_r' _)) hn hsrc hdst hs hs' h

/-- What came along `z` goes on along `y`: the first four chunks. -/
theorem st_fwd_lo {k : Fin 8} {l : List (Fin 8)} (hp : l.count k + 10 = 23) (hlo : isLo k = true)
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = py c) (hsrc : src = ch zb k) (hdst : dst = ch db k) (hs : s = semIx 6 k) (hs' : s' = semIx 7 k) (h : St ids Ew K c l ⊢ WP c (κ ⟨⟩) Q) :
    St ids Ew K c (k :: l) ⊢ WP c (.op (.enqueueDma src (.remote (Dev.tc n : Thread nD τ) dst (.dma s) hsc) (.dma s') h1 h2 h3) κ) Q :=
  send_step ids Ew K c hp [13, 18, 19] (by decide) (fun lo h => by rw [h, hlo]; decide) (d := fd c k) 6 7 zb db fullShare.left (Cb ids Ew (pz c)) (Cb ids Ew (dg (fd c k))) (at' c zb k fullShare.right (Cb ids Ew (pz c)))
    (by rw [show dg (fd c k) = pz c from by unfold fd; rw [if_pos (of_decide_eq_true hlo)]; exact dg_py c]; rfl) (by unfold pay; exact (if_pos (of_decide_eq_true hlo)).symm) rfl (owedK_f c k (tfw_lo hlo).symm)
    (by rw [hlo]; exact sep_mono (halves c zb k fullShare _) .rfl) (by rw [hlo]; exact sep_mono .rfl (emp_r' _)) (hn.trans (if_pos (of_decide_eq_true hlo)).symm) hsrc hdst hs hs' h

/-- What came along `y` goes on along `z`: the other chunks. -/
theorem st_fwd_hi {k : Fin 8} {l : List (Fin 8)} (hp : l.count k + 12 = 23) (hlo : isLo k = false)
    {α : Type} {Q : α → sProp 𝕄} {κ : PUnit → Prog (TpuEff nD τ sig (Elt F) Λ₀ .tc) α} {n : Dev nD}
    {src dst : Memref sig .tc .vmem S64x1024 .bf16} {s s' : DmaSem sig}
    {hsc : (dst : Memref sig (Dev.tc n : Thread nD τ).2.kind .vmem S64x1024 .bf16).view.ref.isScScratch = false}
    {h1 : src.view.WordExact} {h2 : dst.view.WordExact}
    {h3 : DmaTarget.Typed (p := Proc.tc) .vmem (.dma s') (.remote (Dev.tc n : Thread nD τ) (dst : Memref sig (Dev.tc n : Thread nD τ).2.kind .vmem S64x1024 .bf16) (.dma s) hsc)}
    (hn : n = pz c) (hsrc : src = ch yb k) (hdst : dst = ch db k) (hs : s = semIx 6 k) (hs' : s' = semIx 7 k) (h : St ids Ew K c l ⊢ WP c (κ ⟨⟩) Q) :
    St ids Ew K c (k :: l) ⊢ WP c (.op (.enqueueDma src (.remote (Dev.tc n : Thread nD τ) dst (.dma s) hsc) (.dma s') h1 h2 h3) κ) Q :=
  send_step ids Ew K c hp [16, 18, 19] (by decide) (fun lo h => by rw [h, hlo]; decide) (d := fd c k) 6 7 yb db fullShare.left (Cb ids Ew (py c)) (Cb ids Ew (dg (fd c k))) (at' c yb k fullShare.right (Cb ids Ew (py c)))
    (by rw [show dg (fd c k) = py c from by unfold fd; rw [if_neg (of_decide_eq_false hlo)]; exact dg_pz c]; rfl) (by unfold pay; exact (if_neg (of_decide_eq_false hlo)).symm) rfl (owedK_f c k (tfw_hi hlo).symm)
    (by rw [hlo]; exact sep_mono (halves c yb k fullShare _) .rfl) (by rw [hlo]; exact sep_mono .rfl (emp_r' _)) (hn.trans (if_neg (of_decide_eq_false hlo)).symm) hsrc hdst hs hs' h

/-- The own sum goes to the result. -/
theorem st_outm {k : Fin 8} {l : List (Fin 8)} (hp : l.count k + 8 = 23)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch cb k) (hdst : dst = ob (c) k) (hs : s = osem 0 k) (h : St ids Ew K c l ⊢ WP c (κ ⟨⟩) Q) :
    St ids Ew K c (k :: l) ⊢ WP c (.op (.enqueueDma src (.here dst) (.dma s) h1 h2 h3) κ) Q :=
  out_step ids Ew K c hp [6, 11] (by decide) (fun lo hl => by clear hl; revert lo; decide) (c) 0 cb fullShare.right.right (Cb ids Ew c) iprop(emp) (read_Out ids Ew c (c) k rfl) (owedK_same c k 8 (by decide) (by decide) (by decide) (tfw_ne (by decide) (by decide)))
    (sep_mono (emp_r' _) .rfl) (.rfl) hsrc hdst hs h

/-- The sum from along `z` goes to the result: the first four chunks. -/
theorem st_outz_lo {k : Fin 8} {l : List (Fin 8)} (hp : l.count k + 11 = 23) (hlo : isLo k = true)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch zb k) (hdst : dst = ob (pz c) k) (hs : s = osem 1 k) (h : St ids Ew K c l ⊢ WP c (κ ⟨⟩) Q) :
    St ids Ew K c (k :: l) ⊢ WP c (.op (.enqueueDma src (.here dst) (.dma s) h1 h2 h3) κ) Q :=
  out_step ids Ew K c hp [13, 14] (by decide) (fun lo h => by rw [h, hlo]; decide) (pz c) 1 zb fullShare.right (Cb ids Ew (pz c)) iprop(emp) (read_Out ids Ew c (pz c) k (pz_x c)) (owedK_same c k 11 (by decide) (by decide) (by decide) (by rw [tfw_lo hlo]; decide))
    (by rw [hlo]; exact sep_mono (emp_r' _) .rfl) (by rw [hlo]; exact .rfl) hsrc hdst hs h

/-- The sum from along `z` goes to the result: the other chunks. -/
theorem st_outz_hi {k : Fin 8} {l : List (Fin 8)} (hp : l.count k + 10 = 23) (hlo : isLo k = false)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch zb k) (hdst : dst = ob (pz c) k) (hs : s = osem 1 k) (h : St ids Ew K c l ⊢ WP c (κ ⟨⟩) Q) :
    St ids Ew K c (k :: l) ⊢ WP c (.op (.enqueueDma src (.here dst) (.dma s) h1 h2 h3) κ) Q :=
  out_step ids Ew K c hp [13, 14] (by decide) (fun lo h => by rw [h, hlo]; decide) (pz c) 1 zb fullShare.right (Cb ids Ew (pz c)) (at' c zb k fullShare.left (Cb ids Ew (pz c))) (read_Out ids Ew c (pz c) k (pz_x c)) (owedK_same c k 10 (by decide) (by decide) (by decide) (by rw [tfw_hi hlo]; decide))
    (by rw [hlo]; exact sep_mono ((halves c zb k fullShare _).trans (swap _ _)) .rfl) (by rw [hlo]; exact .rfl) hsrc hdst hs h

/-- The sum from along `y` goes to the result: the first four chunks. -/
theorem st_outy_lo {k : Fin 8} {l : List (Fin 8)} (hp : l.count k + 13 = 23) (hlo : isLo k = true)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch yb k) (hdst : dst = ob (py c) k) (hs : s = osem 2 k) (h : St ids Ew K c l ⊢ WP c (κ ⟨⟩) Q) :
    St ids Ew K c (k :: l) ⊢ WP c (.op (.enqueueDma src (.here dst) (.dma s) h1 h2 h3) κ) Q :=
  out_step ids Ew K c hp [16, 17] (by decide) (fun lo h => by rw [h, hlo]; decide) (py c) 2 yb fullShare.right (Cb ids Ew (py c)) (at' c yb k fullShare.left (Cb ids Ew (py c))) (read_Out ids Ew c (py c) k (py_x c)) (owedK_same c k 13 (by decide) (by decide) (by decide) (by rw [tfw_lo hlo]; decide))
    (by rw [hlo]; exact sep_mono ((halves c yb k fullShare _).trans (swap _ _)) .rfl) (by rw [hlo]; exact .rfl) hsrc hdst hs h

/-- The sum from along `y` goes to the result: the other chunks. -/
theorem st_outy_hi {k : Fin 8} {l : List (Fin 8)} (hp : l.count k + 13 = 23) (hlo : isLo k = false)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch yb k) (hdst : dst = ob (py c) k) (hs : s = osem 2 k) (h : St ids Ew K c l ⊢ WP c (κ ⟨⟩) Q) :
    St ids Ew K c (k :: l) ⊢ WP c (.op (.enqueueDma src (.here dst) (.dma s) h1 h2 h3) κ) Q :=
  out_step ids Ew K c hp [16, 17] (by decide) (fun lo h => by rw [h, hlo]; decide) (py c) 2 yb fullShare.right (Cb ids Ew (py c)) iprop(emp) (read_Out ids Ew c (py c) k (py_x c)) (owedK_same c k 13 (by decide) (by decide) (by decide) (by rw [tfw_hi hlo]; decide))
    (by rw [hlo]; exact sep_mono (emp_r' _) .rfl) (by rw [hlo]; exact .rfl) hsrc hdst hs h

/-- The sum from across the square goes to the result. -/
theorem st_outd {k : Fin 8} {l : List (Fin 8)} (hp : l.count k + 15 = 23)
    {α : Type} {Q : α → sProp 𝕄} {κ : PUnit → Prog (TpuEff nD τ sig (Elt F) Λ₀ .tc) α} {src : Memref sig .tc .vmem S64x1024 .bf16} {dst : Memref sig .tc .hbm S64x1024 .bf16} {s : DmaSem sig}
    {h1 : src.view.WordExact} {h2 : dst.view.WordExact} {h3 : DmaTarget.Typed (nD := nD) (p := Proc.tc) .vmem (.dma s) (.here dst)}
    (hsrc : src = ch db k) (hdst : dst = ob (dg c) k) (hs : s = osem 3 k) (h : St ids Ew K c l ⊢ WP c (κ ⟨⟩) Q) :
    St ids Ew K c (k :: l) ⊢ WP c (.op (.enqueueDma src (.here dst) (.dma s) h1 h2 h3) κ) Q :=
  out_step ids Ew K c hp [21, 22] (by decide) (fun lo hl => by clear hl; revert lo; decide) (dg c) 3 db fullShare (Cb ids Ew (dg c)) iprop(emp) (read_Out ids Ew c (dg c) k (dg_x c)) (owedK_same c k 15 (by decide) (by decide) (by decide) (tfw_ne (by decide) (by decide)))
    (sep_mono (emp_r' _) .rfl) (.rfl) hsrc hdst hs h

/-- A copy to the result is waited for. -/
theorem st_wait_o0 {k : Fin 8} {l : List (Fin 8)} (hp : l.count k + 20 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = osem 0 k) (hN : dst.view.dmaCredit = N) (h : St ids Ew K c l ⊢ WP c (κ ⟨⟩) Q) :
    St ids Ew K c (k :: l) ⊢ WP c (.op (.waitDma2 (p := Proc.tc) s src dst h1 h2) κ) Q :=
  owait_step ids Ew K c hp [11] (by decide) (fun lo h => by subst h; cases isLo k <;> decide) 0 (oD ids Ew c c cb k fullShare.right.right (Cb ids Ew c)) (owedK_same c k 20 (by decide) (by decide) (by decide) (tfw_ne (by decide) (by decide))) (by cases isLo k <;> exact .rfl) (by cases isLo k <;> exact .rfl) hs hN h

/-- A copy to the result is waited for. -/
theorem st_wait_o1 {k : Fin 8} {l : List (Fin 8)} (hp : l.count k + 21 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = osem 1 k) (hN : dst.view.dmaCredit = N) (h : St ids Ew K c l ⊢ WP c (κ ⟨⟩) Q) :
    St ids Ew K c (k :: l) ⊢ WP c (.op (.waitDma2 (p := Proc.tc) s src dst h1 h2) κ) Q :=
  owait_step ids Ew K c hp [14] (by decide) (fun lo h => by subst h; cases isLo k <;> decide) 1 (oD ids Ew c (pz c) zb k fullShare.right (Cb ids Ew (pz c))) (owedK_same c k 21 (by decide) (by decide) (by decide) (tfw_ne (by decide) (by decide))) (by cases isLo k <;> exact .rfl) (by cases isLo k <;> exact .rfl) hs hN h

/-- A copy to the result is waited for. -/
theorem st_wait_o2 {k : Fin 8} {l : List (Fin 8)} (hp : l.count k + 22 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = osem 2 k) (hN : dst.view.dmaCredit = N) (h : St ids Ew K c l ⊢ WP c (κ ⟨⟩) Q) :
    St ids Ew K c (k :: l) ⊢ WP c (.op (.waitDma2 (p := Proc.tc) s src dst h1 h2) κ) Q :=
  owait_step ids Ew K c hp [17] (by decide) (fun lo h => by subst h; cases isLo k <;> decide) 2 (oD ids Ew c (py c) yb k fullShare.right (Cb ids Ew (py c))) (owedK_same c k 22 (by decide) (by decide) (by decide) (tfw_ne (by decide) (by decide))) (by cases isLo k <;> exact .rfl) (by cases isLo k <;> exact .rfl) hs hN h

/-- A copy to the result is waited for. -/
theorem st_wait_o3 {k : Fin 8} {l : List (Fin 8)} (hp : l.count k + 23 = 23)
    {α : Type} {Q : α → sProp 𝕄} {κ : PUnit → Prog (TpuEff nD τ sig (Elt F) Λ₀ .tc) α} {sp sp' : Space} {s1 : Shape} {e1 : EltTy} {s2 : Shape} {e2 : EltTy}
    {src : Memref sig .tc sp s1 e1} {dst : Memref sig .tc sp' s2 e2} {s : DmaSem sig} {h1 : src.view.WordExact} {h2 : dst.view.WordExact}
    (hs : s = osem 3 k) (hN : dst.view.dmaCredit = N) (h : St ids Ew K c l ⊢ WP c (κ ⟨⟩) Q) :
    St ids Ew K c (k :: l) ⊢ WP c (.op (.waitDma2 (p := Proc.tc) s src dst h1 h2) κ) Q :=
  owait_step ids Ew K c hp [22] (by decide) (fun lo h => by subst h; cases isLo k <;> decide) 3 (oD ids Ew c (dg c) db k fullShare (Cb ids Ew (dg c))) (owedK_same c k 23 (by decide) (by decide) (by decide) (tfw_ne (by decide) (by decide))) (by cases isLo k <;> exact .rfl) (by cases isLo k <;> exact .rfl) hs hN h

end

end Cert.Emb
-- ==== Proof.Locals.lean ====
/-
# Locals: the steps of a chunk that stay on the device
-/
module

public import proofs.«01_k».proof.Proof.Steps

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (ids : Dev nD → (cc0_stg0_0 : Ref sig .tc).ty.Contents (Elt F)) (Ew : Dev nD → (main_arg1 : Ref sig .tc).ty.Contents (Elt F))
variable (K : GSem nD τ sig → ℕ) (c : Dev nD)

/-- A proposition the program assumes. -/
theorem st_assume {l : List (Fin 8)} {α : Type} {Q : α → sProp 𝕄} {P : Prop} {d : Decidable P}
    {κ : PLift P → Prog (TpuEff nD τ sig (Elt F) Λ₀ .tc) α} (hP : P)
    (h : St ids Ew K c l ⊢ WP c (κ ⟨hP⟩) Q) : St ids Ew K c l ⊢ WP c (.op (.assume P d) κ) Q :=
  h.trans (wp_assume (defs := defs₀ (F := F)) 𝒱₀ (c : Thread nD τ) none Set.univ hP)

/-- The chunk's rows start to come. -/
theorem st_gather {k : Fin 8} {l : List (Fin 8)} (hp : l.count k + 0 = 23)
    {ok : k0_t1_loop.OK} {body : Fin k0_t1_loop.trips → BitVec 32 → Prog (TpuEff nD τ sig (Elt F) Λ₀ .tc) (BitVec 32)}
    (hb : ∀ t acc, ∃ o1 i1 o2 i2 o1' i1' o2' i2' s s', body t acc = half o1 i1 o2 i2 s acc (fun a => half o1' i1' o2' i2' s' a .ret)
      ∧ o1 = ![512 * (c.val % 4) + (64 * k.val + 2 * t.val)] ∧ o2 = ![64 * k.val + 2 * t.val, 0] ∧ s = gsem k
      ∧ o1' = ![512 * (c.val % 4) + (64 * k.val + (2 * t.val + 1))] ∧ o2' = ![64 * k.val + (2 * t.val + 1), 0] ∧ s' = gsem k)
    {α : Type} {Q : α → sProp 𝕄} {κ : BitVec 32 → Prog (TpuEff nD τ sig (Elt F) Λ₀ .tc) α}
    (h : St ids Ew K c l ⊢ WP c (κ (BitVec.ofNat 32 (cnt ids c k 64))) Q) :
    St ids Ew K c (k :: l) ⊢ WP c (Scf.Loop.for k0_t1_loop ok 0#32 body >>= κ) Q := by
  refine step ids Ew K c hp [0] (by decide) (fun lo hl => by clear hl; revert lo; decide) ?_ h
  rw [owed_same hp (owedK_same c k 0 (by decide) (by decide) (by decide) (tfw_ne (by decide) (by decide)))]
  show iprop(gTodo (F := F) Ew c k ∗ owesE c (owed c l) ∗ idsAt ids c ∗ Pers ids Ew K)
    ⊢ iprop(((gInv ids Ew c k 64 ∗ owesE c (owed c l) ∗ idsAt ids c) -∗ _) -∗ _)
  iintro ⟨Hs, Ho, Hi, #HP⟩ Hk
  iapply (wp_of_fupd c)
  imod (g_open ids Ew c k) $$ Hs with Hs
  imodintro
  iapply (wp_gather ids Ew c k hb (iprop(owesE c (owed c l)
    ∗ ((gInv ids Ew c k 64 ∗ owesE c (owed c l) ∗ idsAt ids c) -∗ WP c (κ (BitVec.ofNat 32 (cnt ids c k 64))) Q))) (by
      iintro ⟨Hs, Hi, Ho, Hk⟩
      iapply Hk
      isplitl [Hs]; · iexact Hs
      isplitl [Ho]; · iexact Ho
      iexact Hi))
  isplitl [Hs]; · iexact Hs
  isplitl [Hi]; · iexact Hi
  isplitl [Ho]; · iexact Ho
  iexact Hk

/-- The chunk's rows are waited for. -/
theorem st_drain {k : Fin 8} {l : List (Fin 8)} (hp : l.count k + 1 = 23)
    {ok : (k0_t2_loop (BitVec.ofNat 32 (cnt ids c k 64))).OK} {init : BitVec 32}
    {body : Fin (k0_t2_loop (BitVec.ofNat 32 (cnt ids c k 64))).trips → BitVec 32 → Prog (TpuEff nD τ sig (Elt F) Λ₀ .tc) (BitVec 32)}
    (hb : ∀ t acc, ∃ (s : DmaSem sig) (src : Memref sig .tc .hbm S1x1024 .f32) (dst : Memref sig .tc .vmem S1x1024 .f32) (h : src.view.WordExact)
      (h' : dst.view.WordExact), body t acc = .op (.waitDma2 (p := Proc.tc) s src dst h h') (fun _ => .ret 0#32) ∧ s = gsem k ∧ dst.view.dmaCredit = NR)
    {α : Type} {Q : α → sProp 𝕄} {κ : BitVec 32 → Prog (TpuEff nD τ sig (Elt F) Λ₀ .tc) α}
    (h : ∀ a, St ids Ew K c l ⊢ WP c (κ a) Q) :
    St ids Ew K c (k :: l) ⊢ WP c (Scf.Loop.for (k0_t2_loop (BitVec.ofNat 32 (cnt ids c k 64))) ok init body >>= κ) Q := by
  refine step ids Ew K c hp [0] (by decide) (fun lo hl => by clear hl; revert lo; decide) (G := iprop(∀ a, WP c (κ a) Q)) ?_ (forall_intro h)
  rw [owed_same hp (owedK_same c k 1 (by decide) (by decide) (by decide) (tfw_ne (by decide) (by decide)))]
  show iprop(gInv ids Ew c k 64 ∗ owesE c (owed c l) ∗ idsAt ids c ∗ Pers ids Ew K)
    ⊢ iprop(((gDone ids Ew c k ∗ owesE c (owed c l) ∗ idsAt ids c) -∗ _) -∗ _)
  iintro ⟨Hs, Ho, Hi, #HP⟩ Hk
  iapply (wp_drain ids Ew c k (Pers ids Ew K) (pers_wait ids Ew K c 0 _ _ (above_zero l) (lv_other c _ (gsem_ne k) ()).le) hb (iprop(idsAt ids c
    ∗ ((gDone ids Ew c k ∗ owesE c (owed c l) ∗ idsAt ids c) -∗ ∀ a, WP c (κ a) Q))) (fun a => by
      iintro ⟨Hs, Ho, -, Hi, Hk⟩
      ihave Hk := Hk $$ [Hs Ho Hi]
      · isplitl [Hs]; · iexact Hs
        isplitl [Ho]; · iexact Ho
        iexact Hi
      iapply Hk))
  isplitl [Hs]; · iexact Hs
  isplitl [Ho]; · iexact Ho
  isplitr; · iexact HP
  isplitl [Hi]; · iexact Hi
  iexact Hk

/-- The loop over what is left of a group of waits has no trip. -/
theorem st_skip {l : List (Fin 8)} (k : Fin 8) {ok : (k0_t3_loop (BitVec.ofNat 32 (cnt ids c k 64))).OK} {init : BitVec 32}
    {body : Fin (k0_t3_loop (BitVec.ofNat 32 (cnt ids c k 64))).trips → BitVec 32 → Prog (TpuEff nD τ sig (Elt F) Λ₀ .tc) (BitVec 32)}
    {α : Type} {Q : α → sProp 𝕄} {κ : BitVec 32 → Prog (TpuEff nD τ sig (Elt F) Λ₀ .tc) α}
    (h : ∀ a, St ids Ew K c l ⊢ WP c (κ a) Q) :
    St ids Ew K c l ⊢ WP c (Scf.Loop.for (k0_t3_loop (BitVec.ofNat 32 (cnt ids c k 64))) ok init body >>= κ) Q :=
  wp_skip ids c k _ h

/-- A load of a chunk whose contents are known. -/
theorem load_step {k : Fin 8} {l : List (Fin 8)} {p : ℕ} (hp : l.count k + p = 24) (e : Fin 23) {et : EltTy}
    (b : Memref sig .tc .vmem S512x1024 et) (q : PosShare TreeShare) (f : Buf (Elt F) ((ch b k).view.loc (c : Thread nD τ))) (R : sProp 𝕄)
    (hA : piece ids Ew c k e.val (cls (isLo k) e.val p) = iprop(at' c b k q f ∗ R))
    {o : Fin 2 → ℕ} {i : ∀ a, o a + S64x1024.size a ≤ S512x1024.size a} (ho : o = ![64 * k.val, 0])
    {hl : b.view.LoadsAt (Rect.unit (s := S512x1024) o S64x1024.size i).toLoadRect}
    {α : Type} {Q : α → sProp 𝕄} {κ : (S64x1024.Idx → Elt F et) → Prog (TpuEff nD τ sig (Elt F) Λ₀ .tc) α}
    (h : St ids Ew K c l ⊢ WP c (κ ((ch b k).view.read (Elt F) f)) Q) :
    St ids Ew K c l ⊢ WP c (.op (.load (p := Proc.tc) b (Rect.unit (s := S512x1024) o S64x1024.size i).toLoadRect hl) κ) Q := by
  refine look ids Ew K c hp [e] (List.nodup_singleton e) ?_ h
  show piece ids Ew c k e.val (cls (isLo k) e.val p) ⊢ iprop((piece ids Ew c k e.val (cls (isLo k) e.val p) -∗ _) -∗ _)
  rw [hA]
  iintro ⟨Hb, HR⟩ Hk
  iapply (op_load c k b q f ho) $$ Hb
  iintro Hb
  iapply Hk
  isplitl [Hb]; · iexact Hb
  iexact HR

/-- A load of a chunk at contents nobody knows. -/
theorem dead_step {k : Fin 8} {l : List (Fin 8)} {p : ℕ} (hp : l.count k + p = 24) (e : Fin 23) {et : EltTy}
    (b : Memref sig .tc .vmem S512x1024 et)
    (hA : piece ids Ew c k e.val (cls (isLo k) e.val p) = iprop(∃ f, at' (F := F) c b k fullShare f))
    {o : Fin 2 → ℕ} {i : ∀ a, o a + S64x1024.size a ≤ S512x1024.size a} (ho : o = ![64 * k.val, 0])
    {hl : b.view.LoadsAt (Rect.unit (s := S512x1024) o S64x1024.size i).toLoadRect}
    {α : Type} {Q : α → sProp 𝕄} {κ : (S64x1024.Idx → Elt F et) → Prog (TpuEff nD τ sig (Elt F) Λ₀ .tc) α}
    (h : ∀ v, St ids Ew K c l ⊢ WP c (κ v) Q) :
    St ids Ew K c l ⊢ WP c (.op (.load (p := Proc.tc) b (Rect.unit (s := S512x1024) o S64x1024.size i).toLoadRect hl) κ) Q := by
  refine look ids Ew K c hp [e] (List.nodup_singleton e) (G := iprop(∀ v, WP c (κ v) Q)) ?_ (forall_intro h)
  show piece ids Ew c k e.val (cls (isLo k) e.val p) ⊢ iprop((piece ids Ew c k e.val (cls (isLo k) e.val p) -∗ _) -∗ _)
  rw [hA]
  iintro ⟨%f, Hb⟩ Hk
  iapply (op_load c k b fullShare f ho) $$ Hb
  iintro Hb
  ihave Hk := Hk $$ [Hb]
  · iexists f; iexact Hb
  iapply Hk

/-- A store of a chunk. -/
theorem store_step {k : Fin 8} {l : List (Fin 8)} {p : ℕ} (hp : l.count k + p = 23) (e : Fin 23)
    (hes : ∀ lo : Bool, ∀ e' ∉ [e], cls lo e'.val p = cls lo e'.val (p + 1)) (hd : owedK c k p = owedK c k (p + 1))
    (b : Memref sig .tc .vmem S512x1024 .bf16) (f : Buf (Elt F) ((ch b k).view.loc (c : Thread nD τ)))
    (hA : piece ids Ew c k e.val (cls (isLo k) e.val p) = iprop(∃ f, at' (F := F) c b k fullShare f))
    (hB : piece ids Ew c k e.val (cls (isLo k) e.val (p + 1)) = at' c b k fullShare f)
    {o : Fin 2 → ℕ} {i : ∀ a, o a + S64x1024.size a ≤ S512x1024.size a} (ho : o = ![64 * k.val, 0])
    {w : S64x1024.Idx → Elt F .bf16} (hw : (ch b k).view.read (Elt F) f = w)
    {hx : (b.access (Rect.unit (s := S512x1024) o S64x1024.size i)).Stores Finset.univ} {hm}
    {α : Type} {Q : α → sProp 𝕄} {κ : PUnit → Prog (TpuEff nD τ sig (Elt F) Λ₀ .tc) α} (h : St ids Ew K c l ⊢ WP c (κ ⟨⟩) Q) :
    St ids Ew K c (k :: l) ⊢ WP c (.op (.store (p := Proc.tc) b (Rect.unit (s := S512x1024) o S64x1024.size i) w Finset.univ hx hm) κ) Q := by
  refine step ids Ew K c hp [e] (List.nodup_singleton e) (fun lo _ => hes lo) ?_ h
  rw [owed_same hp hd]
  show iprop(piece ids Ew c k e.val (cls (isLo k) e.val p) ∗ _) ⊢ iprop(((piece ids Ew c k e.val (cls (isLo k) e.val (p + 1)) ∗ _) -∗ _) -∗ _)
  rw [hA, hB]
  iintro ⟨Hb, Ho, Hi, -⟩ Hk
  iapply (op_store c k b f ho hw) $$ Hb
  iintro Hb
  iapply Hk
  isplitl [Hb]; · iexact Hb
  isplitl [Ho]; · iexact Ho
  iexact Hi

/-! ## The loads and stores of a chunk -/

/-- The gathered chunk is read. -/
theorem st_load_g {k : Fin 8} {l : List (Fin 8)} (hp : (k :: l).count k + 2 = 24) {o : Fin 2 → ℕ} {i : ∀ a, o a + S64x1024.size a ≤ S512x1024.size a} (ho : o = ![64 * k.val, 0])
    {hl : gb.view.LoadsAt (Rect.unit (s := S512x1024) o S64x1024.size i).toLoadRect}
    {α : Type} {Q : α → sProp 𝕄} {κ : (S64x1024.Idx → Elt F .f32) → Prog (TpuEff nD τ sig (Elt F) Λ₀ .tc) α}
    (h : St ids Ew K c (k :: l) ⊢ WP c (κ ((ch gb k).view.read (Elt F) (G ids Ew c))) Q) :
    St ids Ew K c (k :: l) ⊢ WP c (.op (.load (p := Proc.tc) gb (Rect.unit (s := S512x1024) o S64x1024.size i).toLoadRect hl) κ) Q :=
  load_step ids Ew K c hp 0 gb fullShare (G ids Ew c) iprop(semVal ((c : Thread nD τ), .dma (gsem k)) 0 ∗ eSh Ew c k) rfl ho h

/-- The own rounded chunk is read again. -/
theorem st_load_p {k : Fin 8} {l : List (Fin 8)} (hp : (k :: l).count k + 5 = 24) {o : Fin 2 → ℕ} {i : ∀ a, o a + S64x1024.size a ≤ S512x1024.size a} (ho : o = ![64 * k.val, 0])
    {hl : pb.view.LoadsAt (Rect.unit (s := S512x1024) o S64x1024.size i).toLoadRect}
    {α : Type} {Q : α → sProp 𝕄} {κ : (S64x1024.Idx → Elt F .bf16) → Prog (TpuEff nD τ sig (Elt F) Λ₀ .tc) α}
    (h : St ids Ew K c (k :: l) ⊢ WP c (κ ((ch pb k).view.read (Elt F) (P ids Ew c))) Q) :
    St ids Ew K c (k :: l) ⊢ WP c (.op (.load (p := Proc.tc) pb (Rect.unit (s := S512x1024) o S64x1024.size i).toLoadRect hl) κ) Q :=
  load_step ids Ew K c hp 1 pb fullShare.right (P ids Ew c) iprop(emp) (Entails.antisymm (emp_r' _) (emp_r _)) ho h

/-- The other half's rounded chunk is read. -/
theorem st_load_x {k : Fin 8} {l : List (Fin 8)} (hp : (k :: l).count k + 5 = 24) {o : Fin 2 → ℕ} {i : ∀ a, o a + S64x1024.size a ≤ S512x1024.size a} (ho : o = ![64 * k.val, 0])
    {hl : xb.view.LoadsAt (Rect.unit (s := S512x1024) o S64x1024.size i).toLoadRect}
    {α : Type} {Q : α → sProp 𝕄} {κ : (S64x1024.Idx → Elt F .bf16) → Prog (TpuEff nD τ sig (Elt F) Λ₀ .tc) α}
    (h : St ids Ew K c (k :: l) ⊢ WP c (κ ((ch xb k).view.read (Elt F) (P ids Ew (px c)))) Q) :
    St ids Ew K c (k :: l) ⊢ WP c (.op (.load (p := Proc.tc) xb (Rect.unit (s := S512x1024) o S64x1024.size i).toLoadRect hl) κ) Q :=
  load_step ids Ew K c hp 5 xb fullShare (P ids Ew (px c)) iprop(emp) (Entails.antisymm (emp_r' _) (emp_r _)) ho h

/-- A load whose value is not used. -/
theorem st_dead_p {k : Fin 8} {l : List (Fin 8)} (hp : (k :: l).count k + 2 = 24) {o : Fin 2 → ℕ} {i : ∀ a, o a + S64x1024.size a ≤ S512x1024.size a} (ho : o = ![64 * k.val, 0])
    {hl : pb.view.LoadsAt (Rect.unit (s := S512x1024) o S64x1024.size i).toLoadRect}
    {α : Type} {Q : α → sProp 𝕄} {κ : (S64x1024.Idx → Elt F .bf16) → Prog (TpuEff nD τ sig (Elt F) Λ₀ .tc) α}
    (h : ∀ v, St ids Ew K c (k :: l) ⊢ WP c (κ v) Q) :
    St ids Ew K c (k :: l) ⊢ WP c (.op (.load (p := Proc.tc) pb (Rect.unit (s := S512x1024) o S64x1024.size i).toLoadRect hl) κ) Q :=
  dead_step ids Ew K c hp 1 pb rfl ho h

/-- A load whose value is not used. -/
theorem st_dead_c {k : Fin 8} {l : List (Fin 8)} (hp : (k :: l).count k + 5 = 24) {o : Fin 2 → ℕ} {i : ∀ a, o a + S64x1024.size a ≤ S512x1024.size a} (ho : o = ![64 * k.val, 0])
    {hl : cb.view.LoadsAt (Rect.unit (s := S512x1024) o S64x1024.size i).toLoadRect}
    {α : Type} {Q : α → sProp 𝕄} {κ : (S64x1024.Idx → Elt F .bf16) → Prog (TpuEff nD τ sig (Elt F) Λ₀ .tc) α}
    (h : ∀ v, St ids Ew K c (k :: l) ⊢ WP c (κ v) Q) :
    St ids Ew K c (k :: l) ⊢ WP c (.op (.load (p := Proc.tc) cb (Rect.unit (s := S512x1024) o S64x1024.size i).toLoadRect hl) κ) Q :=
  dead_step ids Ew K c hp 6 cb rfl ho h

/-- The rounded chunk is stored. -/
theorem st_store_p {k : Fin 8} {l : List (Fin 8)} (hp : l.count k + 2 = 23) {o : Fin 2 → ℕ} {i : ∀ a, o a + S64x1024.size a ≤ S512x1024.size a} (ho : o = ![64 * k.val, 0])
    {w : S64x1024.Idx → Elt F .bf16} (hw : (ch pb k).view.read (Elt F) (P ids Ew c) = w)
    {hx : (pb.access (Rect.unit (s := S512x1024) o S64x1024.size i)).Stores Finset.univ} {hm}
    {α : Type} {Q : α → sProp 𝕄} {κ : PUnit → Prog (TpuEff nD τ sig (Elt F) Λ₀ .tc) α} (h : St ids Ew K c l ⊢ WP c (κ ⟨⟩) Q) :
    St ids Ew K c (k :: l) ⊢ WP c (.op (.store (p := Proc.tc) pb (Rect.unit (s := S512x1024) o S64x1024.size i) w Finset.univ hx hm) κ) Q :=
  store_step ids Ew K c hp 1 (by decide) (owedK_same c k 2 (by decide) (by decide) (by decide) (tfw_ne (by decide) (by decide))) pb (P ids Ew c) rfl rfl ho hw h

/-- The sum is stored. -/
theorem st_store_c {k : Fin 8} {l : List (Fin 8)} (hp : l.count k + 5 = 23) {o : Fin 2 → ℕ} {i : ∀ a, o a + S64x1024.size a ≤ S512x1024.size a} (ho : o = ![64 * k.val, 0])
    {w : S64x1024.Idx → Elt F .bf16} (hw : (ch cb k).view.read (Elt F) (Cb ids Ew c) = w)
    {hx : (cb.access (Rect.unit (s := S512x1024) o S64x1024.size i)).Stores Finset.univ} {hm}
    {α : Type} {Q : α → sProp 𝕄} {κ : PUnit → Prog (TpuEff nD τ sig (Elt F) Λ₀ .tc) α} (h : St ids Ew K c l ⊢ WP c (κ ⟨⟩) Q) :
    St ids Ew K c (k :: l) ⊢ WP c (.op (.store (p := Proc.tc) cb (Rect.unit (s := S512x1024) o S64x1024.size i) w Finset.univ hx hm) κ) Q :=
  store_step ids Ew K c hp 6 (by decide) (owedK_same c k 5 (by decide) (by decide) (by decide) (tfw_ne (by decide) (by decide))) cb (Cb ids Ew c) rfl rfl ho hw h

end

end Cert.Emb
-- ==== Proof.Prologue.lean ====
/-
# Prologue: up to the barrier

A device tells its three neighbours that its landing chunks are free, clears its row buffer, starts the first chunk's
rows, and waits for its neighbours' word.
-/
module

public import proofs.«01_k».proof.Proof.Locals

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its chunks -/

theorem mem_rCh (k : Fin 8) (j : S512x1024.Idx) : j ∈ (rCh k).set ↔ (j 0).val / 64 = k.val := by
  rw [Rect.mem_set_unit]
  have h1 : (j 1).val < 1024 := (j 1).isLt
  constructor
  · intro h
    have h0 : 64 * k.val ≤ (j 0).val ∧ (j 0).val < 64 * k.val + 64 := h 0
    omega
  · intro h a
    fin_cases a
    · show 64 * k.val ≤ (j 0).val ∧ (j 0).val < 64 * k.val + 64; omega
    · show 0 ≤ (j 1).val ∧ (j 1).val < 0 + 1024; omega
theorem rCh_disj : ∀ k ∈ (Finset.univ : Finset (Fin 8)), ∀ k' ∈ (Finset.univ : Finset (Fin 8)), k ≠ k' → Disjoint (rCh k).set (rCh k').set := by
  intro k _ k' _ hne
  rw [Finset.disjoint_left]
  intro j h1 h2
  exact hne (Fin.ext (((mem_rCh k j).mp h1).symm.trans ((mem_rCh k' j).mp h2)))
theorem rCh_univ : (Finset.univ : Finset (Fin 8)).biUnion (fun k => (rCh k).set) = Finset.univ := by
  ext j
  rw [Finset.mem_biUnion]
  have h0 : (j 0).val < 512 := (j 0).isLt
  exact ⟨fun _ => Finset.mem_univ _, fun _ => ⟨⟨(j 0).val / 64, by omega⟩, Finset.mem_univ _, (mem_rCh _ j).mpr rfl⟩⟩

/-- A whole buffer of device `c`. -/
abbrev wh {e : EltTy} (c : Dev nD) (b : Memref sig .tc .vmem S512x1024 e) (q : PosShare TreeShare) (f : Buf (Elt F) (b.view.loc (c : Thread nD τ))) : sProp 𝕄 :=
  b.view.loc (c : Thread nD τ) ↦[Finset.univ]{q} f

omit [FloatOps F] in
theorem chunks_of {ℓ : Loc nD τ sig} {q : PosShare TreeShare} {f : Buf (Elt F) ℓ} (S T : Fin 8 → Finset (Idx ℓ)) (h : ∀ k, S k = T k)
    (hd : ∀ k ∈ (Finset.univ : Finset (Fin 8)), ∀ k' ∈ (Finset.univ : Finset (Fin 8)), k ≠ k' → Disjoint (T k) (T k'))
    (hu : (Finset.univ : Finset (Fin 8)).biUnion T = Finset.univ) :
    (ℓ ↦[Finset.univ]{q} f : sProp 𝕄) = bigSep Finset.univ fun k => ℓ ↦[S k]{q} f := by
  rw [← hu, pointsTo_biUnion Finset.univ T hd]
  exact bigSep_congr fun k _ => by rw [h k]
omit [FloatOps F] in
theorem chunks_gb (c : Dev nD) (f : Buf (Elt F) (gb.view.loc (c : Thread nD τ))) : wh c gb fullShare f = bigSep Finset.univ fun k => at' c gb k fullShare f :=
  chunks_of _ (fun k => (rCh k).set) (fun k => View.set_slice_whole _ _) rCh_disj rCh_univ

section
variable (ids : Dev nD → (cc0_stg0_0 : Ref sig .tc).ty.Contents (Elt F)) (Ew : Dev nD → (main_arg1 : Ref sig .tc).ty.Contents (Elt F))
variable (K : GSem nD τ sig → ℕ) (c : Dev nD)

/-- The pieces of a chunk that the barrier brings, and the chunk's rows. -/
abbrev early : List (Fin 23) := [0, 3, 8, 10, 19]
/-- The other pieces of a chunk, at the start. -/
def Half (k : Fin 8) : sProp 𝕄 := bigSep (Finset.univ \ early.toFinset) fun e : Fin 23 => piece ids Ew c k e.val (cls (isLo k) e.val 0)
/-- The rights to the four arrivals that the device causes for a chunk. -/
def toks (k : Fin 8) : sProp 𝕄 := iprop(dutyTok ER (cellAt (px c) 1 k) 0 0 ∗ dutyTok ER (cellAt (py c) 3 k) 0 0 ∗ dutyTok ER (cellAt (pz c) 5 k) 0 0
  ∗ dutyTok ER (cellAt (fd c k) 7 k) 0 0)
/-- The neighbours' landing chunks. -/
def lands (k : Fin 8) : sProp 𝕄 := iprop(land (F := F) (px c) xb 1 k ∗ land (F := F) (py c) yb 3 k ∗ land (F := F) (pz c) zb 5 k ∗ land (F := F) (fd c k) db 7 k)

/-- A chunk not begun, or whose rows are on their way, is its pieces. -/
theorem comp_start (k : Fin 8) (p : ℕ) (hp : p = 0 ∨ p = 1) :
    iprop(piece ids Ew c k 0 (cls (isLo k) 0 p) ∗ Half ids Ew c k ∗ toks (F := F) c k ∗ lands (F := F) c k) ⊢ Comp ids Ew c k p := by
  unfold Comp
  rw [bigSep_split early.toFinset, ← sepL_map _ early (by decide)]
  have hl : sepL (early.map fun e : Fin 23 => piece ids Ew c k e.val (cls (isLo k) e.val p))
      = iprop(piece ids Ew c k 0 (cls (isLo k) 0 p) ∗ (land (F := F) (px c) xb 1 k ∗ dutyTok ER (cellAt (px c) 1 k) 0 0)
        ∗ (land (F := F) (py c) yb 3 k ∗ dutyTok ER (cellAt (py c) 3 k) 0 0) ∗ (land (F := F) (pz c) zb 5 k ∗ dutyTok ER (cellAt (pz c) 5 k) 0 0)
        ∗ land (F := F) (fd c k) db 7 k ∗ dutyTok ER (cellAt (fd c k) 7 k) 0 0) := by
    rcases hp with rfl | rfl <;> cases h : isLo k <;> (simp only [List.map, h]; rfl)
  have hh : (bigSep (Finset.univ \ early.toFinset) fun e : Fin 23 => piece ids Ew c k e.val (cls (isLo k) e.val p)) = Half ids Ew c k := by
    refine bigSep_congr fun e he => congrArg _ ?_
    have hd : ∀ lo : Bool, ∀ e : Fin 23, e ∈ Finset.univ \ early.toFinset → cls lo e.val 1 = cls lo e.val 0 := by decide
    rcases hp with rfl | rfl
    · rfl
    · exact hd _ e he
  rw [hl, hh]
  unfold toks lands
  iintro ⟨Hg, Hh, ⟨Ht1, Ht2, Ht3, Ht4⟩, Hl1, Hl2, Hl3, Hl4⟩
  isplitr [Hh]
  · isplitl [Hg]; · iexact Hg
    isplitl [Hl1 Ht1]
    · isplitl [Hl1] <;> iassumption
    isplitl [Hl2 Ht2]
    · isplitl [Hl2] <;> iassumption
    isplitl [Hl3 Ht3]
    · isplitl [Hl3] <;> iassumption
    isplitl [Hl4] <;> iassumption
  iexact Hh

/-- What the barrier brings, chunk by chunk. -/
theorem bar_lands : (bigSep (Finset.univ : Finset (Fin 3)) fun d => barPay (F := F) c d) ⊢ bigSep Finset.univ fun k : Fin 8 => lands (F := F) c k := by
  have h3 : (bigSep (Finset.univ : Finset (Fin 3)) fun d => barPay (F := F) c d)
      = iprop(barPay (F := F) c 0 ∗ barPay (F := F) c 1 ∗ barPay (F := F) c 2) := bigSep_univ_eq_bigSepL ([0, 1, 2] : List (Fin 3)) (by decide) (by decide) _
  have hk : ∀ k : Fin 8, iprop(land (F := F) (px c) xb 1 k
        ∗ (land (F := F) (py c) yb 3 k ∗ if k.val < 4 then land (F := F) (py c) db 7 k else iprop(emp))
        ∗ (land (F := F) (pz c) zb 5 k ∗ if k.val < 4 then iprop(emp) else land (F := F) (pz c) db 7 k)) ⊢ lands (F := F) c k := by
    intro k
    unfold lands fd
    by_cases h : k.val < 4
    · rw [if_pos h, if_pos h, if_pos h]
      iintro ⟨H1, ⟨H2, H3⟩, H4, -⟩
      isplitl [H1]; · iexact H1
      isplitl [H2]; · iexact H2
      isplitl [H4] <;> iassumption
    · rw [if_neg h, if_neg h, if_neg h]
      iintro ⟨H1, ⟨H2, -⟩, H4, H3⟩
      isplitl [H1]; · iexact H1
      isplitl [H2]; · iexact H2
      isplitl [H4] <;> iassumption
  rw [h3]
  refine BIBase.Entails.trans ?_ (bigSep_mono fun k _ => hk k)
  rw [bigSep_sep', bigSep_sep']
  exact .rfl

/-- The order of the steps: the first chunk's rows are started before the barrier, `steps` are the others. -/
def steps : List (Fin 8) := [0, 0, 0, 1, 1, 1, 1, 2, 0, 0, 0, 0, 0, 2, 2, 2, 3, 1, 1, 1, 1, 1, 3, 3, 3, 4, 2, 2, 2, 2, 2, 4, 4, 4, 5, 3, 3, 3, 3, 3,
    5, 5, 5, 6, 4, 4, 4, 4, 4, 6, 6, 6, 7, 5, 5, 5, 5, 5, 7, 7, 7, 0, 0, 0, 6, 6, 6, 6, 6, 0, 0, 1, 1, 1, 7, 7, 7, 7, 7, 1,
    1, 2, 2, 2, 2, 2, 3, 3, 3, 3, 3, 4, 4, 4, 4, 4, 5, 5, 5, 5, 5, 6, 6, 6, 6, 6, 7, 7, 7, 7, 7, 0, 0, 1, 1, 2, 2, 3, 3, 4,
    4, 5, 5, 6, 6, 7, 7, 0, 1, 2, 3, 4, 5, 6, 7, 0, 1, 2, 3, 4, 5, 6, 7, 0, 1, 2, 3, 4, 5, 6, 7, 0, 1, 2, 3, 4, 5, 6, 7, 0,
    1, 2, 3, 4, 5, 0, 6, 0, 1, 7, 1, 2, 2, 3, 3, 4, 4, 5, 5, 6, 6, 7, 7, 0, 1, 2, 3, 4, 5, 6, 7]

/-- What a device starts from, owing `O`, but for what it sends with the words to its neighbours. -/
def Base (O : CellTallies nD τ sig Unit) : sProp 𝕄 := iprop((∃ f, wh (F := F) c gb fullShare f)
  ∗ (bigSep Finset.univ fun k : Fin 8 => iprop((semVal ((c : Thread nD τ), .dma (gsem k)) 0 ∗ eSh Ew c k) ∗ Half ids Ew c k ∗ toks (F := F) c k))
  ∗ (atPos ER (barCell c) 0 ∅ 0 ∗ cred (tallyAt (barCell c) () 3))
  ∗ owesE (F := F) c O ∗ idsAt ids c ∗ Pers ids Ew K)
/-- What goes with the word to the neighbour `d`. -/
def Word (d : Dev nD) (r : Fin 3) : sProp 𝕄 := iprop(barPay (F := F) d r ∗ dutyTok ER (barCell d) 0 r ∗ reached ER (barCell d) 0)
/-- What a device starts from. -/
def Start : sProp 𝕄 := iprop(Base ids Ew K c (O₀ c (0 :: steps)) ∗ Word (F := F) (px c) 0 ∗ Word (F := F) (py c) 1 ∗ Word (F := F) (pz c) 2 ∗ emp)
/-- After the row buffer is cleared. -/
def Cleared : sProp 𝕄 := iprop((bigSep Finset.univ fun k : Fin 8 => gTodo (F := F) Ew c k)
  ∗ (bigSep Finset.univ fun k : Fin 8 => iprop(Half ids Ew c k ∗ toks (F := F) c k))
  ∗ (atPos ER (barCell c) 0 ∅ 0 ∗ cred (tallyAt (barCell c) () 3))
  ∗ owesE (F := F) c (owed c steps) ∗ idsAt ids c ∗ Pers ids Ew K)
/-- After the first chunk's rows are started. -/
def Begun : sProp 𝕄 := iprop(gInv ids Ew c 0 64 ∗ (bigSep (Finset.univ.erase 0) fun k : Fin 8 => gTodo (F := F) Ew c k)
  ∗ (bigSep Finset.univ fun k : Fin 8 => iprop(Half ids Ew c k ∗ toks (F := F) c k))
  ∗ (atPos ER (barCell c) 0 ∅ 0 ∗ cred (tallyAt (barCell c) () 3))
  ∗ owesE (F := F) c (owed c steps) ∗ idsAt ids c ∗ Pers ids Ew K)

/-- One word to a neighbour. -/
theorem op_tell {α : Type} {Q : α → sProp 𝕄} {κ : PUnit → Prog (TpuEff nD τ sig (Elt F) Λ₀ .tc) α}
    {n : Dev nD} (d : Dev nD) (r : Fin 3) {O' : CellTallies nD τ sig Unit} (O : CellTallies nD τ sig Unit)
    (hO : O' = O + tallyAt (barCell d) () 1) (hn : n = d) {s : Sem sig} (hs : s = barS) {w : ℤ} (hw : w = 1) :
    iprop(barPay (F := F) d r ∗ dutyTok ER (barCell d) 0 r ∗ reached ER (barCell d) 0 ∗ owesE c O' ∗ Pers ids Ew K)
      ⊢ iprop((owesE c O -∗ WP c (κ ⟨⟩) Q) -∗ WP c (.op (.semSignal (Dev.tc n : Thread nD τ) s w) κ) Q) := by
  subst hn hs hw
  unfold owesE
  iintro ⟨Hp, Ht, #Hr, ⟨%W, HO⟩, #HP⟩ Hk
  iapply (Rounds.wp_signal 𝒱₀ ER (sched ids Ew) (c : Thread nD τ) none (dst := (n : Thread nD τ)) (sem := barS) (r := 0) (d := r) (k' := 1) (κ := K (barCell n))
    (by rw [duties_bar]; exact Finset.mem_univ _) (amount_bar ids Ew n r) () O hO (W := W)) $$ [Hp Ht HO]
  · isplitr; · iapply (pers_bar ids Ew K n); iexact HP
    isplitl [HO]; · iexact HO
    isplitl [Ht]; · iexact Ht
    isplitl [Hp]; · rw [payload_bar]; iexact Hp
    iexact Hr
  iintro HO
  iapply Hk
  iexists W; iexact HO

/-- One word to a neighbour, from what is in hand. -/
theorem pro_tell {α : Type} {Q : α → sProp 𝕄} {κ : PUnit → Prog (TpuEff nD τ sig (Elt F) Λ₀ .tc) α}
    {n : Dev nD} {d : Dev nD} {r : Fin 3} {O : CellTallies nD τ sig Unit} {R : sProp 𝕄} {s : Sem sig} {w : ℤ} (hn : n = d) (hs : s = barS) (hw : w = 1)
    (h : iprop(Base ids Ew K c O ∗ R) ⊢ WP c (κ ⟨⟩) Q) :
    iprop(Base ids Ew K c (O + tallyAt (barCell d) () 1) ∗ Word (F := F) d r ∗ R) ⊢ WP c (.op (.semSignal (Dev.tc n : Thread nD τ) s w) κ) Q := by
  unfold Base Word
  unfold Base at h
  iintro ⟨⟨Hg, Hk, Hb, Ho, Hi, #HP⟩, ⟨Hp1, Ht1, #Hr1⟩, HR⟩
  iapply (op_tell ids Ew K c d r O rfl hn hs hw) $$ [Hp1 Ht1 Ho]
  · isplitl [Hp1]; · iexact Hp1
    isplitl [Ht1]; · iexact Ht1
    isplitr; · iexact Hr1
    isplitl [Ho]; · iexact Ho
    iexact HP
  iintro Ho
  iapply h
  isplitr [HR]
  · isplitl [Hg]; · iexact Hg
    isplitl [Hk]; · iexact Hk
    isplitl [Hb]; · iexact Hb
    isplitl [Ho]; · iexact Ho
    isplitl [Hi]; · iexact Hi
    iexact HP
  iexact HR

/-- The row buffer is looked at before it is cleared. -/
theorem pro_look {α : Type} {Q : α → sProp 𝕄} {κ : (S512x1024.Idx → Elt F .f32) → Prog (TpuEff nD τ sig (Elt F) Λ₀ .tc) α}
    {O : CellTallies nD τ sig Unit} {R : sProp 𝕄} {o : Fin 2 → ℕ} {i : ∀ a, o a + S512x1024.size a ≤ S512x1024.size a}
    {hl : gb.view.LoadsAt (Rect.unit (s := S512x1024) o S512x1024.size i).toLoadRect}
    (h : ∀ v, iprop(Base ids Ew K c O ∗ R) ⊢ WP c (κ v) Q) :
    iprop(Base ids Ew K c O ∗ R) ⊢ WP c (.op (.load (p := Proc.tc) gb (Rect.unit (s := S512x1024) o S512x1024.size i).toLoadRect hl) κ) Q := by
  unfold Base at h ⊢
  iintro ⟨⟨⟨%f, Hg⟩, Hk⟩, HR⟩
  iapply (wp_load_rect (defs := defs₀ (F := F)) 𝒱₀ (c : Thread nD τ) none Set.univ (m := gb) (r := Rect.unit (s := S512x1024) o S512x1024.size i)
    (S := Finset.univ) (q := fullShare) (f := f) (Finset.subset_univ _)) $$ Hg
  iintro Hg
  iapply (h _)
  isplitr [HR]
  · isplitl [Hg]
    · iexists f; iexact Hg
    iexact Hk
  iexact HR

/-- The row buffer is cleared. -/
theorem pro_clear {α : Type} {Q : α → sProp 𝕄} {κ : PUnit → Prog (TpuEff nD τ sig (Elt F) Λ₀ .tc) α}
    {i : ∀ a, (![0, 0] : Fin 2 → ℕ) a + S512x1024.size a ≤ S512x1024.size a}
    {hx : (gb.access (Rect.unit (s := S512x1024) ![0, 0] S512x1024.size i)).Stores Finset.univ} {hm}
    (h : Cleared ids Ew K c ⊢ WP c (κ ⟨⟩) Q) :
    iprop(Base ids Ew K c (owed c (0 :: steps)) ∗ emp) ⊢ WP c (.op (.store (p := Proc.tc) gb (Rect.unit (s := S512x1024) ![0, 0] S512x1024.size i) (k0_pay1 (F := F)) Finset.univ hx hm) κ) Q := by
  have hz : ∀ f, (gb.access (Rect.unit (s := S512x1024) ![0, 0] S512x1024.size i)).write (Elt F) f (k0_pay1 (F := F)) Finset.univ = zeros (F := F) := fun f =>
    Memref.write_access_unit_zero_univ (Elt F) cc0_scratch0 (show (![0, 0] : Fin 2 → Nat) = fun _ => 0 by funext a; fin_cases a <;> rfl) _ f _
  have hall : iprop((bigSep Finset.univ fun k : Fin 8 => at' c gb k fullShare (zeros (F := F)))
        ∗ bigSep Finset.univ fun k : Fin 8 => iprop((semVal ((c : Thread nD τ), .dma (gsem k)) 0 ∗ eSh Ew c k) ∗ Half ids Ew c k ∗ toks (F := F) c k))
      ⊢ iprop((bigSep Finset.univ fun k : Fin 8 => gTodo (F := F) Ew c k)
        ∗ bigSep Finset.univ fun k : Fin 8 => iprop(Half ids Ew c k ∗ toks (F := F) c k)) := by
    have h2 : (bigSep Finset.univ fun k : Fin 8 => gTodo (F := F) Ew c k) = iprop((bigSep Finset.univ fun k : Fin 8 => at' c gb k fullShare (zeros (F := F)))
        ∗ bigSep Finset.univ fun k : Fin 8 => iprop(semVal ((c : Thread nD τ), .dma (gsem k)) 0 ∗ eSh Ew c k)) := by
      unfold gTodo; exact bigSep_sep' ..
    have h3 : (bigSep Finset.univ fun k : Fin 8 => iprop((semVal ((c : Thread nD τ), .dma (gsem k)) 0 ∗ eSh Ew c k) ∗ Half ids Ew c k ∗ toks (F := F) c k))
        = iprop((bigSep Finset.univ fun k : Fin 8 => iprop(semVal ((c : Thread nD τ), .dma (gsem k)) 0 ∗ eSh Ew c k))
          ∗ bigSep Finset.univ fun k : Fin 8 => iprop(Half ids Ew c k ∗ toks (F := F) c k)) := bigSep_sep' ..
    rw [h2, h3]
    exact sep_assoc.2
  have ho : owed c (0 :: steps) = owed c steps :=
    owed_same (p := 0) (by decide +kernel) (owedK_same c 0 0 (by decide) (by decide) (by decide) (tfw_ne (by decide) (by decide)))
  unfold Base
  unfold Cleared at h
  rw [ho]
  iintro ⟨⟨⟨%f, Hg⟩, Hk, Hb, Ho, Hi, #HP⟩, -⟩
  iapply (wp_store (defs := defs₀ (F := F)) 𝒱₀ (c : Thread nD τ) none Set.univ (m := gb) (r := Rect.unit (s := S512x1024) ![0, 0] S512x1024.size i)
    (S := Finset.univ) (f := f) (Finset.subset_univ _)) $$ Hg
  iintro Hg
  ihave Hg := (Entails.of_eq ((congrArg (wh c gb fullShare) (hz f)).trans (chunks_gb c zeros))) $$ Hg
  ihave Hall := hall $$ [Hg Hk]
  · isplitl [Hg] <;> iassumption
  icases Hall with ⟨Hg, Hk⟩
  iapply h
  isplitl [Hg]; · iexact Hg
  isplitl [Hk]; · iexact Hk
  isplitl [Hb]; · iexact Hb
  isplitl [Ho]; · iexact Ho
  isplitl [Hi]; · iexact Hi
  iexact HP

/-- The first chunk's rows start to come. -/
theorem pro_begin {α : Type} {Q : α → sProp 𝕄} {κ : BitVec 32 → Prog (TpuEff nD τ sig (Elt F) Λ₀ .tc) α}
    {ok : k0_t1_loop.OK} {body : Fin k0_t1_loop.trips → BitVec 32 → Prog (TpuEff nD τ sig (Elt F) Λ₀ .tc) (BitVec 32)}
    (hb : ∀ t acc, ∃ o1 i1 o2 i2 o1' i1' o2' i2' s s', body t acc = half o1 i1 o2 i2 s acc (fun a => half o1' i1' o2' i2' s' a .ret)
      ∧ o1 = ![512 * (c.val % 4) + (64 * (0 : Fin 8).val + 2 * t.val)] ∧ o2 = ![64 * (0 : Fin 8).val + 2 * t.val, 0] ∧ s = gsem 0
      ∧ o1' = ![512 * (c.val % 4) + (64 * (0 : Fin 8).val + (2 * t.val + 1))] ∧ o2' = ![64 * (0 : Fin 8).val + (2 * t.val + 1), 0] ∧ s' = gsem 0)
    (h : Begun ids Ew K c ⊢ WP c (κ (BitVec.ofNat 32 (cnt ids c 0 64))) Q) :
    Cleared ids Ew K c ⊢ WP c (Scf.Loop.for k0_t1_loop ok 0#32 body >>= κ) Q := by
  have h1 : (bigSep Finset.univ fun k : Fin 8 => gTodo (F := F) Ew c k) = iprop(gTodo (F := F) Ew c 0 ∗ bigSep (Finset.univ.erase 0) fun k : Fin 8 => gTodo (F := F) Ew c k) :=
    bigSep_univ_at _ 0
  unfold Cleared
  unfold Begun at h
  rw [h1]
  iintro ⟨⟨Hg, Hgs⟩, Hk, Hb, Ho, Hi, #HP⟩
  iapply (wp_of_fupd c)
  imod (g_open ids Ew c 0) $$ Hg with Hg
  imodintro
  iapply (wp_gather ids Ew c 0 hb (iprop((bigSep (Finset.univ.erase 0) fun k : Fin 8 => gTodo (F := F) Ew c k)
    ∗ (bigSep Finset.univ fun k : Fin 8 => iprop(Half ids Ew c k ∗ toks (F := F) c k))
    ∗ (atPos ER (barCell c) 0 ∅ 0 ∗ cred (tallyAt (barCell c) () 3))
    ∗ owesE (F := F) c (owed c steps) ∗ Pers ids Ew K)) (by
      iintro ⟨Hg, Hi, Hgs, Hk, Hb, Ho, #HP⟩
      iapply h
      isplitl [Hg]; · iexact Hg
      isplitl [Hgs]; · iexact Hgs
      isplitl [Hk]; · iexact Hk
      isplitl [Hb]; · iexact Hb
      isplitl [Ho]; · iexact Ho
      isplitl [Hi]; · iexact Hi
      iexact HP))
  isplitl [Hg]; · iexact Hg
  isplitl [Hi]; · iexact Hi
  isplitl [Hgs]; · iexact Hgs
  isplitl [Hk]; · iexact Hk
  isplitl [Hb]; · iexact Hb
  isplitl [Ho]; · iexact Ho
  iexact HP

/-- The loop that waits for the first chunk's rows is in range. -/
theorem pro_assume {α : Type} {Q : α → sProp 𝕄} {P : Prop} {d : Decidable P} {κ : PLift P → Prog (TpuEff nD τ sig (Elt F) Λ₀ .tc) α} (hP : P)
    (h : Begun ids Ew K c ⊢ WP c (κ ⟨hP⟩) Q) : Begun ids Ew K c ⊢ WP c (.op (.assume P d) κ) Q :=
  h.trans (wp_assume (defs := defs₀ (F := F)) 𝒱₀ (c : Thread nD τ) none Set.univ hP)

/-- The neighbours' words: their landing chunks come with them. -/
theorem pro_meet {α : Type} {Q : α → sProp 𝕄} {κ : PUnit → Prog (TpuEff nD τ sig (Elt F) Λ₀ .tc) α}
    {s : Sem sig} {w : ℤ} (hs : s = barS) (hw : w = 3)
    (h : St ids Ew K c steps ⊢ WP c (κ ⟨⟩) Q) :
    Begun ids Ew K c ⊢ WP c (.op (.semWait s w) κ) Q := by
  subst hs hw
  have hM : Pers (F := F) ids Ew K ⊢ MayWait (c : Thread nD τ) (.reg barS) () (owed c steps) :=
    pers_wait ids Ew K c 1 _ steps (by decide +kernel) (lv_bar c ()).le
  have hcomp : iprop(gInv ids Ew c 0 64 ∗ (bigSep (Finset.univ.erase 0) fun k : Fin 8 => gTodo (F := F) Ew c k)
      ∗ (bigSep Finset.univ fun k : Fin 8 => iprop(Half ids Ew c k ∗ toks (F := F) c k)) ∗ bigSep Finset.univ fun k : Fin 8 => lands (F := F) c k)
      ⊢ bigSep Finset.univ fun k : Fin 8 => Comp ids Ew c k (phase steps k) := by
    have hph : ∀ k : Fin 8, phase steps k = if k = 0 then 1 else 0 := by decide +kernel
    have hg : (bigSep Finset.univ fun k : Fin 8 => piece ids Ew c k 0 (cls (isLo k) 0 (phase steps k)))
        = iprop(gInv ids Ew c 0 64 ∗ bigSep (Finset.univ.erase 0) fun k : Fin 8 => gTodo (F := F) Ew c k) := by
      rw [bigSep_univ_at _ (0 : Fin 8), hph 0]
      exact congrArg _ (bigSep_congr fun k hk => by rw [hph k, if_neg (Finset.ne_of_mem_erase hk)]; rfl)
    refine BIBase.Entails.trans ?_ (bigSep_mono fun k _ => comp_start ids Ew c k (phase steps k) (by rw [hph k]; split; exacts [.inr rfl, .inl rfl]))
    have h1 : (bigSep Finset.univ fun k : Fin 8 => iprop(piece ids Ew c k 0 (cls (isLo k) 0 (phase steps k)) ∗ Half ids Ew c k ∗ toks (F := F) c k ∗ lands (F := F) c k))
        = iprop((bigSep Finset.univ fun k : Fin 8 => piece ids Ew c k 0 (cls (isLo k) 0 (phase steps k)))
          ∗ bigSep Finset.univ fun k : Fin 8 => iprop(Half ids Ew c k ∗ toks (F := F) c k ∗ lands (F := F) c k)) := bigSep_sep' ..
    rw [h1, hg]
    have h2 : (bigSep Finset.univ fun k : Fin 8 => iprop(Half ids Ew c k ∗ toks (F := F) c k ∗ lands (F := F) c k))
        = iprop((bigSep Finset.univ fun k : Fin 8 => iprop(Half ids Ew c k ∗ toks (F := F) c k)) ∗ bigSep Finset.univ fun k : Fin 8 => lands (F := F) c k) := by
      rw [bigSep_sep', bigSep_sep', bigSep_sep']
      refine Entails.antisymm ?_ ?_
      · show BIBase.Entails (PROP := sProp 𝕄) _ _
        exact sep_assoc.2
      · show BIBase.Entails (PROP := sProp 𝕄) _ _
        exact sep_assoc.1
    rw [h2]
    exact sep_assoc.2
  unfold Begun
  unfold St at h
  unfold owesE at h ⊢
  iintro ⟨Hg, Hgs, Hk, ⟨Hat, Hc⟩, ⟨%W, HO⟩, Hi, #HP⟩
  iapply (Rounds.wp_wait_rest_token 𝒱₀ ER (sched ids Ew) (c : Thread nD τ) none (κ := K (barCell c))
      (wpE_semWait_eq 𝒱₀ (c : Thread nD τ) none Set.univ) (Set.mem_univ _) () (O := owed c steps) (W := W) (R := 0) (m := 0) (T := ∅)
      (by rw [Nat.zero_add, expect_bar])) $$ [Hat Hc HO]
  · isplitr; · iapply (pers_bar ids Ew K c); iexact HP
    isplitl [Hc]; · iexact Hc
    isplitl [HO]; · iexact HO
    isplitr; · iapply hM; iexact HP
    iexact Hat
  rw [rest_bar]
  iintro ⟨HO, HM, -, Hp⟩
  ihave Hl := (bar_lands c) $$ Hp
  iapply h
  isplitl [Hg Hgs Hk Hl]
  · iapply hcomp
    isplitl [Hg]; · iexact Hg
    isplitl [Hgs]; · iexact Hgs
    isplitl [Hk]; · iexact Hk
    iexact Hl
  isplitl [HO]; · iexists _; iexact HO
  isplitl [Hi]; · iexact Hi
  isplitr; · iexact HP
  iexact HM

end

end Cert.Emb
-- ==== Proof.Ends.lean ====
/-
# Ends: what a device enters the kernel with, and what it leaves with
-/
module

public import proofs.«01_k».proof.Proof.Prologue

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (ids : Dev nD → (cc0_stg0_0 : Ref sig .tc).ty.Contents (Elt F)) (Ew : Dev nD → (main_arg1 : Ref sig .tc).ty.Contents (Elt F))
variable (K : GSem nD τ sig → ℕ) (c : Dev nD)

/-! ## One chunk -/

/-- The device whose sum the chunk's copy `j` to the result carries. -/
def src (j : Fin 4) : Dev nD := match j with
  | ⟨0, _⟩ => c
  | ⟨1, _⟩ => pz c
  | ⟨2, _⟩ => py c
  | ⟨_ + 3, _⟩ => dg c

/-- The sends among the uses of a chunk's semaphores. -/
def ev (j : Fin 4) : Fin 8 := ⟨2 * j.val, by have := j.isLt; omega⟩
/-- The arrivals. -/
def od (j : Fin 4) : Fin 8 := ⟨2 * j.val + 1, by have := j.isLt; omega⟩

/-- What a chunk's pieces are made of at the start, but for its rows and what the barrier brings. -/
def HalfIn (k : Fin 8) : sProp 𝕄 := iprop((∃ f, at' (F := F) c pb k fullShare f) ∗ (∃ f, at' (F := F) c cb k fullShare f)
  ∗ (bigSep Finset.univ fun j : Fin 8 => iprop(atPos ER (cellAt c j k) 0 ∅ 0 ∗ reached ER (cellAt c j k) 0))
  ∗ (bigSep Finset.univ fun j : Fin 4 => dutyTok ER (cellAt c (ev j) k) 0 0)
  ∗ (bigSep Finset.univ fun j : Fin 4 => cred (tallyAt (cellAt c (od j) k) () N))
  ∗ bigSep Finset.univ fun j : Fin 4 => iprop(semVal ((c : Thread nD τ), .dma (osem j k)) 0 ∗ ∃ g, outAt (F := F) c (src c j) k g))

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL ([0, 1, 2, 3, 4, 5, 6, 7] : List (Fin 8)) (by decide) (by decide) _
theorem four (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) _

/-- The pieces of a chunk at the start. -/
theorem half_intro (k : Fin 8) : HalfIn (F := F) c k ⊢ Half ids Ew c k := by
  have hs : (Finset.univ \ early.toFinset : Finset (Fin 23)) = ([1, 2, 4, 5, 6, 7, 9, 11, 12, 13, 14, 15, 16, 17, 18, 20, 21, 22] : List (Fin 23)).toFinset := by decide
  unfold Half
  rw [hs, ← sepL_map _ _ (by decide)]
  have hl : sepL (([1, 2, 4, 5, 6, 7, 9, 11, 12, 13, 14, 15, 16, 17, 18, 20, 21, 22] : List (Fin 23)).map fun e : Fin 23 => piece ids Ew c k e.val (cls (isLo k) e.val 0))
      = iprop((∃ f, at' (F := F) c pb k fullShare f)
        ∗ (atPos ER (cellAt c 0 k) 0 ∅ 0 ∗ dutyTok ER (cellAt c 0 k) 0 0 ∗ reached ER (cellAt c 0 k) 0)
        ∗ (atPos ER (cellAt c 1 k) 0 ∅ 0 ∗ cred (tallyAt (cellAt c 1 k) () N)) ∗ emp
        ∗ (∃ f, at' (F := F) c cb k fullShare f)
        ∗ (atPos ER (cellAt c 2 k) 0 ∅ 0 ∗ dutyTok ER (cellAt c 2 k) 0 0 ∗ reached ER (cellAt c 2 k) 0)
        ∗ (atPos ER (cellAt c 4 k) 0 ∅ 0 ∗ dutyTok ER (cellAt c 4 k) 0 0 ∗ reached ER (cellAt c 4 k) 0)
        ∗ (semVal ((c : Thread nD τ), .dma (osem 0 k)) 0 ∗ ∃ g, outAt (F := F) c c k g)
        ∗ (atPos ER (cellAt c 5 k) 0 ∅ 0 ∗ cred (tallyAt (cellAt c 5 k) () N)) ∗ emp
        ∗ (semVal ((c : Thread nD τ), .dma (osem 1 k)) 0 ∗ ∃ g, outAt (F := F) c (pz c) k g)
        ∗ (atPos ER (cellAt c 3 k) 0 ∅ 0 ∗ cred (tallyAt (cellAt c 3 k) () N)) ∗ emp
        ∗ (semVal ((c : Thread nD τ), .dma (osem 2 k)) 0 ∗ ∃ g, outAt (F := F) c (py c) k g)
        ∗ (atPos ER (cellAt c 6 k) 0 ∅ 0 ∗ dutyTok ER (cellAt c 6 k) 0 0 ∗ reached ER (cellAt c 6 k) 0)
        ∗ (atPos ER (cellAt c 7 k) 0 ∅ 0 ∗ cred (tallyAt (cellAt c 7 k) () N)) ∗ emp
        ∗ (semVal ((c : Thread nD τ), .dma (osem 3 k)) 0 ∗ ∃ g, outAt (F := F) c (dg c) k g)) := by
    cases h : isLo k <;> (simp only [List.map, h]; rfl)
  rw [hl]
  unfold HalfIn
  rw [eight, four, four, four]
  iintro ⟨Hp, Hc, ⟨⟨A0, #R0⟩, ⟨A1, -⟩, ⟨A2, #R2⟩, ⟨A3, -⟩, ⟨A4, #R4⟩, ⟨A5, -⟩, ⟨A6, #R6⟩, A7, -⟩, ⟨D0, D2, D4, D6⟩, ⟨C1, C3, C5, C7⟩, ⟨S0, S1, S2, S3⟩⟩
  isplitl [Hp]; · iexact Hp
  isplitl [A0 D0]
  · isplitl [A0]; · iexact A0
    isplitl [D0]; · iexact D0
    iexact R0
  isplitl [A1 C1]
  · isplitl [A1]; · iexact A1
    iexact C1
  isplitr; · iempintro
  isplitl [Hc]; · iexact Hc
  isplitl [A2 D2]
  · isplitl [A2]; · iexact A2
    isplitl [D2]; · iexact D2
    iexact R2
  isplitl [A4 D4]
  · isplitl [A4]; · iexact A4
    isplitl [D4]; · iexact D4
    iexact R4
  isplitl [S0]; · iexact S0
  isplitl [A5 C5]
  · isplitl [A5]; · iexact A5
    iexact C5
  isplitr; · iempintro
  isplitl [S1]; · iexact S1
  isplitl [A3 C3]
  · isplitl [A3]; · iexact A3
    iexact C3
  isplitr; · iempintro
  isplitl [S2]; · iexact S2
  isplitl [A6 D6]
  · isplitl [A6]; · iexact A6
    isplitl [D6]; · iexact D6
    iexact R6
  isplitl [A7 C7]
  · isplitl [A7]; · iexact A7
    iexact C7
  isplitr; · iempintro
  iexact S3

/-- What a chunk leaves once all its steps are done. -/
def Left (k : Fin 8) : sProp 𝕄 := iprop(gDone ids Ew c k ∗ at' c pb k fullShare (P ids Ew c) ∗ at' c xb k fullShare (P ids Ew (px c))
  ∗ at' c cb k fullShare (Cb ids Ew c) ∗ at' c yb k fullShare (Cb ids Ew (py c)) ∗ at' c zb k fullShare (Cb ids Ew (pz c))
  ∗ at' c db k fullShare (Cb ids Ew (dg c))
  ∗ (bigSep Finset.univ fun j : Fin 8 => atPos ER (cellAt c j k) (0 + 1) ∅ 0)
  ∗ bigSep Finset.univ fun j : Fin 4 => iprop(semVal ((c : Thread nD τ), .dma (osem j k)) 0 ∗ outAt c (src c j) k (Out ids Ew c)))

theorem comp_end (k : Fin 8) : Comp ids Ew c k 24 ⊢ Left ids Ew c k := by
  have hs : (Finset.univ : Finset (Fin 23)) = ([1, 3, 8, 10, 19, 0, 2, 4, 5, 6, 7, 9, 11, 12, 13, 14, 15, 16, 17, 18, 20, 21, 22] : List (Fin 23)).toFinset := by decide
  unfold Comp
  rw [hs, ← sepL_map _ _ (by decide)]
  have hl : ∀ lo : Bool, sepL (([1, 3, 8, 10, 19, 0, 2, 4, 5, 6, 7, 9, 11, 12, 13, 14, 15, 16, 17, 18, 20, 21, 22] : List (Fin 23)).map fun e : Fin 23 => piece ids Ew c k e.val (cls lo e.val 24))
      = iprop(at' c pb k fullShare.right (P ids Ew c) ∗ emp ∗ emp ∗ emp ∗ emp ∗ gDone ids Ew c k
        ∗ (atPos ER (cellAt c 0 k) 1 ∅ 0 ∗ at' c pb k fullShare.left (P ids Ew c))
        ∗ atPos ER (cellAt c 1 k) 1 ∅ 0 ∗ at' c xb k fullShare (P ids Ew (px c)) ∗ emp
        ∗ (atPos ER (cellAt c 2 k) 1 ∅ 0 ∗ at' c cb k fullShare.left (Cb ids Ew c))
        ∗ (atPos ER (cellAt c 4 k) 1 ∅ 0 ∗ at' c cb k fullShare.right.left (Cb ids Ew c))
        ∗ (semVal ((c : Thread nD τ), .dma (osem 0 k)) 0 ∗ outAt c c k (Out ids Ew c) ∗ at' c cb k fullShare.right.right (Cb ids Ew c))
        ∗ atPos ER (cellAt c 5 k) 1 ∅ 0
        ∗ (bif lo then iprop(emp) else at' c zb k fullShare.left (Cb ids Ew (pz c)))
        ∗ (semVal ((c : Thread nD τ), .dma (osem 1 k)) 0 ∗ outAt c (pz c) k (Out ids Ew c) ∗ at' c zb k fullShare.right (Cb ids Ew (pz c)))
        ∗ atPos ER (cellAt c 3 k) 1 ∅ 0
        ∗ (bif lo then at' c yb k fullShare.left (Cb ids Ew (py c)) else iprop(emp))
        ∗ (semVal ((c : Thread nD τ), .dma (osem 2 k)) 0 ∗ outAt c (py c) k (Out ids Ew c) ∗ at' c yb k fullShare.right (Cb ids Ew (py c)))
        ∗ (atPos ER (cellAt c 6 k) 1 ∅ 0 ∗ pay ids Ew c 6 k)
        ∗ atPos ER (cellAt c 7 k) 1 ∅ 0 ∗ emp
        ∗ (semVal ((c : Thread nD τ), .dma (osem 3 k)) 0 ∗ outAt c (dg c) k (Out ids Ew c) ∗ at' c db k fullShare (Cb ids Ew (dg c)))) := by
    intro lo; cases lo <;> rfl
  rw [hl]
  have hzy : iprop((bif isLo k then iprop(emp) else at' c zb k fullShare.left (Cb ids Ew (pz c)))
      ∗ (bif isLo k then at' c yb k fullShare.left (Cb ids Ew (py c)) else iprop(emp)) ∗ pay ids Ew c 6 k)
      ⊢ iprop(at' c zb k fullShare.left (Cb ids Ew (pz c)) ∗ at' c yb k fullShare.left (Cb ids Ew (py c))) := by
    cases h : isLo k
    · rw [show pay ids Ew c 6 k = at' c yb k fullShare.left (Cb ids Ew (py c)) from if_neg (of_decide_eq_false h)]
      simp only [cond_false]
      iintro ⟨H1, -, H2⟩
      isplitl [H1] <;> iassumption
    · rw [show pay ids Ew c 6 k = at' c zb k fullShare.left (Cb ids Ew (pz c)) from if_pos (of_decide_eq_true h)]
      simp only [cond_true]
      iintro ⟨-, H1, H2⟩
      isplitl [H2] <;> iassumption
  unfold Left
  rw [eight, four]
  iintro ⟨Pr, -, -, -, -, Hg, ⟨A0, Pl⟩, A1, Hx, -, ⟨A2, Cl⟩, ⟨A4, Crl⟩, ⟨S0, O0, Crr⟩, A5, Z, ⟨S1, O1, Zr⟩, A3, Y, ⟨S2, O2, Yr⟩, ⟨A6, ZY⟩, A7, -, S3, O3, Hd⟩
  ihave H := hzy $$ [Z Y ZY]
  · isplitl [Z]; · iexact Z
    isplitl [Y] <;> iassumption
  icases H with ⟨Zl, Yl⟩
  isplitl [Hg]; · iexact Hg
  isplitl [Pl Pr]
  · iapply (halves' c pb k fullShare (P ids Ew c)); isplitl [Pl] <;> iassumption
  isplitl [Hx]; · iexact Hx
  isplitl [Cl Crl Crr]
  · iapply (halves' c cb k fullShare (Cb ids Ew c)); isplitl [Cl]; · iexact Cl
    iapply (halves' c cb k fullShare.right (Cb ids Ew c)); isplitl [Crl] <;> iassumption
  isplitl [Yl Yr]
  · iapply (halves' c yb k fullShare (Cb ids Ew (py c))); isplitl [Yl] <;> iassumption
  isplitl [Zl Zr]
  · iapply (halves' c zb k fullShare (Cb ids Ew (pz c))); isplitl [Zl] <;> iassumption
  isplitl [Hd]; · iexact Hd
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [S0 O0]
  · isplitl [S0]; · iexact S0
    iexact O0
  isplitl [S1 O1]
  · isplitl [S1]; · iexact S1
    iexact O1
  isplitl [S2 O2]
  · isplitl [S2]; · iexact S2
    iexact O2
  isplitl [S3]; · iexact S3
  iexact O3

end

end Cert.Emb
-- ==== Proof.Whole.lean ====
/-
# Whole: the buffers a device enters with are its chunks, and the chunks it leaves with are whole buffers
-/
module

public import proofs.«01_k».proof.Proof.Ends
public import Idealize.ShloMosaic.Harness.Basic

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Whole buffers and their pieces -/

/-- A buffer is its eight chunks. -/
def Chunked {e : EltTy} (b : Memref sig .tc .vmem S512x1024 e) : Prop :=
  ∀ (c : Dev nD) (f : Buf (Elt F) (b.view.loc (c : Thread nD τ))),
    (wh (F := F) c b fullShare f : sProp 𝕄) = bigSep Finset.univ fun k => at' (F := F) c b k fullShare f

omit [FloatOps F] in
theorem ch_gb : Chunked (F := F) gb := fun c f => chunks_of _ (fun k => (rCh k).set) (fun k => View.set_slice_whole _ _) rCh_disj rCh_univ
omit [FloatOps F] in
theorem ch_pb : Chunked (F := F) pb := fun c f => chunks_of _ (fun k => (rCh k).set) (fun k => View.set_slice_whole _ _) rCh_disj rCh_univ
omit [FloatOps F] in
theorem ch_xb : Chunked (F := F) xb := fun c f => chunks_of _ (fun k => (rCh k).set) (fun k => View.set_slice_whole _ _) rCh_disj rCh_univ
omit [FloatOps F] in
theorem ch_cb : Chunked (F := F) cb := fun c f => chunks_of _ (fun k => (rCh k).set) (fun k => View.set_slice_whole _ _) rCh_disj rCh_univ
omit [FloatOps F] in
theorem ch_yb : Chunked (F := F) yb := fun c f => chunks_of _ (fun k => (rCh k).set) (fun k => View.set_slice_whole _ _) rCh_disj rCh_univ
omit [FloatOps F] in
theorem ch_zb : Chunked (F := F) zb := fun c f => chunks_of _ (fun k => (rCh k).set) (fun k => View.set_slice_whole _ _) rCh_disj rCh_univ
omit [FloatOps F] in
theorem ch_db : Chunked (F := F) db := fun c f => chunks_of _ (fun k => (rCh k).set) (fun k => View.set_slice_whole _ _) rCh_disj rCh_univ

/-- A whole buffer nobody knows the contents of. -/
abbrev anyB {e : EltTy} (c : Dev nD) (b : Memref sig .tc .vmem S512x1024 e) : sProp 𝕄 := iprop(∃ f, wh (F := F) c b fullShare f)

omit [FloatOps F] in
theorem any_chunks {e : EltTy} {b : Memref sig .tc .vmem S512x1024 e} (h : Chunked (F := F) b) (c : Dev nD) :
    anyB (F := F) c b ⊢ bigSep Finset.univ fun k : Fin 8 => iprop(∃ f, at' (F := F) c b k fullShare f) := by
  iintro ⟨%f, H⟩
  ihave H' := (Entails.of_eq (h c f)) $$ H
  have hm : (bigSep Finset.univ fun k => at' (F := F) c b k fullShare f) ⊢ (bigSep Finset.univ fun k : Fin 8 => iprop(∃ f, at' (F := F) c b k fullShare f) : sProp 𝕄) :=
    bigSep_mono fun k _ => by
      show BIBase.Entails (PROP := sProp 𝕄) _ _
      iintro H; iexists f; iexact H
  iapply hm; iexact H'
omit [FloatOps F] in
theorem chunks_any {e : EltTy} {b : Memref sig .tc .vmem S512x1024 e} (h : Chunked (F := F) b) (c : Dev nD) (f : Buf (Elt F) (b.view.loc (c : Thread nD τ))) :
    (bigSep Finset.univ fun k : Fin 8 => at' (F := F) c b k fullShare f) ⊢ anyB (F := F) c b := by
  iintro H; iexists f; iapply (Entails.of_eq (h c f).symm); iexact H

/-- The scratch buffers of device `c`. -/
def Scr (c : Dev nD) : sProp 𝕄 := iprop(anyB (F := F) c gb ∗ anyB (F := F) c pb ∗ anyB (F := F) c xb ∗ anyB (F := F) c cb
  ∗ anyB (F := F) c yb ∗ anyB (F := F) c zb ∗ anyB (F := F) c db)

/-- The result of device `c`, whole. -/
abbrev omW (c : Dev nD) (f : Buf (Elt F) (om.view.loc (c : Thread nD τ))) : sProp 𝕄 := om.view.loc (c : Thread nD τ) ↦[Finset.univ]{fullShare} f
/-- The table half of device `c`, whole. -/
abbrev emW (c : Dev nD) (f : Buf (Elt F) (em.view.loc (c : Thread nD τ))) : sProp 𝕄 := em.view.loc (c : Thread nD τ) ↦[Finset.univ]{fullShare} f

/-- The rows of a block of the result. -/
abbrev rOb (e : Dev nD) (k : Fin 8) : Rect S2048x1024 :=
  Rect.unit (s := S2048x1024) ![512 * (e.val % 4) + 64 * k.val, 0] S64x1024.size (inbOut e k)
theorem mem_rOb (e : Dev nD) (k : Fin 8) (j : S2048x1024.Idx) : j ∈ (rOb e k).set ↔ (j 0).val / 64 = 8 * (e.val % 4) + k.val := by
  rw [Rect.mem_set_unit]
  have h1 : (j 1).val < 1024 := (j 1).isLt
  constructor
  · intro h
    have h0 : 512 * (e.val % 4) + 64 * k.val ≤ (j 0).val ∧ (j 0).val < 512 * (e.val % 4) + 64 * k.val + 64 := h 0
    omega
  · intro h a
    fin_cases a
    · show 512 * (e.val % 4) + 64 * k.val ≤ (j 0).val ∧ (j 0).val < 512 * (e.val % 4) + 64 * k.val + 64; omega
    · show 0 ≤ (j 1).val ∧ (j 1).val < 0 + 1024; omega
theorem src_inj (c : Dev nD) : ∀ j j' : Fin 4, (src c j).val % 4 = (src c j').val % 4 → j = j' := by revert c; decide
theorem src_onto (c : Dev nD) : ∀ q : Fin 4, ∃ j : Fin 4, (src c j).val % 4 = q.val := by revert c; decide

omit [FloatOps F] in
/-- The result is the 32 blocks the four devices of the square fill. -/
theorem out_blocks (c : Dev nD) (f : Buf (Elt F) (om.view.loc (c : Thread nD τ))) :
    (omW (F := F) c f : sProp 𝕄) = bigSep Finset.univ fun k : Fin 8 => bigSep Finset.univ fun j : Fin 4 => outAt (F := F) c (src c j) k f := by
  have hu : (Finset.univ : Finset (Fin 8 × Fin 4)).biUnion (fun p => (rOb (src c p.2) p.1).set) = Finset.univ := by
    ext i
    rw [Finset.mem_biUnion]
    have h0 : (i 0).val < 2048 := (i 0).isLt
    obtain ⟨j, hj⟩ := src_onto c ⟨(i 0).val / 512, by omega⟩
    have hj' : (src c j).val % 4 = (i 0).val / 512 := hj
    refine ⟨fun _ => Finset.mem_univ _, fun _ => ⟨(⟨(i 0).val / 64 % 8, by omega⟩, j), Finset.mem_univ _, (mem_rOb _ _ i).mpr ?_⟩⟩
    show (i 0).val / 64 = 8 * ((src c j).val % 4) + (i 0).val / 64 % 8
    omega
  have hd : ∀ p ∈ (Finset.univ : Finset (Fin 8 × Fin 4)), ∀ p' ∈ (Finset.univ : Finset (Fin 8 × Fin 4)), p ≠ p' →
      Disjoint (rOb (src c p.2) p.1).set (rOb (src c p'.2) p'.1).set := by
    intro p _ p' _ hne
    rw [Finset.disjoint_left]
    intro i h1 h2
    have e1 := (mem_rOb _ _ i).mp h1
    have e2 := (mem_rOb _ _ i).mp h2
    have := p.1.isLt; have := p'.1.isLt
    exact hne (Prod.ext (Fin.ext (by omega)) (src_inj c _ _ (by omega)))
  have hs : ∀ p : Fin 8 × Fin 4, (ob (src c p.2) p.1).view.set = (rOb (src c p.2) p.1).set := fun p => View.set_slice_whole _ _
  have h : (omW (F := F) c f : sProp 𝕄) = bigSep Finset.univ fun p : Fin 8 × Fin 4 => outAt (F := F) c (src c p.2) p.1 f := by
    unfold omW
    rw [← hu, pointsTo_biUnion Finset.univ _ hd]
    exact bigSep_congr fun p _ => by unfold outAt; rw [hs p]
  exact h.trans (bigSep_univ_prod _)

section
variable (ids : Dev nD → (cc0_stg0_0 : Ref sig .tc).ty.Contents (Elt F)) (Ew : Dev nD → (main_arg1 : Ref sig .tc).ty.Contents (Elt F))
variable (K : GSem nD τ sig → ℕ) (c : Dev nD)

/-- The table half is the shares of the eight chunks' rows. -/
theorem em_shares : (emW (F := F) c (Ew c) : sProp 𝕄) = bigSep Finset.univ fun k : Fin 8 => eSh Ew c k := by
  have h (q : PosShare TreeShare) (n : ℕ) := ShareLeaves.pointsTo_leaves (nD := nD) (τ := τ) (sig := sig) (Ix := Unit) (Val := Elt F) (Name := ℕ) (U := UU) (Lvl := ℕ)
    (ℓ := em.view.loc (c : Thread nD τ)) Finset.univ (Ew c) n q
  unfold emW eSh eAll
  rw [h fullShare 3]
  exact bigSep_congr fun k _ => h _ 6

/-! ## Entering -/

/-- That round 0 of every one of the device's cells is reached. -/
def RR : sProp 𝕄 := bigSep Finset.univ fun k : Fin 8 => bigSep Finset.univ fun j : Fin 8 => reached (ER (F := F)) (cellAt c j k) 0
omit [FloatOps F] in
instance RR_persistent : BI.Persistent (RR (F := F) c) := by unfold RR; infer_instance
omit [FloatOps F] in
theorem rr_at (j k : Fin 8) : RR (F := F) c ⊢ reached (ER (F := F)) (cellAt c j k) 0 := by
  unfold RR
  exact BIBase.Entails.trans (show BIBase.Entails (PROP := sProp 𝕄) _ _ from bigSep_elim (Finset.mem_univ k)) (bigSep_elim (Finset.mem_univ j))

omit [FloatOps F] in
/-- A whole landing buffer, as the chunks the neighbours may write. -/
theorem lands_of {e : EltTy} {b : Memref sig .tc .vmem S512x1024 e} (h : Chunked (F := F) b) (j : Fin 8) :
    iprop(RR (F := F) c ∗ anyB (F := F) c b) ⊢ bigSep Finset.univ fun k : Fin 8 => land (F := F) c b j k := by
  iintro ⟨#HR, H⟩
  ihave H' := (any_chunks h c) $$ H
  iapply (bigSep_with_persistent (R := RR (F := F) c) (Φ := fun k : Fin 8 => iprop(∃ f, at' (F := F) c b k fullShare f)) fun k _ => by
    show BIBase.Entails (PROP := sProp 𝕄) _ _
    unfold land
    iintro ⟨#HR, H⟩
    isplitl [H]; · iexact H
    iapply (rr_at (F := F) c j k); iexact HR)
  isplitr; · iexact HR
  iexact H'

/-- The tokens of the three words device `c` sends. -/
def Ring : sProp 𝕄 := iprop((dutyTok (ER (F := F)) (barCell (px c)) 0 0 ∗ reached (ER (F := F)) (barCell (px c)) 0)
  ∗ (dutyTok (ER (F := F)) (barCell (py c)) 0 1 ∗ reached (ER (F := F)) (barCell (py c)) 0)
  ∗ (dutyTok (ER (F := F)) (barCell (pz c)) 0 2 ∗ reached (ER (F := F)) (barCell (pz c)) 0))

/-- What device `c` holds of the protocol as its kernel begins. -/
def Inside : sProp 𝕄 := iprop(Pers ids Ew K
  ∗ (bigSep Finset.univ fun k : Fin 8 => semVal ((c : Thread nD τ), .dma (gsem k)) 0)
  ∗ (bigSep Finset.univ fun k : Fin 8 => bigSep Finset.univ fun j : Fin 8 => iprop(atPos (ER (F := F)) (cellAt c j k) 0 ∅ 0 ∗ reached (ER (F := F)) (cellAt c j k) 0))
  ∗ (bigSep Finset.univ fun k : Fin 8 => bigSep Finset.univ fun j : Fin 4 => semVal ((c : Thread nD τ), .dma (osem j k)) 0)
  ∗ (bigSep Finset.univ fun k : Fin 8 => bigSep Finset.univ fun j : Fin 4 => dutyTok (ER (F := F)) (cellAt c (ev j) k) 0 0)
  ∗ (bigSep Finset.univ fun k : Fin 8 => bigSep Finset.univ fun j : Fin 4 => cred (tallyAt (cellAt c (od j) k) () N))
  ∗ (bigSep Finset.univ fun k : Fin 8 => toks (F := F) c k)
  ∗ (atPos (ER (F := F)) (barCell c) 0 ∅ 0 ∗ cred (tallyAt (barCell c) () 3)) ∗ Ring (F := F) c)

omit [FloatOps F] in
theorem rr_intro : (bigSep Finset.univ fun k : Fin 8 => bigSep Finset.univ fun j : Fin 8 => iprop(atPos (ER (F := F)) (cellAt c j k) 0 ∅ 0 ∗ reached (ER (F := F)) (cellAt c j k) 0))
    ⊢ (RR (F := F) c : sProp 𝕄) := by
  unfold RR
  show BIBase.Entails (PROP := sProp 𝕄) _ _
  exact bigSep_mono fun k _ => bigSep_mono fun j _ => by
    show BIBase.Entails (PROP := sProp 𝕄) _ _
    iintro ⟨-, H⟩; iexact H

omit [FloatOps F] in
/-- What goes with the three words. -/
theorem words_intro : iprop(RR (F := F) c ∗ Ring (F := F) c ∗ anyB (F := F) c xb ∗ anyB (F := F) c yb ∗ anyB (F := F) c zb ∗ anyB (F := F) c db)
    ⊢ iprop(Word (F := F) (px c) 0 ∗ Word (F := F) (py c) 1 ∗ Word (F := F) (pz c) 2 ∗ emp) := by
  unfold Ring Word
  rw [show barPay (F := F) (px c) 0 = bigSep Finset.univ fun k : Fin 8 => land (F := F) c xb 1 k from by
      show (bigSep Finset.univ fun k : Fin 8 => land (F := F) (px (px c)) xb 1 k) = _; rw [px_px],
    show barPay (F := F) (py c) 1 = bigSep Finset.univ fun k : Fin 8 => iprop(land (F := F) c yb 3 k ∗ if k.val < 4 then land (F := F) c db 7 k else iprop(emp)) from by
      show (bigSep Finset.univ fun k : Fin 8 => iprop(land (F := F) (py (py c)) yb 3 k ∗ if k.val < 4 then land (F := F) (py (py c)) db 7 k else iprop(emp))) = _; rw [py_py],
    show barPay (F := F) (pz c) 2 = bigSep Finset.univ fun k : Fin 8 => iprop(land (F := F) c zb 5 k ∗ if k.val < 4 then iprop(emp) else land (F := F) c db 7 k) from by
      show (bigSep Finset.univ fun k : Fin 8 => iprop(land (F := F) (pz (pz c)) zb 5 k ∗ if k.val < 4 then iprop(emp) else land (F := F) (pz (pz c)) db 7 k)) = _; rw [pz_pz]]
  iintro ⟨#HR, ⟨⟨Tx, #Rx⟩, ⟨Ty, #Ry⟩, ⟨Tz, #Rz⟩⟩, Hx, Hy, Hz, Hd⟩
  ihave Hx := (lands_of (F := F) c ch_xb 1) $$ [Hx]
  · isplitr; · iexact HR
    iexact Hx
  ihave Hy := (lands_of (F := F) c ch_yb 3) $$ [Hy]
  · isplitr; · iexact HR
    iexact Hy
  ihave Hz := (lands_of (F := F) c ch_zb 5) $$ [Hz]
  · isplitr; · iexact HR
    iexact Hz
  ihave Hd := (lands_of (F := F) c ch_db 7) $$ [Hd]
  · isplitr; · iexact HR
    iexact Hd
  have hsp : (bigSep Finset.univ fun k : Fin 8 => land (F := F) c db 7 k) ⊢ (bigSep Finset.univ fun k : Fin 8 =>
      iprop((if k.val < 4 then land (F := F) c db 7 k else iprop(emp)) ∗ (if k.val < 4 then iprop(emp) else land (F := F) c db 7 k)) : sProp 𝕄) :=
    bigSep_mono fun k _ => by
      show BIBase.Entails (PROP := sProp 𝕄) _ _
      by_cases h : k.val < 4
      · rw [if_pos h, if_pos h]; iintro H; isplitl [H]; · iexact H
        iempintro
      · rw [if_neg h, if_neg h]; iintro H; isplitr; · iempintro
        iexact H
  ihave Hd := hsp $$ Hd
  ihave Hd := bigSep_unpair $$ Hd
  icases Hd with ⟨Hd1, Hd2⟩
  isplitl [Hx Tx]
  · isplitl [Hx]; · iexact Hx
    isplitl [Tx]; · iexact Tx
    iexact Rx
  isplitl [Hy Hd1 Ty]
  · isplitl [Hy Hd1]; · iapply bigSep_pair; isplitl [Hy] <;> iassumption
    isplitl [Ty]; · iexact Ty
    iexact Ry
  isplitl [Hz Hd2 Tz]
  · isplitl [Hz Hd2]; · iapply bigSep_pair; isplitl [Hz] <;> iassumption
    isplitl [Tz]; · iexact Tz
    iexact Rz
  iempintro

/-- Device `c` begins its kernel with its start state. -/
theorem enter : iprop(Inside ids Ew K c ∗ Scr (F := F) c ∗ emW (F := F) c (Ew c) ∗ (∃ f, omW (F := F) c f)
      ∗ owesE (F := F) c (O₀ c (0 :: steps)) ∗ idsAt ids c) ⊢ Start ids Ew K c := by
  unfold Inside Scr Start Base
  iintro ⟨⟨#HP, Hg, HA, Ho, Hd, Hcr, Ht, Hb, Hr⟩, ⟨Hgb, Hpb, Hxb, Hcb, Hyb, Hzb, Hdb⟩, HE, ⟨%f, HO⟩, Howe, Hids⟩
  ihave #HR := (rr_intro (F := F) c) $$ HA
  ihave HW := (words_intro (F := F) c) $$ [Hr Hxb Hyb Hzb Hdb]
  · isplitr; · iexact HR
    isplitl [Hr]; · iexact Hr
    isplitl [Hxb]; · iexact Hxb
    isplitl [Hyb]; · iexact Hyb
    isplitl [Hzb] <;> iassumption
  isplitr [HW]
  · isplitl [Hgb]; · iexact Hgb
    isplitr [Hb Howe Hids]
    · iapply bigSep_pair
      isplitl [Hg HE]
      · iapply bigSep_pair; isplitl [Hg]; · iexact Hg
        iapply (Entails.of_eq (em_shares Ew c)); iexact HE
      iapply bigSep_pair
      isplitr [Ht]
      · have hm : (bigSep Finset.univ fun k : Fin 8 => HalfIn (F := F) c k) ⊢ (bigSep Finset.univ fun k : Fin 8 => Half ids Ew c k : sProp 𝕄) :=
          bigSep_mono fun k _ => half_intro ids Ew c k
        iapply hm
        unfold HalfIn
        ihave Hpb := (any_chunks ch_pb c) $$ Hpb
        ihave Hcb := (any_chunks ch_cb c) $$ Hcb
        ihave HO := (Entails.of_eq (out_blocks (F := F) c f)) $$ HO
        iapply bigSep_pair; isplitl [Hpb]; · iexact Hpb
        iapply bigSep_pair; isplitl [Hcb]; · iexact Hcb
        iapply bigSep_pair; isplitl [HA]; · iexact HA
        iapply bigSep_pair; isplitl [Hd]; · iexact Hd
        iapply bigSep_pair; isplitl [Hcr]; · iexact Hcr
        have ho : iprop((bigSep Finset.univ fun k : Fin 8 => bigSep Finset.univ fun j : Fin 4 => (semVal ((c : Thread nD τ), .dma (osem j k)) 0 : sProp 𝕄))
            ∗ (bigSep Finset.univ fun k : Fin 8 => bigSep Finset.univ fun j : Fin 4 => outAt (F := F) c (src c j) k f))
            ⊢ (bigSep Finset.univ fun k : Fin 8 => bigSep Finset.univ fun j : Fin 4 => iprop(semVal ((c : Thread nD τ), .dma (osem j k)) 0 ∗ ∃ g, outAt (F := F) c (src c j) k g) : sProp 𝕄) := by
          rw [← bigSep_sep']
          refine bigSep_mono fun k _ => ?_
          show BIBase.Entails (PROP := sProp 𝕄) _ _
          rw [← bigSep_sep']
          refine bigSep_mono fun j _ => ?_
          show BIBase.Entails (PROP := sProp 𝕄) _ _
          iintro ⟨H1, H2⟩; isplitl [H1]; · iexact H1
          iexists f; iexact H2
        iapply ho; isplitl [Ho] <;> iassumption
      iexact Ht
    isplitl [Hb]; · iexact Hb
    isplitl [Howe]; · iexact Howe
    isplitl [Hids]; · iexact Hids
    iexact HP
  iexact HW

/-! ## Leaving -/

theorem owed_nil : owed c [] = 0 := by
  unfold owed
  refine Finset.sum_eq_zero fun k _ => ?_
  have h : ¬(24 ≤ tfw k) := by revert k; decide
  show owedK c k 24 = 0
  unfold owedK
  rw [if_neg (by decide), if_neg (by decide), if_neg (by decide), if_neg h]
  simp only [add_zero]

/-- Every semaphore of the kernel but the barrier's reads zero on device `c`. -/
def Sems : sProp 𝕄 := iprop((bigSep Finset.univ fun k : Fin 8 => semVal ((c : Thread nD τ), .dma (gsem k)) 0)
  ∗ (bigSep Finset.univ fun k : Fin 8 => bigSep Finset.univ fun j : Fin 8 => semVal (cellAt c j k) 0)
  ∗ (bigSep Finset.univ fun k : Fin 8 => bigSep Finset.univ fun j : Fin 4 => semVal ((c : Thread nD τ), .dma (osem j k)) 0))

theorem close_all : iprop(Pers ids Ew K ∗ bigSep Finset.univ fun k : Fin 8 => bigSep Finset.univ fun j : Fin 8 => atPos (ER (F := F)) (cellAt c j k) (0 + 1) ∅ 0)
    ⊢ |={Set.univ}=> bigSep Finset.univ fun k : Fin 8 => bigSep Finset.univ fun j : Fin 8 => (semVal (cellAt c j k) 0 : sProp 𝕄) := by
  refine BIBase.Entails.trans (bigSep_with_persistent (R := Pers ids Ew K)
    (Φ := fun k : Fin 8 => bigSep Finset.univ fun j : Fin 8 => atPos (ER (F := F)) (cellAt c j k) (0 + 1) ∅ 0) fun k _ => ?_) (bigSep_fupd _ _)
  show BIBase.Entails (PROP := sProp 𝕄) _ _
  refine BIBase.Entails.trans (bigSep_with_persistent (R := Pers ids Ew K)
    (Φ := fun j : Fin 8 => atPos (ER (F := F)) (cellAt c j k) (0 + 1) ∅ 0) fun j _ => ?_) (bigSep_fupd _ _)
  show BIBase.Entails (PROP := sProp 𝕄) _ _
  iintro ⟨#HP, HA⟩
  iapply (Rounds.cell_close ER (sched ids Ew) (g := cellAt c j k) (κ := K (cellAt c j k)) (Set.mem_univ _) (fun h => h) (R := 0 + 1) (duties_later ids Ew _))
  isplitr; · iapply (pers_at ids Ew K c j k); iexact HP
  iexact HA

/-- What device `c` ends its kernel with. -/
def Done : sProp 𝕄 := iprop(Scr (F := F) c ∗ Sems (F := F) c ∗ semVal (barCell c) 0 ∗ emW (F := F) c (Ew c) ∗ omW (F := F) c (Out ids Ew c))

theorem leave : St ids Ew K c [] ⊢ |={Set.univ}=> iprop(Done ids Ew c ∗ owesE (F := F) c 0 ∗ idsAt ids c) := by
  unfold St
  rw [owed_nil]
  have hL : (bigSep Finset.univ fun k : Fin 8 => Comp ids Ew c k (phase [] k)) ⊢ (bigSep Finset.univ fun k : Fin 8 => Left ids Ew c k : sProp 𝕄) :=
    bigSep_mono fun k _ => comp_end ids Ew c k
  iintro ⟨HL, Howe, Hids, #HP, Hbar⟩
  ihave HL := hL $$ HL
  unfold Left
  ihave HL := bigSep_unpair $$ HL; icases HL with ⟨Hg, HL⟩
  ihave HL := bigSep_unpair $$ HL; icases HL with ⟨Hp, HL⟩
  ihave HL := bigSep_unpair $$ HL; icases HL with ⟨Hx, HL⟩
  ihave HL := bigSep_unpair $$ HL; icases HL with ⟨Hc, HL⟩
  ihave HL := bigSep_unpair $$ HL; icases HL with ⟨Hy, HL⟩
  ihave HL := bigSep_unpair $$ HL; icases HL with ⟨Hz, HL⟩
  ihave HL := bigSep_unpair $$ HL; icases HL with ⟨Hd, HL⟩
  ihave HL := bigSep_unpair $$ HL; icases HL with ⟨HA, HO⟩
  unfold gDone
  ihave Hg := bigSep_unpair $$ Hg; icases Hg with ⟨Hg, HG⟩
  ihave HG := bigSep_unpair $$ HG; icases HG with ⟨Hgs, HE⟩
  have ho : (bigSep Finset.univ fun k : Fin 8 => bigSep Finset.univ fun j : Fin 4 => iprop(semVal ((c : Thread nD τ), .dma (osem j k)) 0 ∗ outAt c (src c j) k (Out ids Ew c)))
      ⊢ iprop((bigSep Finset.univ fun k : Fin 8 => bigSep Finset.univ fun j : Fin 4 => (semVal ((c : Thread nD τ), .dma (osem j k)) 0 : sProp 𝕄))
        ∗ (bigSep Finset.univ fun k : Fin 8 => bigSep Finset.univ fun j : Fin 4 => outAt c (src c j) k (Out ids Ew c))) := by
    rw [← bigSep_sep']
    refine bigSep_mono fun k _ => ?_
    show BIBase.Entails (PROP := sProp 𝕄) _ _
    rw [← bigSep_sep']
  ihave HO := ho $$ HO
  icases HO with ⟨Hos, HO⟩
  imod (close_all ids Ew K c) $$ [HA] with HA
  · isplitr; · iexact HP
    iexact HA
  imod (Rounds.cell_close ER (sched ids Ew) (g := barCell c) (κ := K (barCell c)) (Set.mem_univ _) (fun h => h) (R := 0 + 1) (duties_later ids Ew _)) $$ [Hbar] with Hb0
  · isplitr
    · iapply (pers_bar ids Ew K c); iexact HP
    iexact Hbar
  imodintro
  isplitr [Howe Hids]
  · unfold Done Scr Sems
    isplitl [Hg Hp Hx Hc Hy Hz Hd]
    · isplitl [Hg]; · iapply (chunks_any ch_gb c); iexact Hg
      isplitl [Hp]; · iapply (chunks_any ch_pb c); iexact Hp
      isplitl [Hx]; · iapply (chunks_any ch_xb c); iexact Hx
      isplitl [Hc]; · iapply (chunks_any ch_cb c); iexact Hc
      isplitl [Hy]; · iapply (chunks_any ch_yb c); iexact Hy
      isplitl [Hz]; · iapply (chunks_any ch_zb c); iexact Hz
      iapply (chunks_any ch_db c); iexact Hd
    isplitl [Hgs HA Hos]
    · isplitl [Hgs]; · iexact Hgs
      isplitl [HA] <;> iassumption
    isplitl [Hb0]; · iexact Hb0
    isplitl [HE]; · iapply (Entails.of_eq (em_shares Ew c).symm); iexact HE
    iapply (Entails.of_eq (out_blocks (F := F) c (Out ids Ew c)).symm); iexact HO
  isplitl [Howe] <;> iassumption

end

end Cert.Emb
-- ==== Proof.Body.lean ====
/-
# The body of the kernel on one device
-/
module

public import proofs.«01_k».proof.Proof.Locals
public import proofs.«01_k».proof.Proof.Prologue

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (c : Dev nD)

/-! ## The shape of a program: its next effect comes first -/

theorem b_assoc {A : sProp 𝕄} {α β γ : Type} {Q : γ → sProp 𝕄} {e : Prog (TpuEff nD τ sig (Elt F) Λ₀ .tc) α} {f : α → Prog (TpuEff nD τ sig (Elt F) Λ₀ .tc) β}
    {κ : β → Prog (TpuEff nD τ sig (Elt F) Λ₀ .tc) γ} (h : A ⊢ WP c (e >>= fun a => f a >>= κ) Q) : A ⊢ WP c ((e >>= f) >>= κ) Q := by
  rw [Prog.bind_assoc]; exact h
theorem b_lift {A : sProp 𝕄} {α γ : Type} {Q : γ → sProp 𝕄} {x : TpuEff nD τ sig (Elt F) Λ₀ .tc α}
    {κ : α → Prog (TpuEff nD τ sig (Elt F) Λ₀ .tc) γ} (h : A ⊢ WP c (.op x κ) Q) : A ⊢ WP c (Prog.lift x >>= κ) Q := h
theorem b_pure {A : sProp 𝕄} {α γ : Type} {Q : γ → sProp 𝕄} {a : α}
    {κ : α → Prog (TpuEff nD τ sig (Elt F) Λ₀ .tc) γ} (h : A ⊢ WP c (κ a) Q) : A ⊢ WP c (pure a >>= κ) Q := h
theorem b_part {A : sProp 𝕄} {α γ : Type} {Q : γ → sProp 𝕄} {e e' : Prog (TpuEff nD τ sig (Elt F) Λ₀ .tc) α}
    {κ : α → Prog (TpuEff nD τ sig (Elt F) Λ₀ .tc) γ} (he : e = e') (h : A ⊢ WP c (e' >>= κ) Q) : A ⊢ WP c (e >>= κ) Q := he ▸ h
theorem b_last {A : sProp 𝕄} {α : Type} {Q : α → sProp 𝕄} {e : Prog (TpuEff nD τ sig (Elt F) Λ₀ .tc) α} (h : A ⊢ WP c (e >>= fun a => pure a) Q) : A ⊢ WP c e Q := by
  have h' : (e >>= fun a => pure a) = e := bind_pure e
  rw [h'] at h; exact h
theorem b_op {A : sProp 𝕄} {α γ : Type} {Q : γ → sProp 𝕄} {x : TpuEff nD τ sig (Elt F) Λ₀ .tc α}
    {κ : α → Prog (TpuEff nD τ sig (Elt F) Λ₀ .tc) γ} (h : A ⊢ WP c (.op x κ) Q) : A ⊢ WP c (.op x κ) Q := h
theorem b_for {A : sProp 𝕄} {γ : Type} {Q : γ → sProp 𝕄} {L : Scf.Loop 32} {ok : L.OK} {i : BitVec 32} {body : Fin L.trips → BitVec 32 → Prog (TpuEff nD τ sig (Elt F) Λ₀ .tc) (BitVec 32)}
    {κ : BitVec 32 → Prog (TpuEff nD τ sig (Elt F) Λ₀ .tc) γ} (h : A ⊢ WP c (Scf.Loop.for L ok i body >>= κ) Q) : A ⊢ WP c (Scf.Loop.for L ok i body >>= κ) Q := h
theorem b_asm {A : sProp 𝕄} {γ : Type} {Q : γ → sProp 𝕄} {P : Prop} {d : Decidable P}
    {κ : PLift P → Prog (TpuEff nD τ sig (Elt F) Λ₀ .tc) γ} (h : A ⊢ WP c (.op (.assume P d) κ) Q) : A ⊢ WP c (.op (.assume P d) κ) Q := h
theorem b_load {A : sProp 𝕄} {γ : Type} {Q : γ → sProp 𝕄} {e : EltTy} (b : Memref sig .tc .vmem S512x1024 e) {r : LoadRect S512x1024} {hl : b.view.LoadsAt r}
    {κ : (r.shape.Idx → Elt F e) → Prog (TpuEff nD τ sig (Elt F) Λ₀ .tc) γ} (h : A ⊢ WP c (.op (.load (p := Proc.tc) b r hl) κ) Q) :
    A ⊢ WP c (.op (.load (p := Proc.tc) b r hl) κ) Q := h
theorem b_store {A : sProp 𝕄} {γ : Type} {Q : γ → sProp 𝕄} {e : EltTy} (b : Memref sig .tc .vmem S512x1024 e) {r : Rect S512x1024} {w : r.shape.Idx → Elt F e} {Mk hx hm}
    {κ : PUnit → Prog (TpuEff nD τ sig (Elt F) Λ₀ .tc) γ} (h : A ⊢ WP c (.op (.store (p := Proc.tc) b r w Mk hx hm) κ) Q) :
    A ⊢ WP c (.op (.store (p := Proc.tc) b r w Mk hx hm) κ) Q := h
theorem b_remote {A : sProp 𝕄} {γ : Type} {Q : γ → sProp 𝕄} {src : Memref sig .tc .vmem S64x1024 .bf16} {s s' : SemLoc sig} {n : Thread nD τ} {dst : Memref sig n.2.kind .vmem S64x1024 .bf16} {hsc} {h1 : src.view.WordExact} {h2 h3}
    {κ : PUnit → Prog (TpuEff nD τ sig (Elt F) Λ₀ .tc) γ} (h : A ⊢ WP c (.op (.enqueueDma src (.remote n dst s hsc) s' h1 h2 h3) κ) Q) :
    A ⊢ WP c (.op (.enqueueDma src (.remote n dst s hsc) s' h1 h2 h3) κ) Q := h
theorem b_here {A : sProp 𝕄} {γ : Type} {Q : γ → sProp 𝕄} {src : Memref sig .tc .vmem S64x1024 .bf16} {dst : Memref sig .tc .hbm S64x1024 .bf16} {s' : SemLoc sig} {h1 : src.view.WordExact} {h2 h3}
    {κ : PUnit → Prog (TpuEff nD τ sig (Elt F) Λ₀ .tc) γ} (h : A ⊢ WP c (.op (.enqueueDma src (.here dst) s' h1 h2 h3) κ) Q) :
    A ⊢ WP c (.op (.enqueueDma src (.here dst) s' h1 h2 h3) κ) Q := h
theorem b_waitd {A : sProp 𝕄} {γ : Type} {Q : γ → sProp 𝕄} {sp sp' : Space} {s1 : Shape} {e1 : EltTy} {s2 : Shape} {e2 : EltTy} {s : DmaSem sig}
    {src : Memref sig .tc sp s1 e1} {dst : Memref sig .tc sp' s2 e2} {h1 : src.view.WordExact} {h2 : dst.view.WordExact}
    {κ : PUnit → Prog (TpuEff nD τ sig (Elt F) Λ₀ .tc) γ} (h : A ⊢ WP c (.op (.waitDma2 (p := Proc.tc) s src dst h1 h2) κ) Q) :
    A ⊢ WP c (.op (.waitDma2 (p := Proc.tc) s src dst h1 h2) κ) Q := h
theorem b_id {A : sProp 𝕄} {γ : Type} {Q : γ → sProp 𝕄} {κ : Dev nD → Prog (TpuEff nD τ sig (Elt F) Λ₀ .tc) γ} (h : A ⊢ WP c (κ c) Q) :
    A ⊢ WP c (.op .deviceId κ) Q := by
  simp only [wp_deviceId]; exact h
theorem b_signal {A : sProp 𝕄} {γ : Type} {Q : γ → sProp 𝕄} {d : Dev nD} {s : Sem sig} {n : BitVec 32} {κ : PUnit → Prog (TpuEff nD τ sig (Elt F) Λ₀ .tc) γ}
    (h : A ⊢ WP c (.op (.semSignal (Dev.tc d : Thread nD τ) s n.toInt) κ) Q) : A ⊢ WP c (semSignalWord d s n >>= κ) Q := h
theorem b_wait {A : sProp 𝕄} {γ : Type} {Q : γ → sProp 𝕄} {s : Sem sig} {n : BitVec 32} {κ : PUnit → Prog (TpuEff nD τ sig (Elt F) Λ₀ .tc) γ}
    (h : A ⊢ WP c (.op (.semWait s n.toInt) κ) Q) : A ⊢ WP c (semWaitWord s n >>= κ) Q := h
end

theorem v1 {a b : ℕ} (h : a = b) : (![a] : Fin 1 → ℕ) = ![b] := by rw [h]
theorem v2 {a b : ℕ} (h : a = b) : (![a, 0] : Fin 2 → ℕ) = ![b, 0] := by rw [h]

theorem val_x (c : Dev nD) : (2 * ((c.val / 2) % 2) + (c.val % 2) + 4) - 4 * (c.val / 4) = (px c).val := by revert c; decide +kernel
theorem val_y (c : Dev nD) : (4 * (c.val / 4) + (c.val % 2) + 2) - 2 * ((c.val / 2) % 2) = (py c).val := by revert c; decide +kernel
theorem val_z (c : Dev nD) : (4 * (c.val / 4) + 2 * ((c.val / 2) % 2) + 1) - (c.val % 2) = (pz c).val := by revert c; decide +kernel

/-- A block of the result named by where it starts. -/
theorem ob_of {e : Dev nD} {k : Fin 8} {o : Fin 2 → ℕ} {i : ∀ a, o a + S64x1024.size a ≤ S2048x1024.size a} {h}
    (ho : o = ![512 * (e.val % 4) + 64 * k.val, 0]) : om.slice (Rect.unit (s := S2048x1024) o S64x1024.size i) h = ob e k := by
  subst ho; rfl
theorem mod_z (c : Dev nD) : (pz c).val % 4 = (2 * ((c.val / 2) % 2) + 1) - c.val % 2 := by revert c; decide +kernel
theorem mod_y (c : Dev nD) : (py c).val % 4 = (c.val % 2 + 2) - 2 * ((c.val / 2) % 2) := by revert c; decide +kernel
theorem mod_d (c : Dev nD) : (dg c).val % 4 = 3 - (2 * ((c.val / 2) % 2) + c.val % 2) := by revert c; decide +kernel

section
variable (ids : Dev nD → (cc0_stg0_0 : Ref sig .tc).ty.Contents (Elt F)) (Ew : Dev nD → (main_arg1 : Ref sig .tc).ty.Contents (Elt F))
variable (K : GSem nD τ sig → ℕ) (c : Dev nD)

/-- Where a step stands in the order: the head of the list is the chunk whose step is next. -/
theorem gate (p : ℕ) {k : Fin 8} {l : List (Fin 8)} {B : sProp 𝕄} (hp : l.count k + p = 23) (h : St ids Ew K c (k :: l) ⊢ B) : St ids Ew K c (k :: l) ⊢ B := h

set_option maxRecDepth 65536 in
set_option maxHeartbeats 2000000 in
theorem body_wp {Q : PUnit → sProp 𝕄} (h : St ids Ew K c [] ⊢ Q ⟨⟩) :
    Start ids Ew K c ⊢ WP c (cc0_body (F := F) sm (Memref.isWhole_whole _) em (Memref.isWhole_whole _) om (Memref.isWhole_whole _) gb (Memref.isWhole_whole _)
      pb (Memref.isWhole_whole _) xb (Memref.isWhole_whole _) cb (Memref.isWhole_whole _) yb (Memref.isWhole_whole _) zb (Memref.isWhole_whole _) db (Memref.isWhole_whole _)
      cc0_scratch7 cc0_scratch8 cc0_scratch9 cc0_scratch10 cc0_scratch11 cc0_scratch12 cc0_scratch13 cc0_scratch14 cc0_scratch15 cc0_scratch16 cc0_scratch17 cc0_scratch18) Q := by
  rw [cc0_body_eq_skeleton]
  unfold cc0_body_skel
  simp only [k0_part49_eq_skeleton]
  unfold k0_part49_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  refine b_last c ?_
  unfold Start O₀
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_tell ids Ew K c (by exact Fin.ext (by simp only [k0_dev1_eq, k0_dev2_eq, k0_dev3_eq]; exact val_x c)) (by rfl) (by rfl) ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_tell ids Ew K c (by exact Fin.ext (by simp only [k0_dev1_eq, k0_dev2_eq, k0_dev3_eq]; exact val_y c)) (by rfl) (by rfl) ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_tell ids Ew K c (by exact Fin.ext (by simp only [k0_dev1_eq, k0_dev2_eq, k0_dev3_eq]; exact val_z c)) (by rfl) (by rfl) ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_look ids Ew K c fun _ => ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_clear ids Ew K c ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_begin ids Ew K c ?_ ?_
  · intro t acc
    refine ⟨_, _, _, _, _, _, _, _, _, _, rfl, ClosedOff.eq.trans (v1 ?_), ClosedOff.eq.trans (v2 ?_), rfl, ClosedOff.eq.trans (v1 ?_), ClosedOff.eq.trans (v2 ?_), rfl⟩ <;>
      omega
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_assume ids Ew K c (chk_drain ids c 0) ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  refine pro_meet ids Ew K c (by rfl) (by rfl) ?_
  repeat' first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
  dsimp only [steps]

  repeat first
    | with_reducible refine b_assoc c ?_
    | with_reducible refine b_lift c ?_
    | with_reducible refine b_pure c ?_
    | with_reducible refine b_part c (by delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel; dsimp only) ?_
    | with_reducible refine b_id c ?_
    | with_reducible refine b_signal c ?_
    | with_reducible refine b_wait c ?_
    | (with_reducible refine b_for c ?_
       refine gate ids Ew K c 0 (by decide +kernel) ?_
       refine st_gather ids Ew K c (by decide +kernel) ?_ ?_
       · intro t acc
         refine ⟨_, _, _, _, _, _, _, _, _, _, rfl, ClosedOff.eq.trans (v1 ?_), ClosedOff.eq.trans (v2 ?_), rfl, ClosedOff.eq.trans (v1 ?_), ClosedOff.eq.trans (v2 ?_), rfl⟩ <;>
           omega)
    | (with_reducible refine b_for c ?_
       refine gate ids Ew K c 1 (by decide +kernel) ?_
       refine st_drain ids Ew K c (by decide +kernel) (fun t acc => ⟨_, _, _, _, _, rfl, rfl, rfl⟩) fun _ => ?_)
    | (with_reducible refine b_for c ?_
       refine st_skip ids Ew K c _ fun _ => ?_)
    | (with_reducible refine b_asm c ?_
       refine st_assume ids Ew K c (chk_drain ids c _) ?_)
    | (with_reducible refine b_load c gb ?_
       refine gate ids Ew K c 2 (by decide +kernel) ?_
       refine st_load_g ids Ew K c (by decide +kernel) (by rfl) ?_)
    | (with_reducible refine b_load c pb ?_
       refine gate ids Ew K c 2 (by decide +kernel) ?_
       refine st_dead_p ids Ew K c (by decide +kernel) (by rfl) fun _ => ?_)
    | (with_reducible refine b_load c pb ?_
       refine gate ids Ew K c 5 (by decide +kernel) ?_
       refine st_load_p ids Ew K c (by decide +kernel) (by rfl) ?_)
    | (with_reducible refine b_load c xb ?_
       refine gate ids Ew K c 5 (by decide +kernel) ?_
       refine st_load_x ids Ew K c (by decide +kernel) (by rfl) ?_)
    | (with_reducible refine b_load c cb ?_
       refine gate ids Ew K c 5 (by decide +kernel) ?_
       refine st_dead_c ids Ew K c (by decide +kernel) (by rfl) fun _ => ?_)
    | (with_reducible refine b_store c pb ?_
       refine gate ids Ew K c 2 (by decide +kernel) ?_
       refine st_store_p ids Ew K c (by decide +kernel) (by rfl) (by simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self]; rfl) ?_)
    | (with_reducible refine b_store c cb ?_
       refine gate ids Ew K c 5 (by decide +kernel) ?_
       refine st_store_c ids Ew K c (by decide +kernel) (by rfl) (by simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self]; rfl) ?_)
    | (with_reducible refine b_remote c ?_
       first
         | (refine gate ids Ew K c 3 (by decide +kernel) ?_
            refine st_sendx ids Ew K c (by decide +kernel) (by exact Fin.ext (by simp only [k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq]; exact val_x c)) (by rfl) (by rfl) (by rfl) (by rfl) ?_)
         | (refine gate ids Ew K c 6 (by decide +kernel) ?_
            refine st_sendy ids Ew K c (by decide +kernel) (by exact Fin.ext (by simp only [k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq]; exact val_y c)) (by rfl) (by rfl) (by rfl) (by rfl) ?_)
         | (refine gate ids Ew K c 7 (by decide +kernel) ?_
            refine st_sendz ids Ew K c (by decide +kernel) (by exact Fin.ext (by simp only [k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq]; exact val_z c)) (by rfl) (by rfl) (by rfl) (by rfl) ?_)
         | (refine gate ids Ew K c 10 (by decide +kernel) ?_
            refine st_fwd_lo ids Ew K c (by decide +kernel) (by rfl) (by exact Fin.ext (by simp only [k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq]; exact val_y c)) (by rfl) (by rfl) (by rfl) (by rfl) ?_)
         | (refine gate ids Ew K c 12 (by decide +kernel) ?_
            refine st_fwd_hi ids Ew K c (by decide +kernel) (by rfl) (by exact Fin.ext (by simp only [k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq]; exact val_z c)) (by rfl) (by rfl) (by rfl) (by rfl) ?_))
    | (with_reducible refine b_here c ?_
       first
         | (refine gate ids Ew K c 8 (by decide +kernel) ?_
            refine st_outm ids Ew K c (by decide +kernel) (by rfl) (by exact ob_of (ClosedOff.eq.trans (v2 (by omega)))) (by rfl) ?_)
         | (refine gate ids Ew K c 10 (by decide +kernel) ?_
            refine st_outz_hi ids Ew K c (by decide +kernel) (by rfl) (by rfl) (by exact ob_of (ClosedOff.eq.trans (v2 (by have := mod_z c; omega)))) (by rfl) ?_)
         | (refine gate ids Ew K c 11 (by decide +kernel) ?_
            refine st_outz_lo ids Ew K c (by decide +kernel) (by rfl) (by rfl) (by exact ob_of (ClosedOff.eq.trans (v2 (by have := mod_z c; omega)))) (by rfl) ?_)
         | (refine gate ids Ew K c 13 (by decide +kernel) ?_
            refine st_outy_lo ids Ew K c (by decide +kernel) (by rfl) (by rfl) (by exact ob_of (ClosedOff.eq.trans (v2 (by have := mod_y c; omega)))) (by rfl) ?_)
         | (refine gate ids Ew K c 13 (by decide +kernel) ?_
            refine st_outy_hi ids Ew K c (by decide +kernel) (by rfl) (by rfl) (by exact ob_of (ClosedOff.eq.trans (v2 (by have := mod_y c; omega)))) (by rfl) ?_)
         | (refine gate ids Ew K c 15 (by decide +kernel) ?_
            refine st_outd ids Ew K c (by decide +kernel) (by rfl) (by exact ob_of (ClosedOff.eq.trans (v2 (by have := mod_d c; omega)))) (by rfl) ?_))
    | (with_reducible refine b_waitd c ?_
       first
         | (refine gate ids Ew K c 4 (by decide +kernel) ?_
            refine st_waitx ids Ew K c (by decide +kernel) (by decide +kernel) (by rfl) (by rfl) ?_)
         | (refine gate ids Ew K c 9 (by decide +kernel) ?_
            refine st_waitz ids Ew K c (by decide +kernel) (by decide +kernel) (by rfl) (by rfl) ?_)
         | (refine gate ids Ew K c 11 (by decide +kernel) ?_
            refine st_waity_hi ids Ew K c (by decide +kernel) (by rfl) (by decide +kernel) (by rfl) (by rfl) ?_)
         | (refine gate ids Ew K c 12 (by decide +kernel) ?_
            refine st_waity_lo ids Ew K c (by decide +kernel) (by rfl) (by decide +kernel) (by rfl) (by rfl) ?_)
         | (refine gate ids Ew K c 14 (by decide +kernel) ?_
            refine st_waitd ids Ew K c (by decide +kernel) (by decide +kernel) (by rfl) (by rfl) ?_)
         | (refine gate ids Ew K c 16 (by decide +kernel) ?_
            refine st_wait_sx ids Ew K c (by decide +kernel) (by rfl) (by rfl) ?_)
         | (refine gate ids Ew K c 17 (by decide +kernel) ?_
            refine st_wait_sy ids Ew K c (by decide +kernel) (by rfl) (by rfl) ?_)
         | (refine gate ids Ew K c 18 (by decide +kernel) ?_
            refine st_wait_sz ids Ew K c (by decide +kernel) (by rfl) (by rfl) ?_)
         | (refine gate ids Ew K c 19 (by decide +kernel) ?_
            refine st_wait_sf ids Ew K c (by decide +kernel) (by rfl) (by rfl) ?_)
         | (refine gate ids Ew K c 20 (by decide +kernel) ?_
            refine st_wait_o0 ids Ew K c (by decide +kernel) (by rfl) (by rfl) ?_)
         | (refine gate ids Ew K c 21 (by decide +kernel) ?_
            refine st_wait_o1 ids Ew K c (by decide +kernel) (by rfl) (by rfl) ?_)
         | (refine gate ids Ew K c 22 (by decide +kernel) ?_
            refine st_wait_o2 ids Ew K c (by decide +kernel) (by rfl) (by rfl) ?_)
         | (refine gate ids Ew K c 23 (by decide +kernel) ?_
            refine st_wait_o3 ids Ew K c (by decide +kernel) (by rfl) (by rfl) ?_))
  exact h.trans (wp_end (F := F) c PUnit.unit Q)

end

end Cert.Emb
-- ==== Proof.Region.lean ====
/-
# Region: the kernel region of the program, entered with the protocol and left with the result
-/
module

public import proofs.«01_k».proof.Proof.Whole
public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents the region is entered with and left with -/

/-- The block of the window: the array of the ids, whole. -/
def iblk (c : Dev nD) : ((cfg0.win 0).xblock (cfg0.grid.coords t0_0)).Idx → Elt F (cfg0.win 0).elt :=
  ((cfg0.win 0).blk t0_0).view.read (Elt F) (V1 m c (Pipeline.arrRef spec0 0))
/-- The ids, relative to each device's half of the table. -/
def idsOf : Dev nD → (cc0_stg0_0 : Ref sig .tc).ty.Contents (Elt F) := fun c => iblk m c
/-- The halves of the table. -/
def EwOf : Dev nD → (main_arg1 : Ref sig .tc).ty.Contents (Elt F) := fun c => V1 m c main_arg1
/-- The buffers once the kernel is done. -/
abbrev VE (c : Dev nD) : Valuation τ sig (Elt F) := Function.update (V1 m c) (Proc.devRef .tc main_v8) (Out (idsOf m) (EwOf m) c)

theorem VE_of (c : Dev nD) (b : DevRef τ sig) (h : b ≠ Proc.devRef .tc main_v8) : VE m c b = V1 m c b := Function.update_of_ne h _ _
theorem VE_out (c : Dev nD) : VE m c (Proc.devRef .tc main_v8) = Out (idsOf m) (EwOf m) c := Function.update_self _ _ _

/-! ## The pipeline's proof data -/

/-- Before the kernel runs. -/
def Φ₀ (c : Dev nD) : sProp 𝕄 := iprop((∃ K, Inside (idsOf m) (EwOf m) K c) ∗ Scr (F := F) c ∗ emW (F := F) c (EwOf m c) ∗ (∃ f, omW (F := F) c f) ∗ ∃ r, prngReg c r)
/-- After it has run. -/
def Φ₁ (c : Dev nD) : sProp 𝕄 := iprop(Done (idsOf m) (EwOf m) c ∗ ∃ r, prngReg c r)

def dat0 (c : Dev nD) : Dat τ (Elt F) Unit ℕ UU ℕ cfg0 c where
  A w := V1 m c (Pipeline.arrRef spec0 w)
  after := fun | 0, _ => iblk m c | ⟨_ + 1, h⟩, _ => absurd h (Nat.not_lt.2 (Nat.le_add_left _ _))
  Φ t := if t.val = 0 then Φ₀ m c else Φ₁ m c
  q _ := fullShare
  owed t := if t.val = 0 then O₀ c (0 :: steps) else 0

abbrev pdats : (p : Fin 1) → (c : Dev nD) → Dat τ (Elt F) Unit ℕ UU ℕ (cfgs p) c := fun | 0 => dat0 m | ⟨_ + 1, h⟩ => absurd h (Nat.not_lt.2 (Nat.le_add_left _ _))

theorem Φ_at (c : Dev nD) (t) : (dat0 m c).Φ t = if t.val = 0 then Φ₀ m c else Φ₁ m c := by unfold dat0; rfl
theorem owed_at (c : Dev nD) (t) : (dat0 m c).owed t = if t.val = 0 then O₀ c (0 :: steps) else 0 := by unfold dat0; rfl
theorem last_ne : (Fin.last cfg0.N).val ≠ 0 := by rw [Fin.val_last]; exact (by decide : grid0.N ≠ 0)
theorem Φ_first (c : Dev nD) : (dat0 m c).Φ t0_0.castSucc = Φ₀ m c := (Φ_at m c _).trans (if_pos rfl)
theorem Φ_zero (c : Dev nD) : (dat0 m c).Φ 0 = Φ₀ m c := (Φ_at m c _).trans (if_pos rfl)
theorem Φ_next (c : Dev nD) : (dat0 m c).Φ t0_0.succ = Φ₁ m c := (Φ_at m c _).trans (if_neg (by rw [Fin.val_succ]; exact Nat.succ_ne_zero _))
theorem Φ_last (c : Dev nD) : (dat0 m c).Φ (Fin.last _) = Φ₁ m c := (Φ_at m c _).trans (if_neg last_ne)
theorem owed_first (c : Dev nD) : (dat0 m c).owed t0_0.castSucc = O₀ c (0 :: steps) := (owed_at m c _).trans (if_pos rfl)
theorem owed_zero (c : Dev nD) : (dat0 m c).owed 0 = O₀ c (0 :: steps) := (owed_at m c _).trans (if_pos rfl)
theorem owed_next (c : Dev nD) : (dat0 m c).owed t0_0.succ = 0 := (owed_at m c _).trans (if_neg (by rw [Fin.val_succ]; exact Nat.succ_ne_zero _))
theorem owed_last (c : Dev nD) : (dat0 m c).owed (Fin.last _) = 0 := (owed_at m c _).trans (if_neg last_ne)

theorem before_0 (c : Dev nD) (d) : (dat0 m c).before 0 t0_0 d = iblk m c := by
  unfold Dat.before; rw [if_pos (fetch0_0 t0_0)]; unfold Dat.fetched Dat.blockOf iblk; dsimp only [dat0]; rfl
theorem after_0 (c : Dev nD) : (dat0 m c).after 0 t0_0 = iblk m c := by unfold dat0 iblk; rfl

theorem owns_ids (c : Dev nD) (X : (cc0_stg0_0 : Ref sig .tc).ty.Contents (Elt F)) :
    (owns (Ix := Unit) (Name := ℕ) (U := UU) (Lvl := ℕ) (c : Thread nD τ) sm fullShare X : sProp 𝕄)
      = iprop(∃ f : Buf (Elt F) ((c : Thread nD τ).loc cc0_stg0_0), ⌜f = X⌝ ∗ (((c : Thread nD τ).loc cc0_stg0_0) ↦{fullShare} f)) := by
  unfold owns; simp only [Memref.view_whole, View.read_whole, View.set_whole]

/-- The kernel, run on a device with its start state. -/
theorem kernel_run (c : Dev nD) : iprop(Φ₀ m c ∗ owesE (F := F) c (O₀ c (0 :: steps)) ∗ idsAt (idsOf m) c)
    ⊢ WP c (cc0_body (F := F) sm (Memref.isWhole_whole _) em (Memref.isWhole_whole _) om (Memref.isWhole_whole _) gb (Memref.isWhole_whole _)
      pb (Memref.isWhole_whole _) xb (Memref.isWhole_whole _) cb (Memref.isWhole_whole _) yb (Memref.isWhole_whole _) zb (Memref.isWhole_whole _) db (Memref.isWhole_whole _)
      cc0_scratch7 cc0_scratch8 cc0_scratch9 cc0_scratch10 cc0_scratch11 cc0_scratch12 cc0_scratch13 cc0_scratch14 cc0_scratch15 cc0_scratch16 cc0_scratch17 cc0_scratch18)
      (fun _ => iprop((Done (idsOf m) (EwOf m) c ∗ owesE (F := F) c 0 ∗ idsAt (idsOf m) c) ∗ ∃ r, prngReg c r)) := by
  unfold Φ₀
  iintro ⟨⟨⟨%K, Hin⟩, Hs, He, Ho, Hp⟩, Howe, Hids⟩
  iapply (wp_frame_r frame (wpE defs₀ 𝒱₀ c none) Set.univ)
  isplitr [Hp]
  on_goal 2 => iexact Hp
  iapply (wp_fupd frame (wpE defs₀ 𝒱₀ c none) Set.univ)
  iapply (body_wp (idsOf m) (EwOf m) K c (Q := fun _ => iprop(|={Set.univ}=> (Done (idsOf m) (EwOf m) c ∗ owesE (F := F) c 0 ∗ idsAt (idsOf m) c))) (leave (idsOf m) (EwOf m) K c))
  iapply (enter (idsOf m) (EwOf m) K c)
  isplitl [Hin]; · iexact Hin
  isplitl [Hs]; · iexact Hs
  isplitl [He]; · iexact He
  isplitl [Ho]; · iexact Ho
  isplitl [Howe] <;> iassumption

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) : owesE (F := F) c O ⊢ (dat.owesAt () t : sProp 𝕄) := by
  unfold owesE Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ owesE (F := F) c O := by
  unfold owesE Dat.owesAt Pipeline.owesWithin; rw [h0]
  iintro ⟨%W, -, HO⟩; iexists W; iexact HO

/-- The body's obligation, at its one grid point. -/
theorem body_ob (c : Dev nD) : BodyObligation (dat0 m c) (defs₀ (F := F)) 𝒱₀ () Set.univ := fun t => by
  rw [fin_N0 t, bigSep_W0, bigSep_W0, Φ_first, Φ_next]
  refine BIBase.Entails.trans ?_ (BIBase.Entails.trans (kernel_run m c) (wp_mono frame (wpE defs₀ 𝒱₀ c none) Set.univ fun _ => ?_))
  · iintro ⟨HΦ, HO, %d, Hst⟩
    isplitl [HΦ]; · iexact HΦ
    isplitl [HO]; · iapply (owesAt_elim (dat0 m c) _ (O₀ c (0 :: steps)) (owed_first m c)); iexact HO
    ihave Hst := (show _ ⊢ owns (Ix := Unit) (Name := ℕ) (U := UU) (Lvl := ℕ) (c : Thread nD τ) sm fullShare (iblk m c) from Entails.of_eq (congrArg _ (before_0 m c d))) $$ Hst
    ihave Hst := (Entails.of_eq (owns_ids c (iblk m c))) $$ Hst
    icases Hst with ⟨%f, %hf, Hst⟩
    subst hf
    iexact Hst
  · unfold Φ₁
    iintro ⟨⟨HD, HO, Hst⟩, Hp⟩
    isplitl [HD Hp]
    · isplitl [HD] <;> iassumption
    isplitl [HO]; · iapply (owesAt_intro (dat0 m c) _ 0 (owed_next m c) rfl); iexact HO
    iapply (show owns (Ix := Unit) (Name := ℕ) (U := UU) (Lvl := ℕ) (c : Thread nD τ) sm fullShare (iblk m c) ⊢ _ from Entails.of_eq (congrArg _ (after_0 m c).symm))
    iapply (Entails.of_eq (owns_ids c (iblk m c)).symm)
    iexists _
    isplitr; · ipureintro; rfl
    iexact Hst

/-! ## The region's own semaphores -/

/-- The kernel's own semaphores: the gathers', those between devices, and the copies' to the result. -/
abbrev OK := Fin 8 ⊕ ((Fin 8 × Fin 8) ⊕ (Fin 8 × Fin 4))
def osemOf : OK → SemLoc sig
  | .inl k => .dma (gsem k)
  | .inr (.inl p) => .dma (semIx p.2 p.1)
  | .inr (.inr p) => .dma (osem p.2 p.1)

theorem own_facts : Pipeline.OwnSemFacts spec0 osemOf := by decide +kernel

theorem own_eq (c : Dev nD) : (Pipeline.ownSems0 (Ix := Unit) (Val := Elt F) (Name := ℕ) (U := UU) (Lvl := ℕ) (τ := τ) osemOf c : sProp 𝕄) = Sems (F := F) c := by
  unfold Pipeline.ownSems0 Sems
  rw [BI.bigSep_univ_sum, BI.bigSep_univ_sum, bigSep_univ_prod, bigSep_univ_prod]
  rfl

/-! ## Into the region and out of it -/

/-- What the launch keeps for device `c`'s region. -/
def Tk (c : Dev nD) : sProp 𝕄 := iprop(∃ K, Pers (idsOf m) (EwOf m) K
  ∗ (bigSep Finset.univ fun k : Fin 8 => bigSep Finset.univ fun j : Fin 8 => openTok (ER (F := F)) (cellAt c j k))
  ∗ (bigSep Finset.univ fun k : Fin 8 => bigSep Finset.univ fun j : Fin 4 => dutyTok (ER (F := F)) (cellAt c (ev j) k) 0 0)
  ∗ (bigSep Finset.univ fun k : Fin 8 => bigSep Finset.univ fun j : Fin 4 => cred (tallyAt (cellAt c (od j) k) () N))
  ∗ (bigSep Finset.univ fun k : Fin 8 => toks (F := F) c k)
  ∗ (atPos (ER (F := F)) (barCell c) 0 ∅ 0 ∗ cred (tallyAt (barCell c) () 3)) ∗ Ring (F := F) c)
/-- What the region is entered with. -/
def Xk (c : Dev nD) : sProp 𝕄 := iprop(∃ K, Inside (idsOf m) (EwOf m) K c)
/-- What of the protocol it leaves. -/
def Yk (c : Dev nD) : sProp 𝕄 := semVal (barCell c) 0

theorem open_all (ids : Dev nD → (cc0_stg0_0 : Ref sig .tc).ty.Contents (Elt F)) (Ew : Dev nD → (main_arg1 : Ref sig .tc).ty.Contents (Elt F)) (K : GSem nD τ sig → ℕ) (c : Dev nD) :
    iprop(Pers ids Ew K ∗ (bigSep Finset.univ fun k : Fin 8 => bigSep Finset.univ fun j : Fin 8 => openTok (ER (F := F)) (cellAt c j k))
      ∗ (bigSep Finset.univ fun k : Fin 8 => bigSep Finset.univ fun j : Fin 8 => semVal (cellAt c j k) 0))
    ⊢ |={Set.univ}=> bigSep Finset.univ fun k : Fin 8 => bigSep Finset.univ fun j : Fin 8 =>
        (iprop(atPos (ER (F := F)) (cellAt c j k) 0 ∅ 0 ∗ reached (ER (F := F)) (cellAt c j k) 0) : sProp 𝕄) := by
  have hz : iprop((bigSep Finset.univ fun k : Fin 8 => bigSep Finset.univ fun j : Fin 8 => openTok (ER (F := F)) (cellAt c j k))
      ∗ (bigSep Finset.univ fun k : Fin 8 => bigSep Finset.univ fun j : Fin 8 => semVal (cellAt c j k) 0))
      ⊢ (bigSep Finset.univ fun k : Fin 8 => bigSep Finset.univ fun j : Fin 8 => iprop(openTok (ER (F := F)) (cellAt c j k) ∗ semVal (cellAt c j k) 0) : sProp 𝕄) := by
    rw [← bigSep_sep']
    refine bigSep_mono fun k _ => ?_
    show BIBase.Entails (PROP := sProp 𝕄) _ _
    rw [← bigSep_sep']
  refine BIBase.Entails.trans (sep_mono .rfl hz) (BIBase.Entails.trans (bigSep_with_persistent (R := Pers ids Ew K)
    (Φ := fun k : Fin 8 => bigSep Finset.univ fun j : Fin 8 => iprop(openTok (ER (F := F)) (cellAt c j k) ∗ semVal (cellAt c j k) 0)) fun k _ => ?_) (bigSep_fupd _ _))
  show BIBase.Entails (PROP := sProp 𝕄) _ _
  refine BIBase.Entails.trans (bigSep_with_persistent (R := Pers ids Ew K)
    (Φ := fun j : Fin 8 => iprop(openTok (ER (F := F)) (cellAt c j k) ∗ semVal (cellAt c j k) 0)) fun j _ => ?_) (bigSep_fupd _ _)
  show BIBase.Entails (PROP := sProp 𝕄) _ _
  iintro ⟨#HP, Ho, Hv⟩
  iapply (Rounds.cell_open ER (sched ids Ew) (g := cellAt c j k) (Set.mem_univ (K (cellAt c j k))))
  isplitr; · iapply (pers_at ids Ew K c j k); iexact HP
  isplitl [Ho] <;> iassumption

theorem hopen0 (c : Dev nD) : iprop(Tk m c ∗ Pipeline.ownSems0 osemOf c ∗ levAts L lv) ⊢ (|={Set.univ}=> Xk m c : sProp 𝕄) := by
  rw [own_eq]
  unfold Tk Xk Sems
  iintro ⟨⟨%K, #HP, Hop, Hd, Hc, Ht, Hb, Hr⟩, ⟨Hg, Hs, Ho⟩, -⟩
  imod (open_all (idsOf m) (EwOf m) K c) $$ [Hop Hs] with Hat
  · isplitr; · iexact HP
    isplitl [Hop] <;> iassumption
  imodintro
  iexists K; unfold Inside
  isplitr; · iexact HP
  isplitl [Hg]; · iexact Hg
  isplitl [Hat]; · iexact Hat
  isplitl [Ho]; · iexact Ho
  isplitl [Hd]; · iexact Hd
  isplitl [Hc]; · iexact Hc
  isplitl [Ht]; · iexact Ht
  isplitl [Hb]; · iexact Hb
  iexact Hr

/-- The buffers the kernel addresses itself: the half of the table, and the result. -/
abbrev Hs : Finset (DevRef τ sig) := {Proc.devRef .tc main_arg1, Proc.devRef .tc main_v8}
/-- The buffers outside the region's window. -/
abbrev Sr : Finset (DevRef τ sig) := Pipeline.ucRefs τ sig \ Pipeline.arrRefs spec0
theorem HsSr : Hs ⊆ Sr := by decide

theorem held_Hs (c : Dev nD) (V : Valuation τ sig (Elt F)) : (StableHlo.held (Ix := Unit) (Name := ℕ) (U := UU) (Lvl := ℕ) (c.tc : Thread nD τ) Hs V : sProp 𝕄)
    = iprop(emW (F := F) c (V (Proc.devRef .tc main_arg1)) ∗ omW (F := F) c (V (Proc.devRef .tc main_v8))) := by
  unfold StableHlo.held
  rw [bigSep_eq_bigSepL_of_eq [Proc.devRef .tc main_arg1, Proc.devRef .tc main_v8] (by decide) (by decide)]
  rfl

theorem scr_eq (c : Dev nD) : (Pipeline.scopedRest (Ix := Unit) (Name := ℕ) (U := UU) (Lvl := ℕ) (Val := Elt F) (τ := τ) spec0 c : sProp 𝕄) = Scr (F := F) c := by
  rw [scopedRest0_eq]; rfl

theorem hin0 (c : Dev nD) : iprop(Pipeline.scopedRest (Pipeline.pin (pcfgs (F := F)) adm 0).spec c ∗ (∃ r, prngReg c r) ∗ StableHlo.held (c.tc : Thread nD τ) Hs (V1 m c) ∗ Xk m c)
    ⊢ (pdats m 0 c).Φ 0 := by
  rw [show (pdats m 0 c).Φ 0 = Φ₀ m c from Φ_zero m c, held_Hs]
  refine BIBase.Entails.trans (sep_mono (Entails.of_eq (scr_eq c)) .rfl) ?_
  unfold Φ₀ Xk
  iintro ⟨Hs, Hp, ⟨He, Ho⟩, HK⟩
  isplitl [HK]; · iexact HK
  isplitl [Hs]; · iexact Hs
  isplitl [He]; · iexact He
  isplitl [Ho]; · iexists _; iexact Ho
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (VE m c) ∗ Pipeline.ownSems0 osemOf c ∗ Yk c) := by
  rw [show (pdats m 0 c).Φ (Fin.last _) = Φ₁ m c from Φ_last m c, own_eq, held_Hs, VE_out, VE_of m c _ (by decide)]
  refine BIBase.Entails.trans ?_ (sep_mono (Entails.of_eq (scr_eq c).symm) .rfl)
  unfold Φ₁ Done Yk
  iintro ⟨⟨Hs, Hss, Hb, He, Ho⟩, Hp⟩
  isplitl [Hs]; · iexact Hs
  isplitl [Hp]; · iexact Hp
  isplitl [He Ho]
  · isplitl [He]; · iexact He
    iexact Ho
  isplitl [Hss]; · iexact Hss
  iexact Hb

/-! ## The region -/

theorem above0 : Above 0 (0 :: steps) := by decide +kernel

theorem owed_cut (c : Dev nD) (t) (g : GSem nD τ sig) (i : Unit) (h : 0 < (dat0 m c).owed t g i) : i ∈ L g ∧ (0 : ℕ) < lv g i := by
  have hb : ∀ d : Dev nD, 0 < tallyAt (barCell d) () 1 g i → i ∈ L g ∧ (0 : ℕ) < lv g i := fun d h => by
    rw [tallyAt_apply] at h
    split at h
    · next hg => obtain ⟨rfl, -⟩ := hg; exact ⟨by rw [L_tc]; exact Finset.mem_singleton_self _, by rw [lv_bar]; exact Nat.one_pos⟩
    · exact absurd h (Nat.lt_irrefl 0)
  rw [owed_at] at h
  split at h
  · unfold O₀ at h
    rw [Pi.add_apply, Finsupp.add_apply, Pi.add_apply, Finsupp.add_apply, Pi.add_apply, Finsupp.add_apply] at h
    rcases Nat.add_pos_iff_pos_or_pos.mp h with h | h
    · rcases Nat.add_pos_iff_pos_or_pos.mp h with h | h
      · rcases Nat.add_pos_iff_pos_or_pos.mp h with h | h
        · exact owed_above above0 h
        · exact hb _ h
      · exact hb _ h
    · exact hb _ h
  · exact absurd h (Nat.lt_irrefl 0)

theorem stage_sem : ∀ (w : Fin cfg0.W) (s : Fin (cfg0.win w).nbuf) (p : Fin 8 × Fin 8), (cfg0.win w).sem s ≠ semIx p.1 p.2 := by decide +kernel

theorem cut0 : Pipeline.LevelCutOwed (pcfgs (F := F)) adm (pdats m) () L lv 0 (fun _ => 0) where
  hι c w s := by rw [L_tc]; exact Finset.mem_singleton_self _
  hιb c w s := Nat.le_of_eq (lv_other c _ (stage_sem w s) ())
  hD c t g i h := owed_cut m c t g i h

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_in (c : Dev nD) (w : Fin cfg0.W) : (dat0 m c).arrAt w 0 = V1 m c (Proc.devRef .tc (Pipeline.arrRef spec0 w)) :=
  (Dat.arrAt_in (dat0 m c) w (by revert w; decide) 0).trans rfl
theorem arr_out (c : Dev nD) (w : Fin cfg0.W) : (dat0 m c).arrAt w cfg0.N = VE m c (Proc.devRef .tc (Pipeline.arrRef spec0 w)) :=
  (Dat.arrAt_in (dat0 m c) w (by revert w; decide) _).trans (VE_of m c _ (by revert w; decide)).symm

set_option backward.isDefEq.respectTransparency.types false in
/-- The kernel's region: entered with the buffers as the host leaves them, left with the result written. -/
def reg0 : Pipeline.RegionSeg (pcfgs (F := F)) adm (pdats m) () (defs₀ (F := F)) 𝒱₀ L lv 0 :=
  Pipeline.RegionSeg.ofTalk (pcfgs (F := F)) adm (pdats m) () (defs₀ (F := F)) 𝒱₀ L lv 0 osemOf own_facts
    Hs Sr HsSr kitP rfl (fun c => (body_ob m c).loose)
    (fun _ => 0) (fun c => O₀ c (0 :: steps)) (fun c => (owed_zero m c).trans (zero_add _).symm) (owed_last m) (fun _ => rfl) (fun c w => by unfold Dat.share; split <;> rfl)
    (V1 m) (VE m) (fun c b hb => VE_of m c b fun e => (Finset.mem_sdiff.mp hb).2 (by rw [e]; decide))
    (Tk m) Yk (Xk m) Yk (hopen0 m) (hin0 m) (hout0 m)
    (fun c => by iintro H; imodintro; iexact H)
    (fun _ => 0) (cut0 m) (fun _ => iprop(emp))
    (arr_in m) (arr_out m)

end Cert.Emb
-- ==== Proof.Run.lean ====
/-
# Run: the launch, and the whole program run from it
-/
module

public import proofs.«01_k».proof.Proof.Region

@[expose] public section

noncomputable section

namespace Cert.Emb

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Seg)

variable {F : FTy → Type} [FloatOps F]

local notation "𝕄" => MT nD τ sig Unit (Elt F) ℕ UU ℕ

/-! ## The cells and the tokens -/

theorem cell_inj : Function.Injective fun p : Dev nD × Fin 8 × Fin 8 => cellAt p.1 p.2.1 p.2.2 := fun p q h => by
  have h1 : p.1 = q.1 := congrArg (fun g : GSem nD τ sig => g.1.1) h
  have h2 := semIx_inj p.2 q.2 (by have := congrArg Prod.snd h; injection this)
  exact Prod.ext h1 h2

def barEmb : Dev nD ↪ GSem nD τ sig := ⟨fun c => barCell c, fun _ _ h => congrArg (fun g : GSem nD τ sig => g.1.1) h⟩
def scEmb : Dev nD × Fin 8 × Fin 8 ↪ GSem nD τ sig := ⟨fun p => cellAt p.1 p.2.1 p.2.2, cell_inj⟩

/-- The barrier cells. -/
abbrev barCells : Finset (GSem nD τ sig) := Finset.univ.map barEmb
/-- The cells of the copies between devices. -/
abbrev scCells : Finset (GSem nD τ sig) := Finset.univ.map scEmb
/-- Every duty's token: three at a barrier cell, one at any other. -/
def tokEmb : (Dev nD × Fin 3) ⊕ (Dev nD × Fin 8 × Fin 8) ↪ GSem nD τ sig × ℕ × Fin 3 :=
  ⟨fun x => match x with | .inl p => (barCell p.1, 0, p.2) | .inr p => (cellAt p.1 p.2.1 p.2.2, 0, 0), fun x y h => by
    rcases x with x | x <;> rcases y with y | y
    · exact congrArg Sum.inl (Prod.ext (congrArg (fun t : GSem nD τ sig × ℕ × Fin 3 => t.1.1.1) h) (congrArg (fun t : GSem nD τ sig × ℕ × Fin 3 => t.2.2) h))
    · exact absurd (congrArg (fun t : GSem nD τ sig × ℕ × Fin 3 => t.1.2) h).symm (dma_ne_bar _)
    · exact absurd (congrArg (fun t : GSem nD τ sig × ℕ × Fin 3 => t.1.2) h) (dma_ne_bar _)
    · exact congrArg Sum.inr (cell_inj (congrArg Prod.fst h))⟩
abbrev allToks : Finset (GSem nD τ sig × ℕ × Fin 3) := Finset.univ.map tokEmb

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact dma_ne_bar _ (congrArg Prod.snd h)

/-- The launch element. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

/-- A resource, all of it on device 0. -/
def onZero (X : sProp 𝕄) (c : Dev nD) : sProp 𝕄 := if c = 0 then X else iprop(emp)
omit [FloatOps F] in
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

/-- The protocol's launch element waits on device 0 for the step that deals it. -/
def G0 : Dev nD → sProp 𝕄 := onZero (BI.own (ER (F := F) (launchOf barCells scCells allToks)))

/-! ## Tokens dealt to the devices that pay with them -/

/-- Token of the cell `(j, k)` of device `c`. -/
abbrev dt (c : Dev nD) (j k : Fin 8) : sProp 𝕄 := dutyTok (ER (F := F)) (cellAt c j k) 0 0

omit [FloatOps F] in
theorem toks_split : bigSep allToks (fun x => (dutyTok (ER (F := F)) x.1 x.2.1 x.2.2 : sProp 𝕄))
    = iprop((bigSep Finset.univ fun c : Dev nD => bigSep Finset.univ fun d : Fin 3 => dutyTok (ER (F := F)) (barCell c) 0 d)
      ∗ bigSep Finset.univ fun c : Dev nD => bigSep Finset.univ fun k : Fin 8 => bigSep Finset.univ fun j : Fin 8 => dt (F := F) c j k) := by
  rw [bigSep_map, BI.bigSep_univ_sum, bigSep_univ_prod, bigSep_univ_prod]
  refine congrArg₂ _ rfl (bigSep_congr fun c _ => ?_)
  rw [bigSep_univ_prod, BI.bigSep_univ_comm]
  rfl

/-- A device's tokens: to the sends that copy them out, and to the neighbour whose copies arrive. -/
theorem around (f : Fin 8 → Dev nD → Dev nD) (hf : ∀ k c, f k (f k c) = c) (j : Fin 8) :
    (bigSep Finset.univ fun c : Dev nD => bigSep Finset.univ fun k : Fin 8 => dt (F := F) c j k)
      = bigSep Finset.univ fun c : Dev nD => bigSep Finset.univ fun k : Fin 8 => dt (F := F) (f k c) j k := by
  rw [BI.bigSep_univ_comm, BI.bigSep_univ_comm (fun c : Dev nD => fun k : Fin 8 => dt (F := F) (f k c) j k)]
  exact bigSep_congr fun k _ => bigSep_univ_equiv (⟨f k, f k, hf k, hf k⟩ : Dev nD ≃ Dev nD) (fun c : Dev nD => dt (F := F) c j k)

theorem toks_dealt : (bigSep Finset.univ fun c : Dev nD => bigSep Finset.univ fun k : Fin 8 => bigSep Finset.univ fun j : Fin 8 => dt (F := F) c j k)
    ⊢ iprop((bigSep Finset.univ fun c : Dev nD => bigSep Finset.univ fun k : Fin 8 => bigSep Finset.univ fun j : Fin 4 => dt (F := F) c (ev j) k)
      ∗ (bigSep Finset.univ fun c : Dev nD => bigSep Finset.univ fun k : Fin 8 => toks (F := F) c k)) := by
  have h1 (Φ Ψ : Dev nD → Fin 8 → sProp 𝕄) : (bigSep Finset.univ fun c : Dev nD => bigSep Finset.univ fun k : Fin 8 => iprop(Φ c k ∗ Ψ c k))
      = iprop((bigSep Finset.univ fun c : Dev nD => bigSep Finset.univ fun k : Fin 8 => Φ c k) ∗ bigSep Finset.univ fun c : Dev nD => bigSep Finset.univ fun k : Fin 8 => Ψ c k) := by
    rw [← bigSep_sep']; exact bigSep_congr fun c _ => bigSep_sep' _ _ _
  unfold toks
  rw [h1, h1, h1, ← around (fun _ => px) (fun _ => px_px) 1, ← around (fun _ => py) (fun _ => py_py) 3, ← around (fun _ => pz) (fun _ => pz_pz) 5,
    ← around (fun k c => fd c k) (fun k c => fd_fd c k) 7, ← h1, ← h1, ← h1, ← h1]
  refine bigSep_mono fun c _ => ?_
  show BIBase.Entails (PROP := sProp 𝕄) _ _
  refine bigSep_mono fun k _ => ?_
  show BIBase.Entails (PROP := sProp 𝕄) _ _
  rw [eight, four]
  iintro ⟨H0, H1, H2, H3, H4, H5, H6, H7⟩
  isplitl [H0 H2 H4 H6]
  · isplitl [H0]; · iexact H0
    isplitl [H2]; · iexact H2
    isplitl [H4]; · iexact H4
    iexact H6
  isplitl [H1]; · iexact H1
  isplitl [H3]; · iexact H3
  isplitl [H5]; · iexact H5
  iexact H7

/-- The barrier tokens, each with the neighbour that signals. -/
theorem bar_dealt : (bigSep Finset.univ fun c : Dev nD => bigSep Finset.univ fun d : Fin 3 => (dutyTok (ER (F := F)) (barCell c) 0 d : sProp 𝕄))
    ⊢ bigSep Finset.univ fun c : Dev nD => iprop(dutyTok (ER (F := F)) (barCell (px c)) 0 0 ∗ dutyTok (ER (F := F)) (barCell (py c)) 0 1 ∗ dutyTok (ER (F := F)) (barCell (pz c)) 0 2) := by
  have h3 : ∀ c : Dev nD, (bigSep Finset.univ fun d : Fin 3 => (dutyTok (ER (F := F)) (barCell c) 0 d : sProp 𝕄))
      = iprop(dutyTok (ER (F := F)) (barCell c) 0 0 ∗ dutyTok (ER (F := F)) (barCell c) 0 1 ∗ dutyTok (ER (F := F)) (barCell c) 0 2) := fun c =>
    bigSep_univ_eq_bigSepL ([0, 1, 2] : List (Fin 3)) (by decide) (by decide) _
  rw [bigSep_congr fun c _ => h3 c, bigSep_sep', bigSep_sep', bigSep_sep', bigSep_sep',
    bigSep_univ_equiv (⟨px, px, px_px, px_px⟩ : Dev nD ≃ Dev nD) (fun c : Dev nD => (dutyTok (ER (F := F)) (barCell c) 0 0 : sProp 𝕄)),
    bigSep_univ_equiv (⟨py, py, py_py, py_py⟩ : Dev nD ≃ Dev nD) (fun c : Dev nD => (dutyTok (ER (F := F)) (barCell c) 0 1 : sProp 𝕄)),
    bigSep_univ_equiv (⟨pz, pz, pz_pz, pz_pz⟩ : Dev nD ≃ Dev nD) (fun c : Dev nD => (dutyTok (ER (F := F)) (barCell c) 0 2 : sProp 𝕄))]
  exact BI.Entails.refl _

/-! ## The launch credit -/

/-- What every device owes as the program starts. -/
abbrev Owe : Dev nD → CellTallies nD τ sig Unit := fun c => O₀ c (0 :: steps)

theorem owe_eq (d : Dev nD) (g : GSem nD τ sig) : Owe d g () = (∑ k : Fin 8, ((if g = cellAt (px d) 1 k then N else 0) + (if g = cellAt (py d) 3 k then N else 0)
    + (if g = cellAt (pz d) 5 k then N else 0) + (if g = cellAt (fd d k) 7 k then N else 0)))
    + (if g = barCell (pz d) then 1 else 0) + (if g = barCell (py d) then 1 else 0) + (if g = barCell (px d) then 1 else 0) := by
  have hp : ∀ k : Fin 8, phase (0 :: steps) k ≤ 3 := by decide +kernel
  have ht : ∀ k : Fin 8, 7 ≤ tfw k := by decide
  have hg : ∀ (g' : GSem nD τ sig) (n : ℕ), tallyAt g' () n g () = if g = g' then n else 0 := fun g' n => by
    rw [tallyAt_apply]; by_cases h : g = g'
    · rw [if_pos ⟨h, rfl⟩, if_pos h]
    · rw [if_neg (fun x => h x.1), if_neg h]
  unfold Owe O₀ owed
  rw [Pi.add_apply, Finsupp.add_apply, Pi.add_apply, Finsupp.add_apply, Pi.add_apply, Finsupp.add_apply, Finset.sum_apply, Finsupp.finset_sum_apply, hg, hg, hg]
  refine congrArg (· + _ + _ + _) (Finset.sum_congr rfl fun k _ => ?_)
  unfold owedK
  have h3 := hp k; have h7 := ht k
  rw [if_pos h3, if_pos (by omega), if_pos (by omega), if_pos (by omega)]
  rw [Pi.add_apply, Finsupp.add_apply, Pi.add_apply, Finsupp.add_apply, Pi.add_apply, Finsupp.add_apply, hg, hg, hg, hg]

theorem cell_iff (c d : Dev nD) (i j k l : Fin 8) : (cellAt c i k = cellAt d j l) ↔ (c, i, k) = (d, j, l) :=
  ⟨fun h => cell_inj (a₁ := (c, i, k)) (a₂ := (d, j, l)) h, fun h => by cases h; rfl⟩
theorem bar_iff (c d : Dev nD) : (barCell c = barCell d) ↔ c = d := ⟨fun h => barEmb.injective h, fun h => by rw [h]⟩
theorem cell_bar (c d : Dev nD) (j k : Fin 8) : (cellAt c j k = barCell d) ↔ False := ⟨fun h => dma_ne_bar _ (congrArg Prod.snd h), False.elim⟩
theorem bar_cell (c d : Dev nD) (j k : Fin 8) : (barCell c = cellAt d j k) ↔ False := ⟨fun h => dma_ne_bar _ (congrArg Prod.snd h).symm, False.elim⟩

theorem owed_bar (c : Dev nD) : ∑ d, Owe d (barCell c) () = 3 := by
  simp only [owe_eq, bar_cell, bar_iff, if_false, add_zero, Finset.sum_const_zero, zero_add]
  revert c; decide
/-- How often the cell `(j, k)` of `c` is the one a copy of chunk `l` of device `d` arrives at. -/
def arrivals (c : Dev nD) (j : Fin 4) (k : Fin 8) : ℕ := ∑ d : Dev nD, ∑ l : Fin 8, ((if (c, od j, k) = (px d, (1 : Fin 8), l) then 1 else 0) + (if (c, od j, k) = (py d, (3 : Fin 8), l) then 1 else 0)
    + (if (c, od j, k) = (pz d, (5 : Fin 8), l) then 1 else 0) + (if (c, od j, k) = (fd d l, (7 : Fin 8), l) then 1 else 0))
theorem arrivals_one : ∀ (c : Dev nD) (j : Fin 4) (k : Fin 8), arrivals c j k = 1 := by decide +kernel
theorem owed_cell (c : Dev nD) (j : Fin 4) (k : Fin 8) : ∑ d, Owe d (cellAt c (od j) k) () = N := by
  simp only [owe_eq, cell_bar, cell_iff, if_false, add_zero]
  have h : arrivals c j k * N = N := by rw [arrivals_one, Nat.one_mul]
  refine Eq.trans ?_ h
  unfold arrivals
  simp only [Finset.sum_mul, add_mul, ite_mul, one_mul, zero_mul]

theorem launch_at (g : GSem nD τ sig) (n : ℕ) (h : ∑ d, Owe d g () = n) (hg : g.1.2 = .tc) :
    tallyOn g (launchCredit (Pipeline.owing Owe) 0 g) = (tallyAt g () n : CellTallies nD τ sig Unit) := by
  obtain ⟨⟨c, κ⟩, sm⟩ := g
  cases hg
  unfold tallyAt; refine congrArg _ (Finsupp.ext fun u => ?_); cases u
  rw [Pipeline.launchCredit_owing, Finsupp.single_eq_same]
  exact h

theorem creds (c : Dev nD) : (Pipeline.launchCred Owe c : sProp 𝕄) ⊢ iprop(cred (tallyAt (barCell c) () 3)
    ∗ (bigSep Finset.univ fun k : Fin 8 => bigSep Finset.univ fun j : Fin 4 => cred (tallyAt (cellAt c (od j) k) () N))) := by
  let e : Fin 8 × Fin 4 ↪ SemLoc sig := ⟨fun p => .dma (semIx (od p.2) p.1), fun p q h => by
    have h1 := semIx_inj (od p.2, p.1) (od q.2, q.1) (by injection h)
    have ho : Function.Injective od := by decide
    exact Prod.ext (congrArg Prod.snd h1) (ho (congrArg Prod.fst h1))⟩
  unfold Pipeline.launchCred
  rw [bigSep_univ_at _ (SemLoc.reg barS), launch_at (barCell c) 3 (owed_bar c) rfl]
  refine sep_mono_right ?_
  refine BIBase.Entails.trans (bigSep_subset (t := Finset.univ.map e) fun s hs => ?_) (Entails.of_eq ?_)
  · obtain ⟨p, -, rfl⟩ := Finset.mem_map.mp hs
    exact Finset.mem_erase.mpr ⟨dma_ne_bar _, Finset.mem_univ _⟩
  · rw [bigSep_map, bigSep_univ_prod]
    exact bigSep_congr fun k _ => bigSep_congr fun j _ => congrArg _ (launch_at (cellAt c (od j) k) N (owed_cell c j k) rfl)

/-! ## The launch -/

section
variable (m : (ℓ : Loc nD τ sig) → Buf (Elt F) ℓ) (ρ : Dev nD → PrngReg)

/-- What rides beside the buffers into the region. -/
def Ride (c : Dev nD) : sProp 𝕄 := iprop(Tk m c ∗ (∃ r, prngReg c r) ∗ owesE (F := F) c (Owe c))
/-- The two rests of the generated segments; the second is not used. -/
def Rides : Fin 2 → Dev nD → sProp 𝕄 := fun _ => Ride m

/-- The records every device may consult. -/
def records (κ : GSem nD τ sig → ℕ) : sProp 𝕄 :=
  iprop(Pers (idsOf m) (EwOf m) κ ∗ bigSep Finset.univ fun c : Dev nD => reached (ER (F := F)) (barCell c) 0)
instance records_persistent (κ : GSem nD τ sig → ℕ) : BI.Persistent (records m κ) := by unfold records; infer_instance

/-- What the launch deals to device `c` alone. -/
def dealt (c : Dev nD) : sProp 𝕄 :=
  iprop((bigSep Finset.univ fun k : Fin 8 => bigSep Finset.univ fun j : Fin 8 => openTok (ER (F := F)) (cellAt c j k))
    ∗ (bigSep Finset.univ fun k : Fin 8 => bigSep Finset.univ fun j : Fin 4 => dt (F := F) c (ev j) k)
    ∗ (bigSep Finset.univ fun k : Fin 8 => toks (F := F) c k)
    ∗ atPos (ER (F := F)) (barCell c) 0 ∅ 0
    ∗ (dutyTok (ER (F := F)) (barCell (px c)) 0 0 ∗ dutyTok (ER (F := F)) (barCell (py c)) 0 1 ∗ dutyTok (ER (F := F)) (barCell (pz c)) 0 2))
/-- What each device starts with that is not the protocol's. -/
def bundle (c : Dev nD) : sProp 𝕄 :=
  iprop(StableHlo.held (c : Thread nD τ) (Pipeline.ucRefs τ sig) (V0 m c)
    ∗ (cred (tallyAt (barCell c) () 3) ∗ (bigSep Finset.univ fun k : Fin 8 => bigSep Finset.univ fun j : Fin 4 => cred (tallyAt (cellAt c (od j) k) () N)))
    ∗ owes (c : Thread nD τ) (Owe c) ∅ ∗ ∃ r, prngReg c r)

abbrev T₀ (c : Dev nD) : sProp 𝕄 := iprop(StableHlo.held (c : Thread nD τ) (Pipeline.ucRefs τ sig) (V0 m c) ∗ Rides m 0 c)
abbrev Tₙ (c : Dev nD) : sProp 𝕄 := iprop(StableHlo.held (c : Thread nD τ) (Pipeline.ucRefs τ sig) (VE m c) ∗ semVal (barCell c) 0)

theorem reached_at (c : Dev nD) : (bigSep Finset.univ fun c : Dev nD => (reached (ER (F := F)) (barCell c) 0 : sProp 𝕄)) ⊢ reached (ER (F := F)) (barCell c) 0 :=
  bigSep_elim (Finset.mem_univ c)

theorem T₀_intro (κ : GSem nD τ sig → ℕ) (c : Dev nD) : iprop(records m κ ∗ (dealt (F := F) c ∗ bundle m c)) ⊢ T₀ m c := by
  unfold records dealt bundle T₀ Rides Ride Tk Ring owesE
  iintro ⟨⟨#HP, #HR⟩, ⟨Ho, Hd, Ht, Ha, Hx, Hy, Hz⟩, Hh, ⟨H3, Hc⟩, HO, Hp⟩
  isplitl [Hh]; · iexact Hh
  isplitr [HO Hp]
  · iexists κ
    isplitr; · iexact HP
    isplitl [Ho]; · iexact Ho
    isplitl [Hd]; · iexact Hd
    isplitl [Hc]; · iexact Hc
    isplitl [Ht]; · iexact Ht
    isplitl [Ha H3]; · isplitl [Ha] <;> iassumption
    isplitl [Hx]
    · isplitl [Hx]; · iexact Hx
      iapply (reached_at (F := F) (px c)); iexact HR
    isplitl [Hy]
    · isplitl [Hy]; · iexact Hy
      iapply (reached_at (F := F) (py c)); iexact HR
    isplitl [Hz]; · iexact Hz
    iapply (reached_at (F := F) (pz c)); iexact HR
  isplitl [Hp]; · iexact Hp
  iexists ∅; iexact HO

theorem sems_bar (c : Dev nD) : (unscopedSems0 (Ix := Unit) (Val := Elt F) (Name := ℕ) (U := UU) (Lvl := ℕ) (τ := τ) (sig := sig) c : sProp 𝕄) = semVal (barCell c) 0 := by
  unfold unscopedSems0; rw [show (Finset.univ.filter fun sm : SemLoc sig => ¬ sm.isScoped .tc) = {SemLoc.reg barS} from by decide +kernel, BI.bigSep_singleton]

/-- The launch's one step: every cell's invariant made, and everything dealt. -/
theorem init :
    iprop((bigSep Finset.univ fun c : Dev nD => iprop(unscopedBufs c (fun b => m ((c : Thread nD τ).loc b)) ∗ unscopedSems0 c
          ∗ owes (c : Thread nD τ) (Owe c) ∅ ∗ Pipeline.launchCred Owe c ∗ prngReg c (ρ c) ∗ G0 (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Owe c) ∅ ∗ Pipeline.launchCred Owe c ∗ prngReg c (ρ c) ∗ G0 (F := F) c)
      ⊢ (iprop(bundle m c ∗ (semVal (barCell c) 0 ∗ G0 (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      sems_bar]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos (ER (F := F)) g 0 ∅ 0 : sProp 𝕄)) ⊢ bigSep Finset.univ (fun c : Dev nD => (atPos (ER (F := F)) (barCell c) 0 ∅ 0 : sProp 𝕄)) :=
    Entails.of_eq (bigSep_map (s := Finset.univ) barEmb (Φ := fun g : GSem nD τ sig => (atPos (ER (F := F)) g 0 ∅ 0 : sProp 𝕄)))
  have hrc : bigSep barCells (fun g => (reached (ER (F := F)) g 0 : sProp 𝕄)) ⊢ bigSep Finset.univ (fun c : Dev nD => (reached (ER (F := F)) (barCell c) 0 : sProp 𝕄)) :=
    Entails.of_eq (bigSep_map (s := Finset.univ) barEmb (Φ := fun g : GSem nD τ sig => (reached (ER (F := F)) g 0 : sProp 𝕄)))
  have hop : bigSep scCells (fun g => (openTok (ER (F := F)) g : sProp 𝕄))
      ⊢ bigSep Finset.univ (fun c : Dev nD => bigSep Finset.univ fun k : Fin 8 => bigSep Finset.univ fun j : Fin 8 => (openTok (ER (F := F)) (cellAt c j k) : sProp 𝕄)) :=
    Entails.of_eq (by
      rw [bigSep_map, bigSep_univ_prod]
      refine bigSep_congr fun c _ => ?_
      rw [bigSep_univ_prod, BI.bigSep_univ_comm]
      rfl)
  have hiv (κ : GSem nD τ sig → ℕ) : iprop((bigSep (barCells ∪ scCells) fun g => (cellInv (ER (F := F)) (sched (idsOf m) (EwOf m)) (κ g) g : sProp 𝕄)) ∗ levAts L lv)
      ⊢ Pers (idsOf m) (EwOf m) κ := by
    rw [show (bigSep (barCells ∪ scCells) fun g => (cellInv (ER (F := F)) (sched (idsOf m) (EwOf m)) (κ g) g : sProp 𝕄))
      = iprop((bigSep barCells fun g => cellInv (ER (F := F)) (sched (idsOf m) (EwOf m)) (κ g) g) ∗ bigSep scCells fun g => cellInv (ER (F := F)) (sched (idsOf m) (EwOf m)) (κ g) g)
      from bigSep_union disjoint_cells]
    unfold Pers
    iintro ⟨⟨Hb, Hs⟩, Hl⟩
    isplitl [Hb]
    · iapply (Entails.of_eq (bigSep_map (s := Finset.univ) barEmb (Φ := fun g : GSem nD τ sig => (cellInv (ER (F := F)) (sched (idsOf m) (EwOf m)) (κ g) g : sProp 𝕄)))) $$ Hb
    isplitl [Hs]
    · iapply (Entails.of_eq (bigSep_map (s := Finset.univ) scEmb (Φ := fun g : GSem nD τ sig => (cellInv (ER (F := F)) (sched (idsOf m) (EwOf m)) (κ g) g : sProp 𝕄)))) $$ Hs
    iexact Hl
  iintro ⟨H, #Hlev⟩
  ihave H' := (show (bigSep Finset.univ fun c : Dev nD => iprop(unscopedBufs c (fun b => m ((c : Thread nD τ).loc b)) ∗ unscopedSems0 c
          ∗ owes (c : Thread nD τ) (Owe c) ∅ ∗ Pipeline.launchCred Owe c ∗ prngReg c (ρ c) ∗ G0 (F := F) c))
      ⊢ (bigSep Finset.univ fun c : Dev nD => iprop(bundle m c ∗ (semVal (barCell c) 0 ∗ G0 (F := F) c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G0 (F := F)) ⊢ BI.own (ER (F := F) (launchOf barCells scCells allToks)) from
    Entails.of_eq (bigSep_onZero (F := F) (BI.own (ER (F := F) (launchOf barCells scCells allToks))))) $$ HG
  imod (Rounds.fund_launch (ER (F := F)) (sched (idsOf m) (EwOf m)) disjoint_cells (fun g _ h => h) allToks) $$ [Hv Hu] with ⟨%κ, -, #Hinv, #Hr, Hat, Hopen, Htok⟩
  · isplitl [Hv]
    · iapply hv $$ Hv
    · iexact Hu
  imodintro
  ihave Htok := (Entails.of_eq (toks_split (F := F))) $$ Htok
  icases Htok with ⟨Hbt, Hct⟩
  ihave Hct := (toks_dealt (F := F)) $$ Hct
  icases Hct with ⟨Hev, Hto⟩
  iapply (bigSep_with_persistent (R := records m κ) (Φ := fun c => iprop(dealt (F := F) c ∗ bundle m c)) fun c _ => T₀_intro m κ c)
  isplitr
  · unfold records
    isplitr
    · iapply (hiv κ)
      isplitr; · iexact Hinv
      iexact Hlev
    iapply hrc; iexact Hr
  iapply bigSep_pair
  isplitr [HB]
  · unfold dealt
    iapply bigSep_pair; isplitl [Hopen]; · iapply hop $$ Hopen
    iapply bigSep_pair; isplitl [Hev]; · iexact Hev
    iapply bigSep_pair; isplitl [Hto]; · iexact Hto
    iapply bigSep_pair; isplitl [Hat]; · iapply hat $$ Hat
    iapply (bar_dealt (F := F)) $$ Hbt
  · iexact HB

/-! ## Between the segments -/

theorem arr_sub : Pipeline.arrRefs (τ := τ) spec0 ⊆ Pipeline.ucRefs τ sig := by decide

theorem reg_pre (c : Dev nD) : iprop(StableHlo.held (c : Thread nD τ) (Pipeline.ucRefs τ sig) (V1 m c) ∗ Rides m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + Owe c) Wd)
  rw [zero_add, StableHlo.held_sub_split (c.tc : Thread nD τ) arr_sub (V1 m c)]
  unfold Rides Ride owesE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (VE m c) ∗ (∃ r, prngReg c r)
    ∗ (StableHlo.held (c.tc : Thread nD τ) Sr (VE m c) ∗ emp) ∗ Yk c ∗ ∃ Wd, owes (c : Thread nD τ) (0 : CellTallies nD τ sig Unit) Wd) ⊢ _
  unfold Tₙ Yk
  rw [StableHlo.held_sub_split (c.tc : Thread nD τ) arr_sub (VE m c)]
  iintro ⟨Ha, -, ⟨Hr, -⟩, Hb, HO⟩
  isplitr [HO]
  · isplitr [Hb]
    · isplitl [Ha]; · iexact Ha
      iexact Hr
    iexact Hb
  iexact HO

theorem unscoped_eq : ∀ sm : SemLoc sig, sm.isScoped .tc = false → sm = .reg barS := by decide +kernel

theorem VE_arg0 (c : Dev nD) : VE m c (Proc.devRef .tc main_arg0) = m ((c.tc : Thread nD τ).loc main_arg0) :=
  (VE_of m c _ (by decide)).trans ((V1_of m c main_arg0 (by decide)).trans rfl)
theorem VE_arg1 (c : Dev nD) : VE m c (Proc.devRef .tc main_arg1) = m ((c.tc : Thread nD τ).loc main_arg1) :=
  (VE_of m c _ (by decide)).trans ((V1_of m c main_arg1 (by decide)).trans rfl)

set_option backward.isDefEq.respectTransparency.types false in
/-- The run: from any memory with zero counters every weakly fair execution of the program terminates, and at its end each device's
    arguments are as they were, its result holds `Out`, and every counter of the machine is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v8) = Out (idsOf m) (EwOf m) c) ∧ r.2.sem = fun _ => 0) := by
  refine Pipeline.θ_run_regions_kit_dev_sems (pcfgs (F := F)) adm (pdats m) () cellOf_inj EP defs₀ 𝒱₀ L lv m ρ main
    (segs m 𝒱₀ L lv (Rides m) () (pdats m) (reg0 m))
    (fun c Q => by
      rewrite [main_chain c, Seg.run_eq_chain,
        show (segs m 𝒱₀ L lv (Rides m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) Owe L_of_ne (G0 (F := F)) (u₀ (F := F))
    (by
      unfold u₀ G0
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := fun c => ⟨.rfl, reg_pre m c, reg_post m c⟩)
    (hinit := init m ρ) (QY := fun c s => (s.mem ((c.tc : Thread nD τ).loc main_arg0) = m ((c.tc : Thread nD τ).loc main_arg0)
      ∧ s.mem ((c.tc : Thread nD τ).loc main_arg1) = m ((c.tc : Thread nD τ).loc main_arg1) ∧ s.mem ((c.tc : Thread nD τ).loc main_v8) = Out (idsOf m) (EwOf m) c)
      ∧ s.sem (barCell c) = 0)
    (hfin := fun c s' => ?_) (hQ := fun s h hs => ⟨fun c => (h c).1, sem_eq_zero hs fun c sm hsm => by
        obtain rfl := unscoped_eq sm hsm
        exact (h c).2⟩)
  dsimp only [Tₙ]; unfold StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (VE_arg0 m c),
      (h (Proc.devRef .tc main_arg1) (Finset.mem_filter.mpr ⟨StableHlo.devRef_mem_tcRefs main_arg1, by decide⟩)).trans (VE_arg1 m c),
      (h (Proc.devRef .tc main_v8) (Finset.mem_filter.mpr ⟨StableHlo.devRef_mem_tcRefs main_v8, by decide⟩)).trans (VE_out m c)⟩, by simpa using hb⟩
  iexact HSI

end

end Cert.Emb
-- ==== Proof.Same.lean ====
/-
# Same: the kernel as printed and its ideal reading are the same program

The kernel casts nothing at the host and rewrites nothing, so the two programs agree term by term: here part by part,
then as wholes, at any float values.
-/
module

public import proofs.«01_k».proof.Proof.Gen.Kernel
public import proofs.«01_k».proof.Proof.Gen.KernelIdeal

@[expose] public section

namespace Cert.Same

open Idealize.ShloMosaic

attribute [local instance] Cert.Kernel.Gen.facts Cert.KernelIdeal.Gen.facts

variable {F : FTy → Type} [FloatOps F]

set_option maxHeartbeats 4000000

/-! ## The parts of the kernel's body, the same in both programs -/

theorem part1 : Cert.Kernel.k0_part1 (F := F) = Cert.KernelIdeal.k0_part1 (F := F) := rfl
theorem part2 : Cert.Kernel.k0_part2 (F := F) = Cert.KernelIdeal.k0_part2 (F := F) := rfl
theorem part3 : Cert.Kernel.k0_part3 (F := F) = Cert.KernelIdeal.k0_part3 (F := F) := rfl
theorem part4 : Cert.Kernel.k0_part4 (F := F) = Cert.KernelIdeal.k0_part4 (F := F) := rfl
theorem part5 : Cert.Kernel.k0_part5 (F := F) = Cert.KernelIdeal.k0_part5 (F := F) := rfl
theorem part6 : Cert.Kernel.k0_part6 (F := F) = Cert.KernelIdeal.k0_part6 (F := F) := rfl
theorem part7 : Cert.Kernel.k0_part7 (F := F) = Cert.KernelIdeal.k0_part7 (F := F) := rfl
theorem part8 : Cert.Kernel.k0_part8 (F := F) = Cert.KernelIdeal.k0_part8 (F := F) := rfl
theorem part9 : Cert.Kernel.k0_part9 (F := F) = Cert.KernelIdeal.k0_part9 (F := F) := rfl
theorem part10 : Cert.Kernel.k0_part10 (F := F) = Cert.KernelIdeal.k0_part10 (F := F) := rfl
theorem part11 : Cert.Kernel.k0_part11 (F := F) = Cert.KernelIdeal.k0_part11 (F := F) := rfl
theorem part12 : Cert.Kernel.k0_part12 (F := F) = Cert.KernelIdeal.k0_part12 (F := F) := rfl
theorem part13 : Cert.Kernel.k0_part13 (F := F) = Cert.KernelIdeal.k0_part13 (F := F) := rfl
theorem part14 : Cert.Kernel.k0_part14 (F := F) = Cert.KernelIdeal.k0_part14 (F := F) := rfl
theorem part15 : Cert.Kernel.k0_part15 (F := F) = Cert.KernelIdeal.k0_part15 (F := F) := rfl
theorem part16 : Cert.Kernel.k0_part16 (F := F) = Cert.KernelIdeal.k0_part16 (F := F) := rfl
theorem part17 : Cert.Kernel.k0_part17 (F := F) = Cert.KernelIdeal.k0_part17 (F := F) := rfl
theorem part18 : Cert.Kernel.k0_part18 (F := F) = Cert.KernelIdeal.k0_part18 (F := F) := rfl
theorem part19 : Cert.Kernel.k0_part19 (F := F) = Cert.KernelIdeal.k0_part19 (F := F) := rfl
theorem part20 : Cert.Kernel.k0_part20 (F := F) = Cert.KernelIdeal.k0_part20 (F := F) := rfl
theorem part21 : Cert.Kernel.k0_part21 (F := F) = Cert.KernelIdeal.k0_part21 (F := F) := rfl
theorem part22 : Cert.Kernel.k0_part22 (F := F) = Cert.KernelIdeal.k0_part22 (F := F) := rfl
theorem part23 : Cert.Kernel.k0_part23 (F := F) = Cert.KernelIdeal.k0_part23 (F := F) := rfl
theorem part24 : Cert.Kernel.k0_part24 (F := F) = Cert.KernelIdeal.k0_part24 (F := F) := rfl
theorem part25 : Cert.Kernel.k0_part25 (F := F) = Cert.KernelIdeal.k0_part25 (F := F) := rfl
theorem part26 : Cert.Kernel.k0_part26 (F := F) = Cert.KernelIdeal.k0_part26 (F := F) := rfl
theorem part27 : Cert.Kernel.k0_part27 (F := F) = Cert.KernelIdeal.k0_part27 (F := F) := rfl
theorem part28 : Cert.Kernel.k0_part28 (F := F) = Cert.KernelIdeal.k0_part28 (F := F) := rfl
theorem part29 : Cert.Kernel.k0_part29 (F := F) = Cert.KernelIdeal.k0_part29 (F := F) := rfl
theorem part30 : Cert.Kernel.k0_part30 (F := F) = Cert.KernelIdeal.k0_part30 (F := F) := rfl
theorem part31 : Cert.Kernel.k0_part31 (F := F) = Cert.KernelIdeal.k0_part31 (F := F) := rfl
theorem part32 : Cert.Kernel.k0_part32 (F := F) = Cert.KernelIdeal.k0_part32 (F := F) := rfl
theorem part33 : Cert.Kernel.k0_part33 (F := F) = Cert.KernelIdeal.k0_part33 (F := F) := rfl
theorem part34 : Cert.Kernel.k0_part34 (F := F) = Cert.KernelIdeal.k0_part34 (F := F) := rfl
theorem part35 : Cert.Kernel.k0_part35 (F := F) = Cert.KernelIdeal.k0_part35 (F := F) := rfl
theorem part36 : Cert.Kernel.k0_part36 (F := F) = Cert.KernelIdeal.k0_part36 (F := F) := rfl
theorem part37 : Cert.Kernel.k0_part37 (F := F) = Cert.KernelIdeal.k0_part37 (F := F) := rfl
theorem part38 : Cert.Kernel.k0_part38 (F := F) = Cert.KernelIdeal.k0_part38 (F := F) := rfl
theorem part39 : Cert.Kernel.k0_part39 (F := F) = Cert.KernelIdeal.k0_part39 (F := F) := rfl
theorem part40 : Cert.Kernel.k0_part40 (F := F) = Cert.KernelIdeal.k0_part40 (F := F) := rfl
theorem part41 : Cert.Kernel.k0_part41 (F := F) = Cert.KernelIdeal.k0_part41 (F := F) := rfl
theorem part42 : Cert.Kernel.k0_part42 (F := F) = Cert.KernelIdeal.k0_part42 (F := F) := rfl
theorem part43 : Cert.Kernel.k0_part43 (F := F) = Cert.KernelIdeal.k0_part43 (F := F) := rfl
theorem part44 : Cert.Kernel.k0_part44 (F := F) = Cert.KernelIdeal.k0_part44 (F := F) := rfl
theorem part45 : Cert.Kernel.k0_part45 (F := F) = Cert.KernelIdeal.k0_part45 (F := F) := rfl
theorem part46 : Cert.Kernel.k0_part46 (F := F) = Cert.KernelIdeal.k0_part46 (F := F) := rfl
theorem part47 : Cert.Kernel.k0_part47 (F := F) = Cert.KernelIdeal.k0_part47 (F := F) := rfl
theorem part48 : Cert.Kernel.k0_part48 (F := F) = Cert.KernelIdeal.k0_part48 (F := F) := rfl
theorem part49 : Cert.Kernel.k0_part49 (F := F) = Cert.KernelIdeal.k0_part49 (F := F) := rfl

/-- The bodies are the same. -/
theorem body : Cert.Kernel.cc0_body (F := F) = Cert.KernelIdeal.cc0_body (F := F) := rfl
/-- The programs' host parts are the same. -/
theorem main : Cert.Kernel.main (F := F) = Cert.KernelIdeal.main (F := F) := rfl
/-- The tables of bodies are the same. -/
theorem defs₀ : Cert.Kernel.defs₀ (F := F) = Cert.KernelIdeal.defs₀ (F := F) := by
  refine congrArg Defs.onTc ?_
  funext l x
  match l, x with
  | 0, (t, s) => rfl
/-- The pipelines are the same. -/
theorem pcfgs : Cert.Kernel.pcfgs (F := F) = Cert.KernelIdeal.pcfgs (F := F) := rfl
/-- And so are the tables with the regions. -/
theorem defs : Cert.Kernel.defs (F := F) = Cert.KernelIdeal.defs (F := F) :=
  congrArg (Pipeline.defs (Cert.KernelIdeal.pcfgs (F := F))) (defs₀ (F := F))

end Cert.Same

end
-- ==== Proof.Values.lean ====
/-
# Values: the kernel's result is the rows of the whole table that the ids name

At the extended reals rounding changes nothing, so a device's part sum is its half's rows where the id is in its half and
zero elsewhere. Of the two devices that look the same quarter up exactly one has the row, and the sum of the two is the row.
-/
module

public import proofs.«01_k».proof.Proof.Region
public import proofs.«01_k».proof.Proof.Gen.ReferenceIdeal
public import proofs.«01_k».proof.Proof.Gen.Pre_in_range_KernelIdeal
public import Idealize.ShloMosaic.Lib.ReduceAll
public import Idealize.ShloMosaic.Lib.IdealHost
public import Idealize.ShloMosaic.Lib.Layout

@[expose] public section

noncomputable section

namespace Cert.Emb

open Cert.KernelIdeal Cert.KernelIdeal.Gen
open Idealize.ShloMosaic
open Idealize.ShloMosaic.TcCoe

/-! ## Words -/

/-- A word below 32768, counted from the start of half `x` of the table, is in the half exactly when its half is `x`. -/
theorem hit_iff (w : BitVec 32) (x : ℕ) (hw : w.toNat < 32768) (hx : x < 2) :
    Hit (w - BitVec.ofNat 32 (16384 * x)) ↔ w.toNat / 16384 = x := by
  have hb : ∀ b : BitVec 1, IntOp.cmpi .ne (b.setWidth 32) 0#32 = b := by decide
  have hv : (w - BitVec.ofNat 32 (16384 * x)).toInt = (w.toNat : ℤ) - 16384 * x := by
    rw [BitVec.toInt_eq_toNat_cond, BitVec.toNat_sub, BitVec.toNat_ofNat]
    split <;> omega
  show IntOp.cmpi .ne ((IntOp.andi (IntOp.cmpi .sge (w - BitVec.ofNat 32 (16384 * x)) 0#32)
    (IntOp.cmpi .slt (w - BitVec.ofNat 32 (16384 * x)) 16384#32)).setWidth 32) 0#32 = 1#1 ↔ _
  rw [hb, IntOp.andi_eq_one, IntOp.cmpi_sge, IntOp.cmpi_slt, hv, show (0#32 : BitVec 32).toInt = 0 from by decide,
    show (16384#32 : BitVec 32).toInt = 16384 from by decide]
  omega

/-- Its row in the half is then its distance from the half's start. -/
theorem row_eq (w : BitVec 32) (x : ℕ) (hw : w.toNat < 32768) (hx : w.toNat / 16384 = x) :
    rowOf (w - BitVec.ofNat 32 (16384 * x)) = w.toNat - 16384 * x := by
  have hn : (w - BitVec.ofNat 32 (16384 * x)).toNat = w.toNat - 16384 * x := by
    rw [BitVec.toNat_sub, BitVec.toNat_ofNat]; omega
  have hi : (w - BitVec.ofNat 32 (16384 * x)).toInt = (w.toNat : ℤ) - 16384 * x := by
    rw [BitVec.toInt_eq_toNat_cond, hn]; split <;> omega
  rw [← hn]
  show (IntOp.minsi 16383#32 (IntOp.maxsi 0#32 (w - BitVec.ofNat 32 (16384 * x)))).toNat = _
  have hmax : IntOp.maxsi 0#32 (w - BitVec.ofNat 32 (16384 * x)) = w - BitVec.ofNat 32 (16384 * x) := by
    unfold IntOp.maxsi
    rw [if_neg]
    rw [BitVec.slt_iff_toInt_lt, hi, show (0#32 : BitVec 32).toInt = 0 from by decide]; omega
  rw [hmax]; unfold IntOp.minsi
  rw [if_neg]
  rw [BitVec.slt_iff_toInt_lt, hi, show (16383#32 : BitVec 32).toInt = 16383 from by decide]; omega

/-! ## What the host hands the kernel -/

section Host
variable (m : (ℓ : Loc nD τ sig) → Buf (Elt Ideal) ℓ)

/-- The start of a device's half of the table, as the host computes it. -/
theorem base_eq : ∀ c : Dev nD, IntOp.muli (IntOp.remui .host (IntOp.divui .host (Dev.word c) 4#32) 2#32) 16384#32 = BitVec.ofNat 32 (16384 * (c.val / 4)) := by
  decide +kernel

/-- The ids a device's kernel reads: the argument's, from the start of the device's half. -/
theorem ids_eq (c : Dev nD) (j : S2048.Idx) :
    idsOf m c j = IntOp.subi ((m ((c.tc : Thread nD τ).loc main_arg0) : IVec S2048 32) j) (BitVec.ofNat 32 (16384 * (c.val / 4))) := by
  rw [← base_eq c]
  have h : V1 m c main_v7 = subi (m ((c.tc : Thread nD τ).loc main_arg0) : IVec S2048 32)
      (broadcastInDim S2048 ![] bcast_S_S2048 (muli (Host.remui (Host.divui (constantI S_ 32 (Dev.word c)) (constantI S_ 32 4#32)) (constantI S_ 32 2#32)) (constantI S_ 32 16384#32))) := by
    after_results <;> rfl
  have hr : idsOf m c = V1 m c main_v7 := by
    funext j
    show V1 m c main_v7 (((cfg0.win 0).blk t0_0).view.emb j) = V1 m c main_v7 j
    congr 1
    funext a
    match a with
    | ⟨0, _⟩ => exact Fin.ext (Pipeline.Window.rect_emb_val_of_index_zero win0_0 t0_0 0 rfl j)
  rw [hr, h]; rfl

/-- The half of the table a device holds: the argument's. -/
theorem half_eq (c : Dev nD) : EwOf m c = m ((c.tc : Thread nD τ).loc main_arg1) := (V1_of m c main_arg1 (by decide)).trans rfl

/-- The zeros the row buffer is filled with. -/
theorem zero_eq (i : S512x1024.Idx) : k0_pay1 (F := Ideal) i = (0 : EReal) := Ideal.ofBits_zero_f32

/-- The precondition, read: every id names a row of the table. -/
theorem in_range (hp : Cert.Pre_in_range_KernelIdeal.fn (F := Ideal) (m (((0 : Dev nD).tc : Thread nD τ).loc main_arg0)) (m (((0 : Dev nD).tc : Thread nD τ).loc main_arg1)) = (fun _ => 1#1))
    (j : S2048.Idx) : ((m (((0 : Dev nD).tc : Thread nD τ).loc main_arg0) : IVec S2048 32) j).toNat < 32768 := by
  have : Subsingleton Cert.Pre_in_range_KernelIdeal.S_.Idx := ⟨fun a b => funext fun x => x.elim0⟩
  have h := Host.reduce_andi_all _ _ _ _ (fun a => a.elim0) (congrFun hp fun a => a.elim0) j
  obtain ⟨h0, h1⟩ := IntOp.andi_eq_one.1 h
  have h0 := IntOp.cmpi_sge.1 h0
  have h1 := IntOp.cmpi_slt.1 h1
  rw [show (broadcastInDim Cert.Pre_in_range_KernelIdeal.S2048 ![] Cert.Pre_in_range_KernelIdeal.Facts.bcast_S_S2048 (constantI Cert.Pre_in_range_KernelIdeal.S_ 32 0#32) j).toInt = 0 from rfl] at h0
  rw [show (broadcastInDim Cert.Pre_in_range_KernelIdeal.S2048 ![] Cert.Pre_in_range_KernelIdeal.Facts.bcast_S_S2048 (constantI Cert.Pre_in_range_KernelIdeal.S_ 32 32768#32) j).toInt = (32768#32 : BitVec 32).toInt from rfl, show (32768#32 : BitVec 32).toInt = 32768 from by decide] at h1
  rw [BitVec.toInt_eq_toNat_cond] at h0 h1
  split at h1 <;> omega

end Host

/-! ## The sum of the two halves' rows -/

/-- The element of the whole table at a row and a column. -/
abbrev tix (r : ℕ) (hr : r < 32768) (j : Fin 1024) : (⟨2, ![32768, 1024]⟩ : Shape).Idx :=
  fun a => match a with | ⟨0, _⟩ => ⟨r, hr⟩ | ⟨1, _⟩ => j

/-- The place of an id among the 2048. -/
abbrev aix (n : ℕ) (hn : n < 2048) : S2048.Idx := fun a => match a with | ⟨0, _⟩ => ⟨n, hn⟩

/-- Every axis of the mesh that the table is cut along has devices on it. -/
theorem cuts_pos : ∀ b : Fin 2, ∀ i ∈ (![[0], []] : Fin 2 → List ℕ) b, 0 < ([2, 2, 2] : List ℕ).getD i 0 := by decide

/-- The two halves tile the table. -/
theorem halves_tile : Layout.TilesN ⟨2, ![16384, 1024]⟩ ⟨2, ![32768, 1024]⟩ fun b => Layout.cutSize [2, 2, 2] ((![[0], []] : Fin 2 → List ℕ) b) := by decide

section Sum
variable (m : (ℓ : Loc nD τ sig) → Buf (Elt Ideal) ℓ) (A : IVec S2048 32) (E : FVec Ideal ⟨2, ![32768, 1024]⟩ .f32)
  (hA : ∀ j, (A j).toNat < 32768) (h0 : ∀ c : Dev nD, m ((c.tc : Thread nD τ).loc main_arg0) = A)
  (h1 : ∀ c : Dev nD, m ((c.tc : Thread nD τ).loc main_arg1) = Layout.blockN ⟨2, ![16384, 1024]⟩ ⟨2, ![32768, 1024]⟩ (Layout.meshBlock [2, 2, 2] ![[0], []] c cuts_pos) E halves_tile)

include hA h0 h1 in
/-- A device's row buffer: the row of the whole table where the id's half is the device's, zero elsewhere. -/
theorem G_eq (d : Dev nD) (i : S512x1024.Idx) :
    G (idsOf m) (EwOf m) d i = if (A (idIx d (i 0))).toNat / 16384 = d.val / 4 then E (tix (A (idIx d (i 0))).toNat (hA _) (i 1)) else (0 : EReal) := by
  have hd : d.val / 4 < 2 := by have := d.isLt; have h : nD = 8 := rfl; omega
  have hw : word (idsOf m) d (i 0) = A (idIx d (i 0)) - BitVec.ofNat 32 (16384 * (d.val / 4)) := by
    unfold word; rw [ids_eq, h0]; rfl
  unfold G
  rw [hw, zero_eq]
  by_cases h : (A (idIx d (i 0))).toNat / 16384 = d.val / 4
  · rw [if_pos ((hit_iff _ _ (hA _) hd).2 h), if_pos h]
    unfold eAt
    rw [half_eq, h1]
    show E _ = E _
    congr 1
    funext a
    have hcut : ∀ d : Dev nD, Layout.meshLin [2, 2, 2] d.val [0] = d.val / 4 := by decide
    match a with
    | ⟨0, _⟩ =>
      refine Fin.ext ?_
      show Layout.meshLin [2, 2, 2] d.val [0] * 16384 + rowOf _ = _
      rw [hcut, row_eq _ _ (hA _) h]
      show _ = (A (idIx d (i 0))).toNat
      omega
    | ⟨1, _⟩ =>
      refine Fin.ext ?_
      show 0 * 1024 + (i 1).val = (i 1).val
      omega
  · rw [if_neg (fun hh => h ((hit_iff _ _ (hA _) hd).1 hh)), if_neg h]

include hA h0 h1 in
/-- A device's row and its partner's along `x`, added, are the row of the whole table that the id names. -/
theorem sum_eq (d : Dev nD) (i : S512x1024.Idx) :
    @HAdd.hAdd EReal EReal EReal _ (G (idsOf m) (EwOf m) d i) (G (idsOf m) (EwOf m) (px d) i) = E (tix (A (idIx d (i 0))).toNat (hA _) (i 1)) := by
  have hx : ∀ d : Dev nD, (px d).val / 4 = 1 - d.val / 4 := by decide
  have hy : ∀ d : Dev nD, (px d).val % 4 = d.val % 4 := by decide
  have hi : idIx (px d) (i 0) = idIx d (i 0) := by unfold idIx; simp only [hy]
  have hd : d.val / 4 < 2 := by have := d.isLt; have h : nD = 8 := rfl; omega
  have hw := hA (idIx d (i 0))
  rw [G_eq m A E hA h0 h1, G_eq m A E hA h0 h1, hi, hx]
  generalize hz : E (tix (A (idIx d (i 0))).toNat (hA _) (i 1)) = z
  by_cases h : (A (idIx d (i 0))).toNat / 16384 = d.val / 4
  · rw [if_pos h, if_neg (by omega)]; exact add_zero (M := EReal) z
  · rw [if_neg h, if_pos (by omega)]; exact zero_add (M := EReal) z

/-- The sum of the two halves' rows, at a place. -/
theorem Cb_sum (ids : Dev nD → (cc0_stg0_0 : Ref sig .tc).ty.Contents (Elt Ideal)) (Ew : Dev nD → (main_arg1 : Ref sig .tc).ty.Contents (Elt Ideal))
    (d : Dev nD) (i : S512x1024.Idx) : @Eq EReal (Cb ids Ew d i) (@HAdd.hAdd EReal EReal EReal _ (G ids Ew d i) (G ids Ew (px d) i)) := rfl

/-- The result, at a place: the sum of the device that looks the place's quarter up. -/
theorem Out_at (ids : Dev nD → (cc0_stg0_0 : Ref sig .tc).ty.Contents (Elt Ideal)) (Ew : Dev nD → (main_arg1 : Ref sig .tc).ty.Contents (Elt Ideal))
    (c : Dev nD) (i : S2048x1024.Idx) : ∃ (d : Dev nD) (k : S512x1024.Idx), d.val % 4 = (i 0).val / 512 ∧ (k 0).val = (i 0).val % 512 ∧ k 1 = i 1
      ∧ @Eq EReal (Out ids Ew c i) (Cb ids Ew d k) := by
  have hi : (i 0).val < 2048 := (i 0).isLt
  have hc := c.isLt
  have h : nD = 8 := rfl
  refine ⟨⟨4 * (c.val / 4) + (i 0).val / 512, by omega⟩, fun a => match a with | ⟨0, _⟩ => ⟨(i 0).val % 512, Nat.mod_lt _ (by decide)⟩ | ⟨1, _⟩ => i 1, ?_, rfl, rfl, rfl⟩
  show (4 * (c.val / 4) + (i 0).val / 512) % 4 = _
  omega

/-- The id of a row of a quarter is the one of its place. -/
theorem idIx_eq (d : Dev nD) (r : Fin 512) (n : ℕ) (hn : n < 2048) (hd : d.val % 4 = n / 512) (hr : r.val = n % 512) : idIx d r = aix n hn := by
  funext a
  match a with
  | ⟨0, _⟩ =>
    refine Fin.ext ?_
    show 512 * (d.val % 4) + r.val = n
    rw [hd, hr]; omega

include hA h0 h1 in
/-- The kernel's result, on every device: at each place the row of the whole table that the place's id names. -/
theorem out_eq (c : Dev nD) (i : S2048x1024.Idx) :
    @Eq EReal (Out (idsOf m) (EwOf m) c i) (E (tix (A (aix (i 0).val (i 0).isLt)).toNat (hA _) (i 1))) := by
  obtain ⟨d, k, hd, hk0, hk1, e⟩ := Out_at (idsOf m) (EwOf m) c i
  have hq := idIx_eq d (k 0) (i 0).val (i 0).isLt hd hk0
  refine e.trans ((Cb_sum _ _ d k).trans ((sum_eq m A E hA h0 h1 d k).trans (congrArg E ?_)))
  funext a
  match a with
  | ⟨0, _⟩ => exact Fin.ext (congrArg (fun j => (A j).toNat) hq)
  | ⟨1, _⟩ => exact hk1

end Sum

end Cert.Emb

namespace Cert.Emb.Ref

open Cert.ReferenceIdeal Cert.ReferenceIdeal.Gen
open Idealize.ShloMosaic

/-! ## The reference's result -/

/-- The reference's gather, read at a place: the row its index names, kept inside the table. -/
theorem gather_apply {α : Type} (x : S32768x1024.Idx → α) (idx : IVec S2048x1 32) (y : S2048x1024.Idx) :
    Host.gather gather_S32768x1024_S2048x1_S2048x1024_1_0_n_n_0_1_11024 x idx y
      = x (tix (min (idx (fun a => match a with | ⟨0, _⟩ => y 0 | ⟨1, _⟩ => (0 : Fin 1))).toInt.toNat 32767) (by omega) (y 1)) := by
  unfold Host.gather
  congr 1
  funext a
  refine Fin.ext ?_
  match a with
  | ⟨0, _⟩ =>
    show GatherDims.start _ y idx 0 + GatherDims.batchCoord _ y 0 + GatherDims.offCoord _ y 0 = min _ 32767
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32768x1024_S2048x1_S2048x1024_1_0_n_n_0_1_11024.startIndexMap from List.mem_singleton.mpr rfl)]
    have hsi : GatherDims.siIdx gather_S32768x1024_S2048x1_S2048x1024_1_0_n_n_0_1_11024 y ⟨List.idxOf (0 : Fin 2) gather_S32768x1024_S2048x1_S2048x1024_1_0_n_n_0_1_11024.startIndexMap,
        List.idxOf_lt_length_iff.2 (List.mem_singleton.mpr rfl)⟩ = (fun a => match a with | ⟨0, _⟩ => y 0 | ⟨1, _⟩ => (0 : Fin 1) : S2048x1.Idx) := by
      funext b; refine Fin.ext ?_
      match b with
      | ⟨0, _⟩ => rfl
      | ⟨1, _⟩ => rfl
    rw [hsi]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ gather_S32768x1024_S2048x1_S2048x1024_1_0_n_n_0_1_11024.startIndexMap from fun h => absurd (List.mem_singleton.mp h) (by decide)), Nat.zero_add]
    rfl

/-- The reference's index of a place, when the id is a row of the table: the id. -/
theorem index_eq (A : IVec S2048 32) (hA : ∀ j, (A j).toNat < 32768) (y : S2048x1.Idx) :
    broadcastInDim S2048x1 ![0] Facts₀.bcast_S2048_S2048x1_0 (select (cmpi .slt A (broadcastInDim S2048 ![] Facts₀.bcast_S_S2048 (constantI S_ 32 0#32)))
        (addi A (broadcastInDim S2048 ![] Facts₀.bcast_S_S2048 (constantI S_ 32 32768#32))) A) y = A (aix (y 0).val (y 0).isLt) := by
  have key : ∀ j, select (cmpi .slt A (broadcastInDim S2048 ![] Facts₀.bcast_S_S2048 (constantI S_ 32 0#32)))
        (addi A (broadcastInDim S2048 ![] Facts₀.bcast_S_S2048 (constantI S_ 32 32768#32))) A j = A j := fun j => by
    show Scalar.select (IntOp.cmpi .slt (A j) 0#32) _ _ = _
    unfold Scalar.select
    rw [if_neg]
    show ¬ IntOp.cmpi .slt (A j) 0#32 = 1#1
    rw [IntOp.cmpi_slt, BitVec.toInt_eq_toNat_cond, show (0#32 : BitVec 32).toInt = 0 from by decide]
    have := hA j
    split <;> omega
  unfold broadcastInDim
  refine (key _).trans (congrArg A ?_)
  funext a
  match a with
  | ⟨0, _⟩ => rfl

/-- The reference's result at a place: the row of the table that the place's id names. -/
theorem ref_eq (A : IVec S2048 32) (E : FVec Ideal S32768x1024 .f32) (hA : ∀ j, (A j).toNat < 32768) (i : S2048x1024.Idx) :
    (truncf .bf16 (Host.gather gather_S32768x1024_S2048x1_S2048x1024_1_0_n_n_0_1_11024 E
      (broadcastInDim S2048x1 ![0] Facts₀.bcast_S2048_S2048x1_0 (select (cmpi .slt A (broadcastInDim S2048 ![] Facts₀.bcast_S_S2048 (constantI S_ 32 0#32)))
        (addi A (broadcastInDim S2048 ![] Facts₀.bcast_S_S2048 (constantI S_ 32 32768#32))) A))) Facts₀.bitsLt_bf16_f32 : FVec Ideal S2048x1024 .bf16) i
      = E (tix (A (aix (i 0).val (i 0).isLt)).toNat (hA _) (i 1)) := by
  have hw := hA (aix (i 0).val (i 0).isLt)
  have hi : (A (aix (i 0).val (i 0).isLt)).toInt = (A (aix (i 0).val (i 0).isLt)).toNat := by rw [BitVec.toInt_eq_toNat_cond]; split <;> omega
  show Host.gather gather_S32768x1024_S2048x1_S2048x1024_1_0_n_n_0_1_11024 E _ i = _
  rw [gather_apply]
  congr 1
  funext a
  match a with
  | ⟨0, _⟩ =>
    refine Fin.ext ?_
    show min _ 32767 = (A (aix (i 0).val (i 0).isLt)).toNat
    rw [index_eq A hA]
    show min (A (aix (i 0).val (i 0).isLt)).toInt.toNat 32767 = _
    rw [hi]; omega
  | ⟨1, _⟩ => rfl

end Cert.Emb.Ref

end
-- ==== Proof.lean ====
/-
# The proof of the claims

The kernel's run is proved once, over any reading of its floats (`Cert.Emb.run_main`); the frames of the kernel and of its ideal reading are both that
theorem. The reference is host code alone, run by its generated module. The values meet in `Cert.Emb.out_eq`.
-/
module
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Run
public import proofs.«01_k».proof.Proof.Same
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic
open Idealize.ShloMosaic.TcCoe
open Idealize.SL.Sem

/-- The kernel, at its machine floats: it runs, leaves its arguments as they were, and ends quiet. -/
theorem frame_kernel : Cert.quiescent_Kernel (hKernel := Cert.Kernel.Gen.facts) := by
  intro m ρ _
  rw [Cert.Same.defs (F := Bits), Cert.Same.main (F := Bits)]
  exact (θ_run (Cert.KernelIdeal.defs (F := Bits)) _ _).mono (fun _ h => ⟨fun c => ⟨(h.1 c).1, (h.1 c).2.1⟩, h.2⟩)
    (Cert.Emb.run_main (F := Bits) m ρ)

/-- The same of its ideal reading. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.Emb.run_main (F := Ideal) m ρ)

/-- The reference runs, leaves its arguments as they were, and has no semaphore to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

/-- With every id inside the table, the kernel's ideal reading and the reference give the same result, on every device. -/
theorem values : Cert.algebraic_KernelIdeal_ReferenceIdeal_pre_in_range_KernelIdeal (hKernelIdeal := Cert.KernelIdeal.Gen.facts)
    (hReferenceIdeal := Cert.ReferenceIdeal.Gen.facts) (hPre_in_range_KernelIdeal := Cert.Pre_in_range_KernelIdeal.Gen.facts) := by
  intro m g m' g' hp hl
  have hA : ∀ j, ((m' (((0 : Dev Cert.ReferenceIdeal.nD).tc : Thread Cert.ReferenceIdeal.nD Cert.ReferenceIdeal.τ).loc Cert.ReferenceIdeal.main_arg0) :
      IVec Cert.KernelIdeal.S2048 32) j).toNat < 32768 := by
    rw [← (hl 0).1]; exact Cert.Emb.in_range m (hp 0)
  have hr := Cert.ReferenceIdeal.Value.run (F := Ideal) m' g'
  refine ⟨_, (θ_run Cert.KernelIdeal.defs _ _).mono (fun _ h c => ⟨(h.1 c).2.2.trans (funext fun i =>
      (Cert.Emb.out_eq m _ _ hA (fun c => (hl c).1) (fun c => (hl c).2) c i).trans (Cert.Emb.Ref.ref_eq _ _ hA i).symm), (h.1 c).1, (h.1 c).2.1⟩)
    (Cert.Emb.run_main (F := Ideal) m g), (θ_run Cert.ReferenceIdeal.defs _ _).mono (fun _ h => h 0) hr⟩

theorem claim : Cert.Claim :=
  ⟨Cert.Kernel.Gen.facts, Cert.KernelIdeal.Gen.facts, Cert.ReferenceIdeal.Gen.facts, Cert.Pre_in_range_KernelIdeal.Gen.facts, Cert.Pre_in_range_ReferenceIdeal.Gen.facts,
    frame_kernel, frame_ideal, fun m ρ _ => frame_ideal m ρ trivial, frame_reference, fun m ρ _ => frame_reference m ρ trivial, trivial, values⟩

end Cert.Proof

end
